-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "inv_head" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v127_0)) (v1 : (c : Dev Cert.Kernel3Ideal.nD) → Buf (Elt Ideal) ((c.tc : Thread Cert.Kernel3Ideal.nD Cert.Kernel3Ideal.τ).loc Cert.Kernel3Ideal.main_v127_1)) (v2 : (c : Dev Cert.Kernel3Ideal.nD) → Buf (Elt Ideal) ((c.tc : Thread Cert.Kernel3Ideal.nD Cert.Kernel3Ideal.τ).loc Cert.Kernel3Ideal.main_v127_2)) (v3 : (c : Dev Cert.Kernel3Ideal.nD) → Buf (Elt Ideal) ((c.tc : Thread Cert.Kernel3Ideal.nD Cert.Kernel3Ideal.τ).loc Cert.Kernel3Ideal.main_v127_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v127_0) = v0 c
          ∧ r.2.mem ((c.tc : Thread Cert.Kernel3Ideal.nD Cert.Kernel3Ideal.τ).loc Cert.Kernel3Ideal.main_v127_1) = v1 c
          ∧ r.2.mem ((c.tc : Thread Cert.Kernel3Ideal.nD Cert.Kernel3Ideal.τ).loc Cert.Kernel3Ideal.main_v127_2) = v2 c
          ∧ r.2.mem ((c.tc : Thread Cert.Kernel3Ideal.nD Cert.Kernel3Ideal.τ).loc Cert.Kernel3Ideal.main_v127_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v196) = v1 c
          ∧ r.2.mem ((c.tc : Thread Cert.Reference3Ideal.nD Cert.Reference3Ideal.τ).loc Cert.Reference3Ideal.main_v203) = v2 c
          ∧ r.2.mem ((c.tc : Thread Cert.Reference3Ideal.nD Cert.Reference3Ideal.τ).loc Cert.Reference3Ideal.main_v211) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x16384x4x96 : Shape := ⟨4, ![2, 16384, 4, 96]⟩
abbrev S2x16384x4x64 : Shape := ⟨4, ![2, 16384, 4, 64]⟩
abbrev S96 : Shape := ⟨1, ![96]⟩
abbrev S_ : Shape := ⟨0, ![]⟩

class Facts : Prop where
  bcast_S_S2x16384x4x96 : S_.BroadcastsInDim S2x16384x4x96 (![] : Fin 0 → Fin S2x16384x4x96.rank)
  reducesTo_S2x16384x4x96_S_d0_1_2_3 : S2x16384x4x96.ReducesTo [0, 1, 2, 3] S_
  h_S_ : 0 < S_.numel
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S2x16384x4x96 .f32) (main_arg1 : FVec F S2x16384x4x96 .f32) (main_arg2 : FVec F S2x16384x4x64 .f32) (main_arg3 : FVec F S96 .f32) (main_arg4 : FVec F S96 .f32) : IVec S_ 1 :=
  let main_v0 : FVec F S2x16384x4x96 .f32 := Host.absf main_arg0
  let main_cst : FVec F S_ .f32 := constant S_ .f32 0x7F800000#32
  let main_v1 : FVec F S2x16384x4x96 .f32 := broadcastInDim S2x16384x4x96 ![] bcast_S_S2x16384x4x96 main_cst
  let main_v2 : IVec S2x16384x4x96 1 := cmpf .olt main_v0 main_v1
  let main_c : IVec S_ 1 := constantI S_ 1 1#1
  let main_v3 : IVec S_ 1 := (fun x v => Host.reduce IntOp.andi x v reducesTo_S2x16384x4x96_S_d0_1_2_3 h_S_) main_v2 main_c
  let main_v4 : FVec F S2x16384x4x96 .f32 := Host.absf main_arg1
  let main_cst_0 : FVec F S_ .f32 := constant S_ .f32 0x7F800000#32
  let main_v5 : FVec F S2x16384x4x96 .f32 := broadcastInDim S2x16384x4x96 ![] bcast_S_S2x16384x4x96 main_cst_0
  let main_v6 : IVec S2x16384x4x96 1 := cmpf .olt main_v4 main_v5
  let main_c_1 : IVec S_ 1 := constantI S_ 1 1#1
  let main_v7 : IVec S_ 1 := (fun x v => Host.reduce IntOp.andi x v reducesTo_S2x16384x4x96_S_d0_1_2_3 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S2x16384x4x96 : Shape := ⟨4, ![2, 16384, 4, 96]⟩
abbrev S2x16384x4x64 : Shape := ⟨4, ![2, 16384, 4, 64]⟩
abbrev S96 : Shape := ⟨1, ![96]⟩
abbrev S136 : Shape := ⟨1, ![136]⟩
abbrev S_ : Shape := ⟨0, ![]⟩
abbrev S128 : Shape := ⟨1, ![128]⟩
abbrev S1x128 : Shape := ⟨2, ![1, 128]⟩
abbrev S2x16384x4x128 : Shape := ⟨4, ![2, 16384, 4, 128]⟩
abbrev S1x1x1x128 : Shape := ⟨4, ![1, 1, 1, 128]⟩
abbrev S32768x512 : Shape := ⟨2, ![32768, 512]⟩
abbrev S32768x256 : Shape := ⟨2, ![32768, 256]⟩
abbrev S1024x512 : Shape := ⟨2, ![1024, 512]⟩
abbrev S1 : Shape := ⟨1, ![1]⟩
abbrev S1024x256 : Shape := ⟨2, ![1024, 256]⟩
abbrev S4x1024x128 : Shape := ⟨3, ![4, 1024, 128]⟩
abbrev S1024x128 : Shape := ⟨2, ![1024, 128]⟩
abbrev S1024x1024 : Shape := ⟨2, ![1024, 1024]⟩
abbrev S1x1024x128 : Shape := ⟨3, ![1, 1024, 128]⟩
abbrev S512x512 : Shape := ⟨2, ![512, 512]⟩
abbrev S512x128 : Shape := ⟨2, ![512, 128]⟩
abbrev S1x512x128 : Shape := ⟨3, ![1, 512, 128]⟩
abbrev S512x1024 : Shape := ⟨2, ![512, 1024]⟩
abbrev S1024x1 : Shape := ⟨2, ![1024, 1]⟩

abbrev nBuf : Space → Nat
  | .hbm => 56
  | .vmem => 9
  | .smem => 2
  | _ => 0

abbrev bufTy : (tb : Table) → Fin (tcTables nBuf tb) → BufTy
  | .hbm, ⟨0, _⟩ => ⟨S2x16384x4x96, .f32⟩
  | .hbm, ⟨1, _⟩ => ⟨S2x16384x4x96, .f32⟩
  | .hbm, ⟨2, _⟩ => ⟨S2x16384x4x64, .f32⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S96, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x16384x4x96, .f32⟩
  | .hbm, ⟨33, _⟩ => ⟨S2x16384x4x96, .f32⟩
  | .hbm, ⟨34, _⟩ => ⟨S_, .f32⟩
  | .hbm, ⟨35, _⟩ => ⟨S2x16384x4x128, .f32⟩
  | .hbm, ⟨36, _⟩ => ⟨S1x1x1x128, .f32⟩
  | .hbm, ⟨37, _⟩ => ⟨S2x16384x4x128, .f32⟩
  | .hbm, ⟨38, _⟩ => ⟨S2x16384x4x128, .f32⟩
  | .hbm, ⟨39, _⟩ => ⟨S32768x512, .f32⟩
  | .hbm, ⟨40, _⟩ => ⟨S32768x512, .bf16⟩
  | .hbm, ⟨41, _⟩ => ⟨S_, .f32⟩
  | .hbm, ⟨42, _⟩ => ⟨S2x16384x4x128, .f32⟩
  | .hbm, ⟨43, _⟩ => ⟨S1x1x1x128, .f32⟩
  | .hbm, ⟨44, _⟩ => ⟨S2x16384x4x128, .f32⟩
  | .hbm, ⟨45, _⟩ => ⟨S2x16384x4x128, .f32⟩
  | .hbm, ⟨46, _⟩ => ⟨S32768x512, .f32⟩
  | .hbm, ⟨47, _⟩ => ⟨S32768x512, .bf16⟩
  | .hbm, ⟨48, _⟩ => ⟨S_, .f32⟩
  | .hbm, ⟨49, _⟩ => ⟨S2x16384x4x128, .f32⟩
  | .hbm, ⟨50, _⟩ => ⟨S1x1x1x128, .f32⟩
  | .hbm, ⟨51, _⟩ => ⟨S2x16384x4x128, .f32⟩
  | .hbm, ⟨52, _⟩ => ⟨S2x16384x4x128, .f32⟩
  | .hbm, ⟨53, _⟩ => ⟨S32768x512, .f32⟩
  | .hbm, ⟨54, _⟩ => ⟨S32768x512, .bf16⟩
  | .hbm, ⟨55, _⟩ => ⟨S32768x256, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S4x1024x128, .f32⟩
  | .local _ .smem, ⟨0, _⟩ => ⟨S136, .i32⟩
  | .local _ .smem, ⟨1, _⟩ => ⟨S136, .i32⟩
  | _, _ => ⟨S2x16384x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x16384x4x96 : Shape := ⟨4, ![2, 16384, 4, 96]⟩
abbrev S2x16384x4x64 : Shape := ⟨4, ![2, 16384, 4, 64]⟩
abbrev S96 : Shape := ⟨1, ![96]⟩
abbrev S2x4x16384x16384 : Shape := ⟨4, ![2, 4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S32768x256 : Shape := ⟨2, ![32768, 256]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x4x96, .f32⟩
  | .hbm, ⟨1, _⟩ => ⟨S2x16384x4x96, .f32⟩
  | .hbm, ⟨2, _⟩ => ⟨S2x16384x4x64, .f32⟩
  | .hbm, ⟨3, _⟩ => ⟨S96, .f32⟩
  | .hbm, ⟨4, _⟩ => ⟨S96, .f32⟩
  | .hbm, ⟨5, _⟩ => ⟨S2x4x16384x16384, .f32⟩
  | .hbm, ⟨6, _⟩ => ⟨S_, .f32⟩
  | .hbm, ⟨7, _⟩ => ⟨S2x4x16384x16384, .f32⟩
  | .hbm, ⟨8, _⟩ => ⟨S2x4x16384x16384, .f32⟩
  | .hbm, ⟨9, _⟩ => ⟨S16384, .i32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S_, .f32⟩
  | .hbm, ⟨16, _⟩ => ⟨S_, .f32⟩
  | .hbm, ⟨17, _⟩ => ⟨S2x4x16384x16384, .i1⟩
  | .hbm, ⟨18, _⟩ => ⟨S2x4x16384x16384, .f32⟩
  | .hbm, ⟨19, _⟩ => ⟨S2x4x16384x16384, .f32⟩
  | .hbm, ⟨20, _⟩ => ⟨S_, .f32⟩
  | .hbm, ⟨21, _⟩ => ⟨S2x4x16384, .f32⟩
  | .hbm, ⟨22, _⟩ => ⟨S_, .f32⟩
  | .hbm, ⟨23, _⟩ => ⟨S2x4x16384, .f32⟩
  | .hbm, ⟨24, _⟩ => ⟨S2x4x16384, .f32⟩
  | .hbm, ⟨25, _⟩ => ⟨S2x4x16384x1, .f32⟩
  | .hbm, ⟨26, _⟩ => ⟨S2x4x16384x16384, .f32⟩
  | .hbm, ⟨27, _⟩ => ⟨S2x4x16384x16384, .f32⟩
  | .hbm, ⟨28, _⟩ => ⟨S2x4x16384x16384, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x16384, .f32⟩
  | .hbm, ⟨33, _⟩ => ⟨S2x4x16384x16384, .f32⟩
  | .hbm, ⟨34, _⟩ => ⟨S2x4x64x16384, .f32⟩
  | .hbm, ⟨35, _⟩ => ⟨S2x16384x4x64, .f32⟩
  | .hbm, ⟨36, _⟩ => ⟨S32768x256, .f32⟩
  | .hbm, ⟨37, _⟩ => ⟨S32768x256, .bf16⟩
  | _, _ => ⟨S2x16384x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x6144 : Shape := ⟨2, ![2, 6144]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S2x6x1024 : Shape := ⟨3, ![2, 6, 1024]⟩
abbrev S1x1024 : Shape := ⟨2, ![1, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x1024, .f32⟩
  | .hbm, ⟨7, _⟩ => ⟨S2x6x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x16384x1024 : Shape := ⟨3, ![2, 16384, 1024]⟩
abbrev S2x6144 : Shape := ⟨2, ![2, 6144]⟩
abbrev S1024 : Shape := ⟨1, ![1024]⟩
abbrev S1024x2816 : Shape := ⟨2, ![1024, 2816]⟩
abbrev S2816x1024 : Shape := ⟨2, ![2816, 1024]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S_, .f32⟩
  | .hbm, ⟨40, _⟩ => ⟨S2x16384x2816, .f32⟩
  | .hbm, ⟨41, _⟩ => ⟨S2x16384x2816, .f32⟩
  | .hbm, ⟨42, _⟩ => ⟨S_, .f32⟩
  | .hbm, ⟨43, _⟩ => ⟨S2x16384x2816, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S2x16384x2816, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x6144 : Shape := ⟨2, ![2, 6144]⟩
abbrev S1024 : Shape := ⟨1, ![1024]⟩
abbrev S1024x6816 : Shape := ⟨2, ![1024, 6816]⟩
abbrev S2x16384 : Shape := ⟨2, ![2, 16384]⟩
abbrev S256 : Shape := ⟨1, ![256]⟩
abbrev S256x384 : Shape := ⟨2, ![256, 384]⟩
abbrev S128 : Shape := ⟨1, ![128]⟩
abbrev S128x512 : Shape := ⟨2, ![128, 512]⟩
abbrev S96 : Shape := ⟨1, ![96]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S32768x64 : Shape := ⟨2, ![32768, 64]⟩
abbrev S32768x32 : Shape := ⟨2, ![32768, 32]⟩
abbrev S32768x128 : Shape := ⟨2, ![32768, 128]⟩
abbrev S256x4x96 : Shape := ⟨3, ![256, 4, 96]⟩
abbrev S256x4x128 : Shape := ⟨3, ![256, 4, 128]⟩
abbrev S128x4x128 : Shape := ⟨3, ![128, 4, 128]⟩
abbrev S128x4x64 : Shape := ⟨3, ![128, 4, 64]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x256 : Shape := ⟨2, ![1, 256]⟩
abbrev S256x512 : Shape := ⟨2, ![256, 512]⟩
abbrev S256x4x64 : Shape := ⟨3, ![256, 4, 64]⟩
abbrev S256x4x16 : Shape := ⟨3, ![256, 4, 16]⟩
abbrev S256x4x32 : Shape := ⟨3, ![256, 4, 32]⟩
abbrev S1x64 : Shape := ⟨2, ![1, 64]⟩
abbrev S1x32 : Shape := ⟨2, ![1, 32]⟩
abbrev S128x1 : Shape := ⟨2, ![128, 1]⟩
abbrev S128x128 : Shape := ⟨2, ![128, 128]⟩
abbrev S32768x1024 : Shape := ⟨2, ![32768, 1024]⟩
abbrev S2x6x1024 : Shape := ⟨3, ![2, 6, 1024]⟩
abbrev S1x1024 : Shape := ⟨2, ![1, 1024]⟩
abbrev S1x1024x6816 : Shape := ⟨3, ![1, 1024, 6816]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S256x1 : Shape := ⟨2, ![256, 1]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩
abbrev S1024x64 : Shape := ⟨2, ![1024, 64]⟩
abbrev S1x1024x32 : Shape := ⟨3, ![1, 1024, 32]⟩
abbrev S1024x32 : Shape := ⟨2, ![1024, 32]⟩
abbrev S1024x6912 : Shape := ⟨2, ![1024, 6912]⟩
abbrev S32768x6912 : Shape := ⟨2, ![32768, 6912]⟩
abbrev S32768x512 : Shape := ⟨2, ![32768, 512]⟩
abbrev S512x1024 : Shape := ⟨2, ![512, 1024]⟩
abbrev S1x6x1024 : Shape := ⟨3, ![1, 6, 1024]⟩
abbrev S512x128 : Shape := ⟨2, ![512, 128]⟩
abbrev S512x6912 : Shape := ⟨2, ![512, 6912]⟩
abbrev S512x512 : Shape := ⟨2, ![512, 512]⟩
abbrev S1x1x1024 : Shape := ⟨3, ![1, 1, 1024]⟩
abbrev S512x1 : Shape := ⟨2, ![512, 1]⟩
abbrev S1024x768 : Shape := ⟨2, ![1024, 768]⟩
abbrev S512x768 : Shape := ⟨2, ![512, 768]⟩
abbrev S512x256 : Shape := ⟨2, ![512, 256]⟩

abbrev nBuf : Space → Nat
  | .hbm => 173
  | .vmem => 32
  | .smem => 0
  | _ => 0

abbrev hbmTy0_0 (i : Nat) : BufTy := match i % 128 with
  | 0 => ⟨S2x16384x1024, .f32⟩
  | 1 => ⟨S2x6144, .f32⟩
  | 2 => ⟨S1024, .f32⟩
  | 3 => ⟨S1024x6816, .f32⟩
  | 4 => ⟨S2x16384, .i32⟩
  | 5 => ⟨S256, .f32⟩
  | 6 => ⟨S256x384, .f32⟩
  | 7 => ⟨S128, .f32⟩
  | 8 => ⟨S128x512, .f32⟩
  | 9 => ⟨S96, .f32⟩
  | 10 => ⟨S96, .f32⟩
  | 11 => ⟨S256, .i32⟩
  | 12 => ⟨S256, .i1⟩
  | 13 => ⟨S256, .i1⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2x16384, .f32⟩
  | 23 => ⟨S32768x1, .f32⟩
  | 24 => ⟨S1x16, .f32⟩
  | 25 => ⟨S32768x16, .f32⟩
  | 26 => ⟨S32768x16, .f32⟩
  | 27 => ⟨S32768x16, .f32⟩
  | 28 => ⟨S32768x16, .f32⟩
  | 29 => ⟨S32768x16, .f32⟩
  | 30 => ⟨S_, .f32⟩
  | 31 => ⟨S32768x64, .f32⟩
  | 32 => ⟨S_, .f32⟩
  | 33 => ⟨S32768x32, .f32⟩
  | 34 => ⟨S32768x128, .f32⟩
  | 35 => ⟨S_, .f32⟩
  | 36 => ⟨S32768x64, .f32⟩
  | 37 => ⟨S32768x16, .f32⟩
  | 38 => ⟨S_, .f32⟩
  | 39 => ⟨S32768x32, .f32⟩
  | 40 => ⟨S32768x128, .f32⟩
  | 41 => ⟨S256x4x96, .f32⟩
  | 42 => ⟨S_, .i32⟩
  | 43 => ⟨S_, .f32⟩
  | 44 => ⟨S256x4x128, .f32⟩
  | 45 => ⟨S128x4x128, .f32⟩
  | 46 => ⟨S128x4x64, .f32⟩
  | 47 => ⟨S_, .i32⟩
  | 48 => ⟨S_, .f32⟩
  | 49 => ⟨S128x4x128, .f32⟩
  | 50 => ⟨S128x4x64, .f32⟩
  | 51 => ⟨S_, .i32⟩
  | 52 => ⟨S_, .f32⟩
  | 53 => ⟨S128x4x128, .f32⟩
  | 54 => ⟨S_, .i32⟩
  | 55 => ⟨S_, .f32⟩
  | 56 => ⟨S128, .f32⟩
  | 57 => ⟨S1x128, .f32⟩
  | 58 => ⟨S_, .i32⟩
  | 59 => ⟨S_, .f32⟩
  | 60 => ⟨S128, .f32⟩
  | 61 => ⟨S1x128, .f32⟩
  | 62 => ⟨S96, .f32⟩
  | 63 => ⟨S_, .f32⟩
  | 64 => ⟨S_, .f32⟩
  | 65 => ⟨S_, .f32⟩
  | 66 => ⟨S_, .f32⟩
  | 67 => ⟨S96, .f32⟩
  | 68 => ⟨S_, .f32⟩
  | 69 => ⟨S_, .f32⟩
  | 70 => ⟨S_, .f32⟩
  | 71 => ⟨S_, .f32⟩
  | 72 => ⟨S_, .i1⟩
  | 73 => ⟨S128, .i32⟩
  | 74 => ⟨S_, .i32⟩
  | 75 => ⟨S128, .i32⟩
  | 76 => ⟨S128, .i1⟩
  | 77 => ⟨S128, .f32⟩
  | 78 => ⟨S1x128, .f32⟩
  | 79 => ⟨S_, .f32⟩
  | 80 => ⟨S_, .f32⟩
  | 81 => ⟨S_, .f32⟩
  | 82 => ⟨S_, .f32⟩
  | 83 => ⟨S1x128, .f32⟩
  | 84 => ⟨S1x128, .f32⟩
  | 85 => ⟨S_, .i32⟩
  | 86 => ⟨S128, .i32⟩
  | 87 => ⟨S128, .i1⟩
  | 88 => ⟨S128, .f32⟩
  | 89 => ⟨S1x128, .f32⟩
  | 90 => ⟨S4x128, .f32⟩
  | 91 => ⟨S512, .f32⟩
  | 92 => ⟨S1x512, .f32⟩
  | 93 => ⟨S1x256, .f32⟩
  | 94 => ⟨S1x128, .f32⟩
  | 95 => ⟨S256x512, .f32⟩
  | 96 => ⟨S256x512, .bf16⟩
  | 97 => ⟨S256x4x64, .f32⟩
  | 98 => ⟨S256x4x16, .f32⟩
  | 99 => ⟨S256x4x16, .f32⟩
  | 100 => ⟨S256x4x32, .f32⟩
  | 101 => ⟨S256x4x128, .f32⟩
  | 102 => ⟨S256x512, .f32⟩
  | 103 => ⟨S256x512, .bf16⟩
  | 104 => ⟨S128x512, .f32⟩
  | 105 => ⟨S128x512, .bf16⟩
  | 106 => ⟨S128x512, .f32⟩
  | 107 => ⟨S128x512, .bf16⟩
  | 108 => ⟨S1x64, .f32⟩
  | 109 => ⟨S1x16, .f32⟩
  | 110 => ⟨S1x16, .f32⟩
  | 111 => ⟨S1x32, .f32⟩
  | 112 => ⟨S1x128, .f32⟩
  | 113 => ⟨S1x64, .f32⟩
  | 114 => ⟨S1x16, .f32⟩
  | 115 => ⟨S1x16, .f32⟩
  | 116 => ⟨S1x32, .f32⟩
  | 117 => ⟨S1x128, .f32⟩
  | 118 => ⟨S1x128, .i32⟩
  | 119 => ⟨S1x64, .i32⟩
  | 120 => ⟨S1x16, .i32⟩
  | 121 => ⟨S1x16, .i32⟩
  | 122 => ⟨S1x32, .i32⟩
  | 123 => ⟨S1x128, .i32⟩
  | 124 => ⟨S128, .i32⟩
  | 125 => ⟨S1x128, .i32⟩
  | 126 => ⟨S128x1, .i32⟩
  | 127 => ⟨S128x128, .i32⟩
  | _ => ⟨S2x16384x1024, .f32⟩

abbrev hbmTy0_1 (i : Nat) : BufTy := match i % 128 with
  | 0 => ⟨S128x128, .i32⟩
  | 1 => ⟨S128x128, .i1⟩
  | 2 => ⟨S128x128, .bf16⟩
  | 3 => ⟨S32768x1024, .f32⟩
  | 4 => ⟨S2x6x1024, .f32⟩
  | 5 => ⟨S1x1024, .f32⟩
  | 6 => ⟨S1x1024x6816, .f32⟩
  | 7 => ⟨S1x1024x4096, .f32⟩
  | 8 => ⟨S1024x4096, .f32⟩
  | 9 => ⟨S1x1024x1024, .f32⟩
  | 10 => ⟨S1024x1024, .f32⟩
  | 11 => ⟨S1x1024x256, .f32⟩
  | 12 => ⟨S1024x256, .f32⟩
  | 13 => ⟨S_, .i32⟩
  | 14 => ⟨S256, .i32⟩
  | 15 => ⟨S256, .i32⟩
  | 16 => ⟨S256, .i32⟩
  | 17 => ⟨S256x1, .i32⟩
  | 18 => ⟨S1024x256, .f32⟩
  | 19 => ⟨S1x1024x256, .f32⟩
  | 20 => ⟨S1024x256, .f32⟩
  | 21 => ⟨S_, .i32⟩
  | 22 => ⟨S256, .i32⟩
  | 23 => ⟨S256, .i32⟩
  | 24 => ⟨S256, .i32⟩
  | 25 => ⟨S256x1, .i32⟩
  | 26 => ⟨S1024x256, .f32⟩
  | 27 => ⟨S1x1024x512, .f32⟩
  | 28 => ⟨S1024x512, .f32⟩
  | 29 => ⟨S1x1024x512, .f32⟩
  | 30 => ⟨S1024x512, .f32⟩
  | 31 => ⟨S1x1024x128, .f32⟩
  | 32 => ⟨S1024x128, .f32⟩
  | 33 => ⟨S_, .f32⟩
  | 34 => ⟨S1024x64, .f32⟩
  | 35 => ⟨S1x1024x32, .f32⟩
  | 36 => ⟨S1024x32, .f32⟩
  | 37 => ⟨S_, .f32⟩
  | 38 => ⟨S1024x32, .f32⟩
  | 39 => ⟨S1024x6912, .f32⟩
  | 40 => ⟨S1024x6912, .bf16⟩
  | 41 => ⟨S32768x6912, .bf16⟩
  | 42 => ⟨S32768x512, .bf16⟩
  | 43 => ⟨S32768x512, .bf16⟩
  | 44 => ⟨S32768x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6912, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x256, .f32⟩
  | .local _ .vmem, ⟨11, _⟩ => ⟨S256x512, .bf16⟩
  | .local _ .vmem, ⟨12, _⟩ => ⟨S256x512, .bf16⟩
  | .local _ .vmem, ⟨13, _⟩ => ⟨S1x128, .f32⟩
  | .local _ .vmem, ⟨14, _⟩ => ⟨S128x512, .bf16⟩
  | .local _ .vmem, ⟨15, _⟩ => ⟨S128x512, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x512, .f32⟩
  | .local _ .vmem, ⟨23, _⟩ => ⟨S128x128, .bf16⟩
  | .local _ .vmem, ⟨24, _⟩ => ⟨S512x6912, .bf16⟩
  | .local _ .vmem, ⟨25, _⟩ => ⟨S512x6912, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_call0_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_call1_v0 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_call2_v0 : Ref sig .tc := ⟨.hbm, 52, rfl⟩
abbrev main_v27 : Ref sig .tc := ⟨.hbm, 53, rfl⟩
abbrev main_c_10 : Ref sig .tc := ⟨.hbm, 54, rfl⟩
abbrev main_call3_v0 : Ref sig .tc := ⟨.hbm, 55, rfl⟩
abbrev main_v28 : Ref sig .tc := ⟨.hbm, 56, rfl⟩
abbrev main_v29 : Ref sig .tc := ⟨.hbm, 57, rfl⟩
abbrev main_c_11 : Ref sig .tc := ⟨.hbm, 58, rfl⟩
abbrev main_call4_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_12 : Ref sig .tc := ⟨.hbm, 63, rfl⟩
abbrev main_v33 : Ref sig .tc := ⟨.hbm, 64, rfl⟩
abbrev main_cst_13 : Ref sig .tc := ⟨.hbm, 65, rfl⟩
abbrev main_v34 : Ref sig .tc := ⟨.hbm, 66, rfl⟩
abbrev main_v35 : Ref sig .tc := ⟨.hbm, 67, rfl⟩
abbrev main_cst_14 : Ref sig .tc := ⟨.hbm, 68, rfl⟩
abbrev main_v36 : Ref sig .tc := ⟨.hbm, 69, rfl⟩
abbrev main_v37 : Ref sig .tc := ⟨.hbm, 70, rfl⟩
abbrev main_cst_15 : Ref sig .tc := ⟨.hbm, 71, rfl⟩
abbrev main_v38 : Ref sig .tc := ⟨.hbm, 72, rfl⟩
abbrev main_v39 : Ref sig .tc := ⟨.hbm, 73, rfl⟩
abbrev main_c_16 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_17 : Ref sig .tc := ⟨.hbm, 80, rfl⟩
abbrev main_call5_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_18 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_21 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127_0 : Ref sig .tc := ⟨.hbm, 169, rfl⟩
abbrev main_v127_1 : Ref sig .tc := ⟨.hbm, 170, rfl⟩
abbrev main_v127_2 : Ref sig .tc := ⟨.hbm, 171, rfl⟩
abbrev main_v127_3 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x6912 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Kernel3Ideal.lean ====
variable {F : FTy → Type} [FloatOps F] [Named F]
def κ : String → Option EReal := fun
  | "inv_head" => some ((1 / 96 : ℝ) : EReal)
  | _ => none
-- ==== Reference3Ideal.lean ====
abbrev S2x16384x1024 : Shape := ⟨3, ![2, 16384, 1024]⟩
abbrev S2x6144 : Shape := ⟨2, ![2, 6144]⟩
abbrev S1024 : Shape := ⟨1, ![1024]⟩
abbrev S1024x6816 : Shape := ⟨2, ![1024, 6816]⟩
abbrev S2x16384 : Shape := ⟨2, ![2, 16384]⟩
abbrev S256 : Shape := ⟨1, ![256]⟩
abbrev S256x384 : Shape := ⟨2, ![256, 384]⟩
abbrev S128 : Shape := ⟨1, ![128]⟩
abbrev S128x512 : Shape := ⟨2, ![128, 512]⟩
abbrev S96 : Shape := ⟨1, ![96]⟩
abbrev S2x1x6144 : Shape := ⟨3, ![2, 1, 6144]⟩
abbrev S2x1x1024 : Shape := ⟨3, ![2, 1, 1024]⟩
abbrev S_ : Shape := ⟨0, ![]⟩
abbrev S2x16384x1 : Shape := ⟨3, ![2, 16384, 1]⟩
abbrev S1x1x1024 : Shape := ⟨3, ![1, 1, 1024]⟩
abbrev S2x16384x6816 : Shape := ⟨3, ![2, 16384, 6816]⟩
abbrev S2x16384x256 : Shape := ⟨3, ![2, 16384, 256]⟩
abbrev S2x16384x128 : Shape := ⟨3, ![2, 16384, 128]⟩
abbrev S2x16384x32 : Shape := ⟨3, ![2, 16384, 32]⟩
abbrev S2x16384x4096 : Shape := ⟨3, ![2, 16384, 4096]⟩
abbrev S2x16384x4x2x32 : Shape := ⟨5, ![2, 16384, 4, 2, 32]⟩
abbrev S2x16384x2x4x32 : Shape := ⟨5, ![2, 16384, 2, 4, 32]⟩
abbrev S2x16384x1x64 : Shape := ⟨4, ![2, 16384, 1, 64]⟩
abbrev S2x16384x64 : Shape := ⟨3, ![2, 16384, 64]⟩
abbrev S2x16384x1x32 : Shape := ⟨4, ![2, 16384, 1, 32]⟩
abbrev S2x16384x6912 : Shape := ⟨3, ![2, 16384, 6912]⟩
abbrev S32768x6912 : Shape := ⟨2, ![32768, 6912]⟩
abbrev S1x1x256 : Shape := ⟨3, ![1, 1, 256]⟩
abbrev S2x16384x384 : Shape := ⟨3, ![2, 16384, 384]⟩
abbrev S2x16384x4x96 : Shape := ⟨4, ![2, 16384, 4, 96]⟩
abbrev S1x1x128 : Shape := ⟨3, ![1, 1, 128]⟩
abbrev S2x16384x512 : Shape := ⟨3, ![2, 16384, 512]⟩
abbrev S2x16384x4x128 : Shape := ⟨4, ![2, 16384, 4, 128]⟩
abbrev S2x16384x4x32 : Shape := ⟨4, ![2, 16384, 4, 32]⟩
abbrev S2x16384x4x64 : Shape := ⟨4, ![2, 16384, 4, 64]⟩
abbrev S2x16384x4 : Shape := ⟨3, ![2, 16384, 4]⟩
abbrev S2x16384x4x1 : Shape := ⟨4, ![2, 16384, 4, 1]⟩
abbrev S1x1x1x96 : Shape := ⟨4, ![1, 1, 1, 96]⟩
abbrev S16 : Shape := ⟨1, ![16]⟩
abbrev S1x1x16 : Shape := ⟨3, ![1, 1, 16]⟩
abbrev S2x16384x16 : Shape := ⟨3, ![2, 16384, 16]⟩
abbrev S2x16384x1x16 : Shape := ⟨4, ![2, 16384, 1, 16]⟩
abbrev S2x16384x4x16 : Shape := ⟨4, ![2, 16384, 4, 16]⟩
abbrev S2x16384x4x1x31 : Shape := ⟨5, ![2, 16384, 4, 1, 31]⟩
abbrev S2x16384x4x31 : Shape := ⟨4, ![2, 16384, 4, 31]⟩
abbrev S32768x512 : Shape := ⟨2, ![32768, 512]⟩
abbrev S2x16384x4x1x63 : Shape := ⟨5, ![2, 16384, 4, 1, 63]⟩
abbrev S2x16384x4x63 : Shape := ⟨4, ![2, 16384, 4, 63]⟩

abbrev nBuf : Space → Nat
  | .hbm => 254
  | .vmem => 0
  | .smem => 0
  | _ => 0

abbrev hbmTy0_0 (i : Nat) : BufTy := match i % 128 with
  | 0 => ⟨S2x16384x1024, .f32⟩
  | 1 => ⟨S2x6144, .f32⟩
  | 2 => ⟨S1024, .f32⟩
  | 3 => ⟨S1024x6816, .f32⟩
  | 4 => ⟨S2x16384, .i32⟩
  | 5 => ⟨S256, .f32⟩
  | 6 => ⟨S256x384, .f32⟩
  | 7 => ⟨S128, .f32⟩
  | 8 => ⟨S128x512, .f32⟩
  | 9 => ⟨S96, .f32⟩
  | 10 => ⟨S96, .f32⟩
  | 11 => ⟨S2x1x6144, .f32⟩
  | 12 => ⟨S2x1x1024, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S2x16384x1024, .f32⟩
  | 19 => ⟨S_, .f32⟩
  | 20 => ⟨S2x16384, .f32⟩
  | 21 => ⟨S2x16384x1, .f32⟩
  | 22 => ⟨S_, .f32⟩
  | 23 => ⟨S2x16384x1, .f32⟩
  | 24 => ⟨S2x16384x1, .f32⟩
  | 25 => ⟨S_, .f32⟩
  | 26 => ⟨S2x16384x1, .f32⟩
  | 27 => ⟨S2x16384x1, .f32⟩
  | 28 => ⟨S2x16384x1, .f32⟩
  | 29 => ⟨S2x16384x1024, .f32⟩
  | 30 => ⟨S2x16384x1024, .f32⟩
  | 31 => ⟨S1x1x1024, .f32⟩
  | 32 => ⟨S2x16384x1024, .f32⟩
  | 33 => ⟨S2x16384x1024, .f32⟩
  | 34 => ⟨S_, .f32⟩
  | 35 => ⟨S2x1x1024, .f32⟩
  | 36 => ⟨S2x1x1024, .f32⟩
  | 37 => ⟨S2x16384x1024, .f32⟩
  | 38 => ⟨S2x16384x1024, .f32⟩
  | 39 => ⟨S2x16384x1024, .f32⟩
  | 40 => ⟨S2x16384x1024, .f32⟩
  | 41 => ⟨S2x16384x6816, .f32⟩
  | 42 => ⟨S2x16384x256, .f32⟩
  | 43 => ⟨S2x16384x256, .f32⟩
  | 44 => ⟨S2x16384x256, .f32⟩
  | 45 => ⟨S2x16384x256, .f32⟩
  | 46 => ⟨S2x16384x128, .f32⟩
  | 47 => ⟨S2x16384x32, .f32⟩
  | 48 => ⟨S2x16384x256, .f32⟩
  | 49 => ⟨S2x16384x256, .f32⟩
  | 50 => ⟨S2x16384x256, .f32⟩
  | 51 => ⟨S2x16384x256, .f32⟩
  | 52 => ⟨S2x16384x256, .f32⟩
  | 53 => ⟨S2x16384x256, .f32⟩
  | 54 => ⟨S2x16384x4096, .f32⟩
  | 55 => ⟨S_, .f32⟩
  | 56 => ⟨S2x16384x1, .f32⟩
  | 57 => ⟨S2x16384x4x2x32, .f32⟩
  | 58 => ⟨S2x16384x2x4x32, .f32⟩
  | 59 => ⟨S2x16384x256, .f32⟩
  | 60 => ⟨S2x16384x4x2x32, .f32⟩
  | 61 => ⟨S2x16384x2x4x32, .f32⟩
  | 62 => ⟨S2x16384x256, .f32⟩
  | 63 => ⟨S2x16384x1x64, .f32⟩
  | 64 => ⟨S2x16384x64, .f32⟩
  | 65 => ⟨S2x16384x1x32, .f32⟩
  | 66 => ⟨S2x16384x32, .f32⟩
  | 67 => ⟨S2x16384x6912, .f32⟩
  | 68 => ⟨S32768x6912, .f32⟩
  | 69 => ⟨S32768x6912, .bf16⟩
  | 70 => ⟨S2x16384x256, .f32⟩
  | 71 => ⟨S_, .f32⟩
  | 72 => ⟨S2x16384, .f32⟩
  | 73 => ⟨S2x16384x1, .f32⟩
  | 74 => ⟨S_, .f32⟩
  | 75 => ⟨S2x16384x1, .f32⟩
  | 76 => ⟨S2x16384x1, .f32⟩
  | 77 => ⟨S_, .f32⟩
  | 78 => ⟨S2x16384x1, .f32⟩
  | 79 => ⟨S2x16384x1, .f32⟩
  | 80 => ⟨S2x16384x1, .f32⟩
  | 81 => ⟨S2x16384x256, .f32⟩
  | 82 => ⟨S2x16384x256, .f32⟩
  | 83 => ⟨S1x1x256, .f32⟩
  | 84 => ⟨S2x16384x256, .f32⟩
  | 85 => ⟨S2x16384x256, .f32⟩
  | 86 => ⟨S2x16384x384, .f32⟩
  | 87 => ⟨S2x16384x4x96, .f32⟩
  | 88 => ⟨S2x16384x128, .f32⟩
  | 89 => ⟨S_, .f32⟩
  | 90 => ⟨S2x16384, .f32⟩
  | 91 => ⟨S2x16384x1, .f32⟩
  | 92 => ⟨S_, .f32⟩
  | 93 => ⟨S2x16384x1, .f32⟩
  | 94 => ⟨S2x16384x1, .f32⟩
  | 95 => ⟨S_, .f32⟩
  | 96 => ⟨S2x16384x1, .f32⟩
  | 97 => ⟨S2x16384x1, .f32⟩
  | 98 => ⟨S2x16384x1, .f32⟩
  | 99 => ⟨S2x16384x128, .f32⟩
  | 100 => ⟨S2x16384x128, .f32⟩
  | 101 => ⟨S1x1x128, .f32⟩
  | 102 => ⟨S2x16384x128, .f32⟩
  | 103 => ⟨S2x16384x128, .f32⟩
  | 104 => ⟨S2x16384x512, .f32⟩
  | 105 => ⟨S2x16384x4x128, .f32⟩
  | 106 => ⟨S2x16384x1x32, .f32⟩
  | 107 => ⟨S2x16384x4x32, .f32⟩
  | 108 => ⟨S2x16384x4x64, .f32⟩
  | 109 => ⟨S2x16384x4x96, .f32⟩
  | 110 => ⟨S2x16384x4x96, .f32⟩
  | 111 => ⟨S_, .f32⟩
  | 112 => ⟨S2x16384x4, .f32⟩
  | 113 => ⟨S2x16384x4x1, .f32⟩
  | 114 => ⟨S_, .f32⟩
  | 115 => ⟨S2x16384x4x1, .f32⟩
  | 116 => ⟨S2x16384x4x1, .f32⟩
  | 117 => ⟨S_, .f32⟩
  | 118 => ⟨S2x16384x4x1, .f32⟩
  | 119 => ⟨S2x16384x4x1, .f32⟩
  | 120 => ⟨S2x16384x4x1, .f32⟩
  | 121 => ⟨S2x16384x4x96, .f32⟩
  | 122 => ⟨S2x16384x4x96, .f32⟩
  | 123 => ⟨S1x1x1x96, .f32⟩
  | 124 => ⟨S2x16384x4x96, .f32⟩
  | 125 => ⟨S2x16384x4x96, .f32⟩
  | 126 => ⟨S2x16384x4x96, .f32⟩
  | 127 => ⟨S_, .f32⟩
  | _ => ⟨S2x16384x1024, .f32⟩

abbrev hbmTy0_1 (i : Nat) : BufTy := match i % 128 with
  | 0 => ⟨S2x16384x4, .f32⟩
  | 1 => ⟨S2x16384x4x1, .f32⟩
  | 2 => ⟨S_, .f32⟩
  | 3 => ⟨S2x16384x4x1, .f32⟩
  | 4 => ⟨S2x16384x4x1, .f32⟩
  | 5 => ⟨S_, .f32⟩
  | 6 => ⟨S2x16384x4x1, .f32⟩
  | 7 => ⟨S2x16384x4x1, .f32⟩
  | 8 => ⟨S2x16384x4x1, .f32⟩
  | 9 => ⟨S2x16384x4x96, .f32⟩
  | 10 => ⟨S2x16384x4x96, .f32⟩
  | 11 => ⟨S1x1x1x96, .f32⟩
  | 12 => ⟨S2x16384x4x96, .f32⟩
  | 13 => ⟨S2x16384x4x96, .f32⟩
  | 14 => ⟨S2x16384x4x64, .f32⟩
  | 15 => ⟨S2x16384x4x32, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2x16384, .f32⟩
  | 25 => ⟨S2x16384x1, .f32⟩
  | 26 => ⟨S1x1x16, .f32⟩
  | 27 => ⟨S2x16384x16, .f32⟩
  | 28 => ⟨S2x16384x16, .f32⟩
  | 29 => ⟨S2x16384x16, .f32⟩
  | 30 => ⟨S2x16384x16, .f32⟩
  | 31 => ⟨S2x16384x1x16, .f32⟩
  | 32 => ⟨S2x16384x16, .f32⟩
  | 33 => ⟨S2x16384x1x16, .f32⟩
  | 34 => ⟨S2x16384x4x16, .f32⟩
  | 35 => ⟨S2x16384x4x16, .f32⟩
  | 36 => ⟨S2x16384x4x16, .f32⟩
  | 37 => ⟨S2x16384x4x16, .f32⟩
  | 38 => ⟨S2x16384x4x16, .f32⟩
  | 39 => ⟨S2x16384x4x16, .f32⟩
  | 40 => ⟨S2x16384x4x16, .f32⟩
  | 41 => ⟨S2x16384x4x16, .f32⟩
  | 42 => ⟨S2x16384x4x16, .f32⟩
  | 43 => ⟨S2x16384x4x16, .f32⟩
  | 44 => ⟨S2x16384x4x16, .f32⟩
  | 45 => ⟨S2x16384x4x16, .f32⟩
  | 46 => ⟨S2x16384x4x32, .f32⟩
  | 47 => ⟨S2x16384x4x96, .f32⟩
  | 48 => ⟨S_, .f32⟩
  | 49 => ⟨S2x16384x4x96, .f32⟩
  | 50 => ⟨S2x16384x4x96, .f32⟩
  | 51 => ⟨S2x16384x4x64, .f32⟩
  | 52 => ⟨S2x16384x4x32, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S2x16384, .f32⟩
  | 62 => ⟨S2x16384x1, .f32⟩
  | 63 => ⟨S1x1x16, .f32⟩
  | 64 => ⟨S2x16384x16, .f32⟩
  | 65 => ⟨S2x16384x16, .f32⟩
  | 66 => ⟨S2x16384x16, .f32⟩
  | 67 => ⟨S2x16384x16, .f32⟩
  | 68 => ⟨S2x16384x1x16, .f32⟩
  | 69 => ⟨S2x16384x16, .f32⟩
  | 70 => ⟨S2x16384x1x16, .f32⟩
  | 71 => ⟨S2x16384x4x16, .f32⟩
  | 72 => ⟨S2x16384x4x16, .f32⟩
  | 73 => ⟨S2x16384x4x16, .f32⟩
  | 74 => ⟨S2x16384x4x16, .f32⟩
  | 75 => ⟨S2x16384x4x16, .f32⟩
  | 76 => ⟨S2x16384x4x16, .f32⟩
  | 77 => ⟨S2x16384x4x16, .f32⟩
  | 78 => ⟨S2x16384x4x16, .f32⟩
  | 79 => ⟨S2x16384x4x16, .f32⟩
  | 80 => ⟨S2x16384x4x16, .f32⟩
  | 81 => ⟨S2x16384x4x16, .f32⟩
  | 82 => ⟨S2x16384x4x16, .f32⟩
  | 83 => ⟨S2x16384x4x32, .f32⟩
  | 84 => ⟨S2x16384x4x96, .f32⟩
  | 85 => ⟨S96, .f32⟩
  | 86 => ⟨S_, .f32⟩
  | 87 => ⟨S_, .f32⟩
  | 88 => ⟨S_, .f32⟩
  | 89 => ⟨S_, .f32⟩
  | 90 => ⟨S96, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S2x16384x4x1, .f32⟩
  | 102 => ⟨S_, .f32⟩
  | 103 => ⟨S2x16384x4x1, .f32⟩
  | 104 => ⟨S2x16384x4x1, .f32⟩
  | 105 => ⟨S2x16384x4x1x31, .f32⟩
  | 106 => ⟨S2x16384x4x31, .f32⟩
  | 107 => ⟨S2x16384x4x128, .f32⟩
  | 108 => ⟨S32768x512, .f32⟩
  | 109 => ⟨S32768x512, .bf16⟩
  | 110 => ⟨S2x16384x4x1, .f32⟩
  | 111 => ⟨S2x16384x4x1, .f32⟩
  | 112 => ⟨S2x16384x4x1x31, .f32⟩
  | 113 => ⟨S2x16384x4x31, .f32⟩
  | 114 => ⟨S2x16384x4x128, .f32⟩
  | 115 => ⟨S32768x512, .f32⟩
  | 116 => ⟨S32768x512, .bf16⟩
  | 117 => ⟨S2x16384x4x64, .f32⟩
  | 118 => ⟨S_, .f32⟩
  | 119 => ⟨S2x16384x4x1, .f32⟩
  | 120 => ⟨S2x16384x4x1, .f32⟩
  | 121 => ⟨S2x16384x4x1x63, .f32⟩
  | 122 => ⟨S2x16384x4x63, .f32⟩
  | 123 => ⟨S2x16384x4x128, .f32⟩
  | 124 => ⟨S32768x512, .f32⟩
  | 125 => ⟨S32768x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_cst_8 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_10 : Ref sig .tc := ⟨.hbm, 111, rfl⟩
abbrev main_v89 : Ref sig .tc := ⟨.hbm, 112, rfl⟩
abbrev main_v90 : Ref sig .tc := ⟨.hbm, 113, rfl⟩
abbrev main_cst_11 : Ref sig .tc := ⟨.hbm, 114, rfl⟩
abbrev main_v91 : Ref sig .tc := ⟨.hbm, 115, rfl⟩
abbrev main_v92 : Ref sig .tc := ⟨.hbm, 116, rfl⟩
abbrev main_cst_12 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_13 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_v104 : Ref sig .tc := ⟨.hbm, 131, rfl⟩
abbrev main_v105 : Ref sig .tc := ⟨.hbm, 132, rfl⟩
abbrev main_cst_15 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_16 : Ref sig .tc := ⟨.hbm, 146, rfl⟩
abbrev main_v118 : Ref sig .tc := ⟨.hbm, 147, rfl⟩
abbrev main_v119 : Ref sig .tc := ⟨.hbm, 148, rfl⟩
abbrev main_cst_17 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_18 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_19 : Ref sig .tc := ⟨.hbm, 183, rfl⟩
abbrev main_v152 : Ref sig .tc := ⟨.hbm, 184, rfl⟩
abbrev main_v153 : Ref sig .tc := ⟨.hbm, 185, rfl⟩
abbrev main_cst_20 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_cst_21 : Ref sig .tc := ⟨.hbm, 214, rfl⟩
abbrev main_v181 : Ref sig .tc := ⟨.hbm, 215, rfl⟩
abbrev main_cst_22 : Ref sig .tc := ⟨.hbm, 216, rfl⟩
abbrev main_v182 : Ref sig .tc := ⟨.hbm, 217, rfl⟩
abbrev main_v183 : Ref sig .tc := ⟨.hbm, 218, rfl⟩
abbrev main_cst_23 : Ref sig .tc := ⟨.hbm, 219, rfl⟩
abbrev main_v184 : Ref sig .tc := ⟨.hbm, 220, rfl⟩
abbrev main_v185 : Ref sig .tc := ⟨.hbm, 221, rfl⟩
abbrev main_cst_24 : Ref sig .tc := ⟨.hbm, 222, rfl⟩
abbrev main_v186 : Ref sig .tc := ⟨.hbm, 223, rfl⟩
abbrev main_v187 : Ref sig .tc := ⟨.hbm, 224, rfl⟩
abbrev main_cst_25 : Ref sig .tc := ⟨.hbm, 225, rfl⟩
abbrev main_call0_v0 : Ref sig .tc := ⟨.hbm, 226, rfl⟩
abbrev main_v188 : Ref sig .tc := ⟨.hbm, 227, rfl⟩
abbrev main_cst_26 : Ref sig .tc := ⟨.hbm, 228, rfl⟩
abbrev main_v189 : Ref sig .tc := ⟨.hbm, 229, rfl⟩
abbrev main_cst_27 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_cst_28 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩

abbrev nD : Nat := 1
abbrev τ : Topo := Topo.v7x

variable {F : FTy → Type} [FloatOps F]
-- ==== Proof.Swiglu.lean ====
/- The gated feed-forward of one token, as a formula on extended reals. -/
module

public import Idealize.ShloMosaic.PureOps.Ideal
public import Mathlib.Analysis.SpecialFunctions.Trigonometric.DerivHyp
public import Mathlib.Data.EReal.Operations

@[expose] public section

noncomputable section

namespace Cert.Swiglu

open Idealize.ShloMosaic

theorem one_eq : Ideal.ofBits .f32 0x3F800000#32 = 1 := by
  have h : Ideal.ofBits .f32 0x3F800000#32 = ((1 : ℝ) : EReal) := by
    simp [Ideal.ofBits, Ideal.ieee, ← EReal.coe_mul, -EReal.coe_one]
    norm_num
  rw [h]; rfl

theorem half_eq : Ideal.ofBits .f32 0x3F000000#32 = ((1 / 2 : ℝ) : EReal) := by
  simp [Ideal.ofBits, Ideal.ieee, ← EReal.coe_mul]
  norm_num

/-- `z` times its logistic. -/
def silu (z : EReal) : EReal := z * Ideal.div 1 (1 + Ideal.exp (-z))

theorem half_tanh (x : ℝ) : Real.tanh (x * (1 / 2)) * (1 / 2) + 1 / 2 = (1 + Real.exp (-x))⁻¹ := by
  have h1 : Real.exp (-x) = Real.exp (-(x * (1 / 2))) * Real.exp (-(x * (1 / 2))) := by rw [← Real.exp_add]; ring_nf
  have h2 : Real.exp (x * (1 / 2)) * Real.exp (-(x * (1 / 2))) = 1 := by rw [← Real.exp_add]; simp
  rw [Real.tanh_eq_sinh_div_cosh, Real.sinh_eq, Real.cosh_eq, h1]
  have p1 := Real.exp_pos (x * (1 / 2))
  have p2 := Real.exp_pos (-(x * (1 / 2)))
  generalize Real.exp (x * (1 / 2)) = a at *
  generalize Real.exp (-(x * (1 / 2))) = b at *
  have : a + b ≠ 0 := by positivity
  have : 1 + b * b ≠ 0 := by positivity
  field_simp
  linear_combination (2 * b) * h2

/-- The logistic as half the hyperbolic tangent of half the argument, plus a half: on every extended real. -/
theorem silu_tanh (z : EReal) : z * (Ideal.tanh (z * Ideal.ofBits .f32 0x3F000000#32) * Ideal.ofBits .f32 0x3F000000#32 + Ideal.ofBits .f32 0x3F000000#32) = silu z := by
  unfold silu
  rw [half_eq]
  refine congrArg (z * ·) ?_
  induction z using EReal.rec with
  | bot =>
    rw [EReal.bot_mul_coe_of_pos (by norm_num)]
    show (-1 : EReal) * ((1 / 2 : ℝ) : EReal) + ((1 / 2 : ℝ) : EReal) = Ideal.div 1 (1 + ⊤)
    rw [show (1 : EReal) + ⊤ = ⊤ from rfl, show Ideal.div 1 ⊤ = 0 by simp [Ideal.div], show (-1 : EReal) = ((-1 : ℝ) : EReal) from rfl, ← EReal.coe_mul, ← EReal.coe_add]
    norm_num
  | top =>
    rw [EReal.top_mul_coe_of_pos (by norm_num)]
    show (1 : EReal) * ((1 / 2 : ℝ) : EReal) + ((1 / 2 : ℝ) : EReal) = Ideal.div 1 (1 + 0)
    rw [add_zero, show Ideal.div 1 1 = 1 by simp [Ideal.div], one_mul, ← EReal.coe_add]
    norm_num
  | coe x =>
    have hne : 1 + Real.exp (-x) ≠ 0 := by positivity
    rw [← EReal.coe_mul]
    show ((Real.tanh (x * (1 / 2)) : ℝ) : EReal) * _ + _ = Ideal.div 1 (1 + ((Real.exp (-x) : ℝ) : EReal))
    rw [← EReal.coe_mul, ← EReal.coe_add, half_tanh, ← EReal.coe_one, ← EReal.coe_add, Ideal.div_coe hne, ← EReal.coe_mul, one_mul, one_div]

/-- The modulated normalized row: `x / √(mean x² + ε) · g · (1 + sc) + sh`. -/
def modulated (x g sc sh : Fin 1024 → EReal) (k : Fin 1024) : EReal :=
  x k * Ideal.rsqrt (Ideal.div (∑ j, x j * x j) (Ideal.ofBits .f32 0x44800000#32) + Ideal.ofBits .f32 0x358637BD#32) * g k * (Ideal.ofBits .f32 0x3F800000#32 + sc k) + sh k

/-- Hidden unit `e`: `silu (h w₁) · (h w₃)`. -/
def hidden {n : ℕ} (h : Fin 1024 → EReal) (w1 w3 : Fin 1024 → Fin n → EReal) (e : Fin n) : EReal :=
  silu (∑ j, h j * w1 j e) * ∑ j, h j * w3 j e

/-- The sub-layer's output: the input plus the gate times the feed-forward. -/
def out (x g sc sh gate : Fin 1024 → EReal) (w1 w3 : Fin 1024 → Fin 2816 → EReal) (w2 : Fin 2816 → Fin 1024 → EReal) (c : Fin 1024) : EReal :=
  x c + gate c * ∑ e, hidden (modulated x g sc sh) w1 w3 e * w2 e c

/-- A sum over the 2816 hidden units, in eleven stretches of 256. -/
theorem sum_stretches (f : Fin 2816 → EReal) :
    ∑ e, f e = ∑ i : Fin 11, ∑ k : Fin 256, f ⟨256 * i.val + k.val, by omega⟩ := by
  refine Eq.trans ?_ (Fintype.sum_prod_type (fun p : Fin 11 × Fin 256 => f ⟨256 * p.1.val + p.2.val, by omega⟩))
  refine (Fintype.sum_equiv (finProdFinEquiv (m := 11) (n := 256)) (fun p : Fin 11 × Fin 256 => f ⟨256 * p.1.val + p.2.val, by omega⟩) (fun e => f e) fun p => ?_).symm
  refine congrArg f (Fin.ext ?_)
  show 256 * p.1.val + p.2.val = p.2.val + 256 * p.1.val
  omega

end Cert.Swiglu

end
-- ==== Proof.FfnRef.lean ====
/- The feed-forward reference's result at an index. -/
module

public import proofs.«01_k».proof.Proof.Gen.Reference2Ideal
public import proofs.«01_k».proof.Proof.Gen.Reference2Ideal.Run
public import proofs.«01_k».proof.Proof.Swiglu
public import proofs.«01_k».proof.Defs
public import Idealize.ShloMosaic.Lib.Claim
public import Idealize.ShloMosaic.PureOps.Reduce
public import Idealize.ShloMosaic.Lib.Pointwise
public import Idealize.ShloMosaic.PureOps.Ideal

@[expose] public section

set_option maxRecDepth 16384

noncomputable section

namespace Cert.Reference2Ideal.Ffn

open Cert.Reference2Ideal Cert.Reference2Ideal.Gen
open Idealize.ShloMosaic Idealize.ShloMosaic.TcCoe Idealize.SL.Sem

theorem frame : Cert.quiescent_Reference2Ideal := fun m g _ =>
  (θ_run Cert.Reference2Ideal.defs _ _).mono (fun r h => ⟨fun c => (h c).2,
    Idealize.ShloMosaic.sem_eq_zero_of_no_sems (by decide) r.2⟩) (Cert.Reference2Ideal.Value.run m g)

/-- The input normalized to unit mean square, times the gain, scaled and shifted. -/
def modulated (x : FVec Ideal S2x16384x1024 .f32) (ada : FVec Ideal S2x6144 .f32) (g : FVec Ideal S1024 .f32) : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 4096] (broadcastInDim S2x1x6144 ![0, 2] bcast_S2x6144_S2x1x6144_0_2 ada) slices_S2x1x6144_S2x1x1024_0_0_4096)))) (broadcastInDim S2x16384x1024 ![0, 1, 2] bcast_S2x1x1024_S2x16384x1024_0_1_2 (extractStridedSlice S2x1x1024 ![0, 0, 3072] (broadcastInDim S2x1x6144 ![0, 2] bcast_S2x6144_S2x1x6144_0_2 ada) slices_S2x1x6144_S2x1x1024_0_0_3072))

/-- The hidden units of a modulated input. -/
def hidden (h : FVec Ideal S2x16384x1024 .f32) (w1 w3 : FVec Ideal S1024x2816 .f32) : FVec Ideal S2x16384x2816 .f32 :=
  mulf (mulf (Host.dotGeneral dot_S2x16384x1024_S1024x2816_S2x16384x2816_2_0_01_1_n_n none h w1) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (Host.dotGeneral dot_S2x16384x1024_S1024x2816_S2x16384x2816_2_0_01_1_n_n none h w1)))))) (Host.dotGeneral dot_S2x16384x1024_S1024x2816_S2x16384x2816_2_0_01_1_n_n none h w3)

/-- The result of the modulated input and the hidden units. -/
def result (x : FVec Ideal S2x16384x1024 .f32) (ada : FVec Ideal S2x6144 .f32) (g : FVec Ideal S1024 .f32) (w1 w3 : FVec Ideal S1024x2816 .f32) (w2 : FVec Ideal S2816x1024 .f32) : FVec Ideal S32768x1024 .f32 :=
  shapeCast _ (addf x (mulf (broadcastInDim S2x16384x1024 ![0, 1, 2] bcast_S2x1x1024_S2x16384x1024_0_1_2 (extractStridedSlice S2x1x1024 ![0, 0, 5120] (broadcastInDim S2x1x6144 ![0, 2] bcast_S2x6144_S2x1x6144_0_2 ada) slices_S2x1x6144_S2x1x1024_0_0_5120)) (Host.dotGeneral dot_S2x16384x2816_S2816x1024_S2x16384x1024_2_0_01_1_n_n none (hidden (modulated x ada g) w1 w3) w2))) shapeCasts_S2x16384x1024_S32768x1024

theorem result_eq (m : (ℓ : Loc nD τ sig) → Buf (Elt Ideal) ℓ) (c : Dev nD) :
    Cert.Reference2Ideal.Value.res_main_v34 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.Reference2Ideal.Value.res_main_v34 result hidden modulated
  rfl

/-- Entry `j` of chunk `i` of a batch's modulation vector. -/
def chunk (ada : S2x6144.Idx → EReal) (b : Fin 2) (i : Fin 6) (j : Fin 1024) : EReal := ada (ix2 b (⟨1024 * i.val + j.val, by omega⟩ : Fin 6144))

theorem modulated_apply (x : FVec Ideal S2x16384x1024 .f32) (ada : FVec Ideal S2x6144 .f32) (g : FVec Ideal S1024 .f32) (b : Fin 2) (s : Fin 16384) (k : Fin 1024) :
    (modulated x ada g (ix3 b s k) : EReal) = Swiglu.modulated (fun j => x (ix3 b s j)) (fun j => g (ix1 j)) (chunk ada b 4) (chunk ada b 3) k := by
  unfold modulated Swiglu.modulated chunk
  pointwise

theorem hidden_apply (h : FVec Ideal S2x16384x1024 .f32) (w1 w3 : FVec Ideal S1024x2816 .f32) (b : Fin 2) (s : Fin 16384) (e : Fin 2816) :
    (hidden h w1 w3 (ix3 b s e) : EReal) = Swiglu.hidden (fun j => h (ix3 b s j)) (fun j e => w1 (ix2 j e)) (fun j e => w3 (ix2 j e)) e := by
  unfold hidden Swiglu.hidden Swiglu.silu
  pointwise

theorem result_apply (x : FVec Ideal S2x16384x1024 .f32) (ada : FVec Ideal S2x6144 .f32) (g : FVec Ideal S1024 .f32) (w1 w3 : FVec Ideal S1024x2816 .f32) (w2 : FVec Ideal S2816x1024 .f32)
    (b : Fin 2) (s : Fin 16384) (n : Fin 32768) (hn : n.val = 16384 * b.val + s.val) (k : Fin 1024) :
    (result x ada g w1 w3 w2 (ix2 n k) : EReal) = Swiglu.out (fun j => x (ix3 b s j)) (fun j => g (ix1 j)) (chunk ada b 4) (chunk ada b 3) (chunk ada b 5)
      (fun j e => w1 (ix2 j e)) (fun j e => w3 (ix2 j e)) (fun e j => w2 (ix2 e j)) k := by
  have hb : (⟨n.val / 16384, by omega⟩ : Fin 2) = b := Fin.ext (by show n.val / 16384 = b.val; omega)
  have hs : (⟨n.val % 16384, by omega⟩ : Fin 16384) = s := Fin.ext (by show n.val % 16384 = s.val; omega)
  unfold result Swiglu.out
  pointwise
  rw [hb, hs]
  refine congrArg (fun z => x (ix3 b s k) + chunk ada b 5 k * z) (Finset.sum_congr rfl fun e _ => ?_)
  refine congrArg (· * w2 (ix2 e k)) ((hidden_apply _ w1 w3 b s e).trans ?_)
  refine congrArg (fun h => Swiglu.hidden h _ _ e) (funext fun j => ?_)
  exact modulated_apply x ada g b s j

end Cert.Reference2Ideal.Ffn

end
-- ==== Proof.FfnPayload.lean ====
/- What the feed-forward kernel stores of its blocks, at an index. -/
module

public import proofs.«01_k».proof.Proof.Gen.Kernel2Ideal.Frame
public import proofs.«01_k».proof.Proof.Swiglu
public import Idealize.ShloMosaic.Lib.Pipeline.ValueKit
public import Idealize.ShloMosaic.Lib.Pointwise
public import Idealize.ShloMosaic.PureOps.Ideal

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

/-- A stretch of 256 hidden units' projection. -/
def proj (h : FVec Ideal S1024x1024 .bf16) (a : FVec Ideal S1024x256 .bf16) : FVec Ideal S1024x256 .f32 :=
  matmul dot_S1024x1024_S1024x256_S1024x256_1_0_0_1_n_n none h (shapeCast S1024x256 a shapeCasts_S1024x256_S1024x256) (constant S1024x256 .f32 0x00000000#32)

/-- One stretch's part of the feed-forward: both projections, the gate by a hyperbolic tangent, and the product with the second weights' rows. -/
def part (h : FVec Ideal S1024x1024 .bf16) (a b : FVec Ideal S1024x256 .bf16) (d : FVec Ideal S256x1024 .bf16) : FVec Ideal S1024x1024 .f32 :=
  matmul dot_S1024x256_S256x1024_S1024x1024_1_0_0_1_n_n none
    (truncf .bf16 (mulf (mulf (proj h a) (addf (mulf (tanh (mulf (proj h a) (broadcast S1024x256 (Scalar.ofBits .f32 0x3F000000#32)))) (broadcast S1024x256 (Scalar.ofBits .f32 0x3F000000#32)))
      (broadcast S1024x256 (Scalar.ofBits .f32 0x3F000000#32)))) (proj h b)) bitsLt_bf16_f32)
    (shapeCast S256x1024 d shapeCasts_S256x1024_S256x1024) (constant S1024x1024 .f32 0x00000000#32)

theorem part_apply (h : FVec Ideal S1024x1024 .bf16) (a b : FVec Ideal S1024x256 .bf16) (d : FVec Ideal S256x1024 .bf16) (r col : Fin 1024) :
    (part h a b d (ix2 r col) : EReal) = ∑ k : Fin 256, Swiglu.hidden (fun j => h (ix2 r j)) (fun j e => a (ix2 j e)) (fun j e => b (ix2 j e)) k * d (ix2 k col) := by
  unfold part proj Swiglu.hidden
  simp only [← Swiglu.silu_tanh]
  pointwise

variable (x0 : FVec Ideal S1024x1024 .f32) (x1 : FVec Ideal S1x6x1024 .f32) (x2 : FVec Ideal S1x1024 .f32) (x3 : FVec Ideal S1024x2816 .bf16) (x4 : FVec Ideal S1024x2816 .bf16) (x5 : FVec Ideal S2816x1024 .bf16)

/-- The modulated rows of a block. -/
abbrev rows : FVec Ideal S1024x1024 .bf16 := k0_pay20 (F := Ideal) x0 x1 x2 x3 x4 x5

theorem rows_apply (r k : Fin 1024) :
    (rows x0 x1 x2 x3 x4 x5 (ix2 r k) : EReal) = Swiglu.modulated (fun j => x0 (ix2 r j)) (fun j => x2 (ix2 0 j)) (fun j => x1 (ix3 0 4 j)) (fun j => x1 (ix3 0 3 j)) k := by
  unfold rows k0_pay20 Swiglu.modulated
  frame_out
  pointwise [k0_pay2, k0_pay3]

/-- 256 columns of a weight block, from column `o` on. -/
def cols (x : Vec Ideal S1024x2816 .bf16) (o : ℕ) (ho : o + 256 ≤ 2816) : Vec Ideal S1024x256 .bf16 :=
  View.ld (Val := Elt Ideal) (e' := .bf16) x (Rect.unit (s := S1024x2816) ![0, o] S1024x256.size (by intro a; fin_cases a <;> simp [S1024x2816, S1024x256] <;> omega))

/-- 256 rows of the second weight block, from row `o` on. -/
def rws (x : Vec Ideal S2816x1024 .bf16) (o : ℕ) (ho : o + 256 ≤ 2816) : Vec Ideal S256x1024 .bf16 :=
  View.ld (Val := Elt Ideal) (e' := .bf16) x (Rect.unit (s := S2816x1024) ![o, 0] S256x1024.size (by intro a; fin_cases a <;> simp [S2816x1024, S256x1024] <;> omega))

theorem cols_apply (x : FVec Ideal S1024x2816 .bf16) (o : ℕ) (ho : o + 256 ≤ 2816) (j : Fin 1024) (k : Fin 256) :
    (cols x o ho (ix2 j k) : EReal) = x (ix2 j (⟨o + k.val, by omega⟩ : Fin 2816)) := by
  unfold cols
  refine congrArg x (funext fun (a : Fin 2) => Fin.ext ?_)
  fin_cases a <;> simp [LoadRect.idx, Rect.toLoadRect, Rect.unit]

theorem rws_apply (x : FVec Ideal S2816x1024 .bf16) (o : ℕ) (ho : o + 256 ≤ 2816) (k : Fin 256) (j : Fin 1024) :
    (rws x o ho (ix2 k j) : EReal) = x (ix2 (⟨o + k.val, by omega⟩ : Fin 2816) j) := by
  unfold rws
  refine congrArg x (funext fun (a : Fin 2) => Fin.ext ?_)
  fin_cases a <;> simp [LoadRect.idx, Rect.toLoadRect, Rect.unit]

/-- The feed-forward as the kernel adds it up: eleven stretches, one after another. -/
def stretches (h : FVec Ideal S1024x1024 .bf16) (x3 x4 : Vec Ideal S1024x2816 .bf16) (x5 : Vec Ideal S2816x1024 .bf16) : FVec Ideal S1024x1024 .f32 :=
  (addf (addf (addf (addf (addf (addf (addf (addf (addf (addf (part h (cols x3 0 (by norm_num)) (cols x4 0 (by norm_num)) (rws x5 0 (by norm_num)))
        (part h (cols x3 256 (by norm_num)) (cols x4 256 (by norm_num)) (rws x5 256 (by norm_num))))
        (part h (cols x3 512 (by norm_num)) (cols x4 512 (by norm_num)) (rws x5 512 (by norm_num))))
        (part h (cols x3 768 (by norm_num)) (cols x4 768 (by norm_num)) (rws x5 768 (by norm_num))))
        (part h (cols x3 1024 (by norm_num)) (cols x4 1024 (by norm_num)) (rws x5 1024 (by norm_num))))
        (part h (cols x3 1280 (by norm_num)) (cols x4 1280 (by norm_num)) (rws x5 1280 (by norm_num))))
        (part h (cols x3 1536 (by norm_num)) (cols x4 1536 (by norm_num)) (rws x5 1536 (by norm_num))))
        (part h (cols x3 1792 (by norm_num)) (cols x4 1792 (by norm_num)) (rws x5 1792 (by norm_num))))
        (part h (cols x3 2048 (by norm_num)) (cols x4 2048 (by norm_num)) (rws x5 2048 (by norm_num))))
        (part h (cols x3 2304 (by norm_num)) (cols x4 2304 (by norm_num)) (rws x5 2304 (by norm_num))))
        (part h (cols x3 2560 (by norm_num)) (cols x4 2560 (by norm_num)) (rws x5 2560 (by norm_num))))

theorem out_eq : out0_6 (F := Ideal) x0 x1 x2 x3 x4 x5 = View.canon [⟨r0_0, addf (shapeCast S1024x1024 (show Vec Ideal S1024x1024 .f32 from View.ld (show Vec Ideal S1024x1024 .f32 from x0) r0_0) shapeCasts_S1024x1024_S1024x1024)
    (mulf (broadcastTo S1024x1024 (shapeCast S1x1024 (show Vec Ideal S1x1x1024 .f32 from View.ld (show Vec Ideal S1x6x1024 .f32 from x1) r0_26) shapeCasts_S1x1x1024_S1x1024) broadcasts_S1x1024_S1024x1024)
      (stretches (rows x0 x1 x2 x3 x4 x5) x3 x4 x5))⟩] := by
  unfold out0_6 k0_pay1 k0_pay2 k0_pay4 k0_pay5 k0_pay6 k0_pay7 k0_pay8 k0_pay9 k0_pay10 k0_pay11 k0_pay12 k0_pay13 k0_pay14 k0_pay15 k0_pay16 k0_pay17 k0_pay18 k0_pay19 stretches part proj rows k0_pay20 cols rws
  rfl

theorem part_at (h : FVec Ideal S1024x1024 .bf16) (o : ℕ) (ho : o + 256 ≤ 2816) (r col : Fin 1024) :
    (part h (cols x3 o ho) (cols x4 o ho) (rws x5 o ho) (ix2 r col) : EReal)
    = ∑ k : Fin 256, Swiglu.hidden (fun j => h (ix2 r j)) (fun j e => x3 (ix2 j e)) (fun j e => x4 (ix2 j e)) (⟨o + k.val, by omega⟩ : Fin 2816) * x5 (ix2 (⟨o + k.val, by omega⟩ : Fin 2816) col) := by
  refine (part_apply h _ _ _ r col).trans (Finset.sum_congr rfl fun k _ => ?_)
  refine congrArg₂ (· * ·) ?_ (rws_apply x5 o ho k col)
  unfold Swiglu.hidden
  exact congrArg₂ (· * ·) (congrArg Swiglu.silu (Finset.sum_congr rfl fun j _ => congrArg (fun z => h (ix2 r j) * z) (cols_apply x3 o ho j k)))
    (Finset.sum_congr rfl fun j _ => congrArg (fun z => h (ix2 r j) * z) (cols_apply x4 o ho j k))

theorem stretches_apply (h : FVec Ideal S1024x1024 .bf16) (r col : Fin 1024) :
    (stretches h x3 x4 x5 (ix2 r col) : EReal)
    = ∑ e : Fin 2816, Swiglu.hidden (fun j => h (ix2 r j)) (fun j e => x3 (ix2 j e)) (fun j e => x4 (ix2 j e)) e * x5 (ix2 e col) := by
  rw [Swiglu.sum_stretches]
  simp only [Fin.sum_univ_castSucc (n := 10), Fin.sum_univ_castSucc (n := 9), Fin.sum_univ_castSucc (n := 8), Fin.sum_univ_castSucc (n := 7), Fin.sum_univ_castSucc (n := 6),
    Fin.sum_univ_castSucc (n := 5), Fin.sum_univ_castSucc (n := 4), Fin.sum_univ_castSucc (n := 3), Fin.sum_univ_castSucc (n := 2), Fin.sum_univ_castSucc (n := 1), Fin.sum_univ_castSucc (n := 0)]
  unfold stretches
  show (part _ _ _ _ (ix2 r col) : EReal) + part _ _ _ _ (ix2 r col) + part _ _ _ _ (ix2 r col) + part _ _ _ _ (ix2 r col) + part _ _ _ _ (ix2 r col) + part _ _ _ _ (ix2 r col)
    + part _ _ _ _ (ix2 r col) + part _ _ _ _ (ix2 r col) + part _ _ _ _ (ix2 r col) + part _ _ _ _ (ix2 r col) + part _ _ _ _ (ix2 r col) = _
  rw [part_at x3 x4 x5 h 0, part_at x3 x4 x5 h 256, part_at x3 x4 x5 h 512, part_at x3 x4 x5 h 768, part_at x3 x4 x5 h 1024, part_at x3 x4 x5 h 1280, part_at x3 x4 x5 h 1536,
    part_at x3 x4 x5 h 1792, part_at x3 x4 x5 h 2048, part_at x3 x4 x5 h 2304, part_at x3 x4 x5 h 2560]
  simp

/-- The stored block: each row the sub-layer's output of the block's row. -/
theorem out_apply (r col : Fin 1024) : (out0_6 (F := Ideal) x0 x1 x2 x3 x4 x5 (ix2 r col) : EReal)
    = Swiglu.out (fun j => x0 (ix2 r j)) (fun j => x2 (ix2 0 j)) (fun j => x1 (ix3 0 4 j)) (fun j => x1 (ix3 0 3 j)) (fun j => x1 (ix3 0 5 j))
      (fun j e => x3 (ix2 j e)) (fun j e => x4 (ix2 j e)) (fun e j => x5 (ix2 e j)) col := by
  have e : (stretches (rows x0 x1 x2 x3 x4 x5) x3 x4 x5 (ix2 r col) : EReal) = ∑ e, Swiglu.hidden (Swiglu.modulated (fun j => x0 (ix2 r j)) (fun j => x2 (ix2 0 j)) (fun j => x1 (ix3 0 4 j)) (fun j => x1 (ix3 0 3 j)))
      (fun j e => x3 (ix2 j e)) (fun j e => x4 (ix2 j e)) e * x5 (ix2 e col) :=
    (stretches_apply x3 x4 x5 _ r col).trans (Finset.sum_congr rfl fun e _ => congrArg (fun h => Swiglu.hidden h _ _ e * x5 (ix2 e col)) (funext fun j => rows_apply x0 x1 x2 x3 x4 x5 r j))
  rw [out_eq]
  generalize stretches (rows x0 x1 x2 x3 x4 x5) x3 x4 x5 = A at e ⊢
  unfold Swiglu.out
  rw [← e]
  frame_out
  pointwise

end Cert.Kernel2Ideal.Ffn

end
-- ==== Proof.FfnValue.lean ====
/- The feed-forward call's result is the reference's. -/
module

public import proofs.«01_k».proof.Proof.FfnPayload
public import proofs.«01_k».proof.Proof.FfnRef
public import proofs.«01_k».proof.Proof.Gen.Kernel2Ideal.Value
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- Where each window's block sits at grid point `t`: 1024 rows of the input and output, batch `t / 16`'s modulation, the gain and weights whole. -/
theorem idx : ∀ t : Fin cfg0.N, win0_0.index t = ![t.val, 0] ∧ win0_1.index t = ![t.val / 16, 0, 0] ∧ win0_2.index t = ![0, 0] ∧ win0_3.index t = ![0, 0]
    ∧ win0_4.index t = ![0, 0] ∧ win0_5.index t = ![0, 0] ∧ win0_6.index t = ![t.val, 0] ∧ t.val < 32 :=
  (by decide +kernel : ∀ t : Fin grid0.N, _)

abbrev argX : FVec Ideal S2x16384x1024 .f32 := m ((c : Thread nD τ).loc main_arg0)
abbrev argA : FVec Ideal S2x6144 .f32 := m ((c : Thread nD τ).loc main_arg1)
abbrev argG : FVec Ideal S1024 .f32 := m ((c : Thread nD τ).loc main_arg2)
abbrev argW1 : FVec Ideal S1024x2816 .f32 := m ((c : Thread nD τ).loc main_arg3)
abbrev argW3 : FVec Ideal S1024x2816 .f32 := m ((c : Thread nD τ).loc main_arg4)
abbrev argW2 : FVec Ideal S2816x1024 .f32 := m ((c : Thread nD τ).loc main_arg5)

theorem blk0 (t : Fin cfg0.N) (b : Fin 2) (s : Fin 16384) (r j : Fin 1024) (h : 16384 * b.val + s.val = 1024 * t.val + r.val) :
    (show S1024x1024.Idx → EReal from iblk m c 0 t) (ix2 r j) = argX m c (ix3 b s j) := by
  blk_simp [iblk]
  entry_read
  pointwise
  blk_ext [idx t]

theorem blk1 (t : Fin cfg0.N) (b : Fin 2) (h : b.val = t.val / 16) (i : Fin 6) (j : Fin 1024) :
    (show S1x6x1024.Idx → EReal from iblk m c 1 t) (ix3 0 i j) = Cert.Reference2Ideal.Ffn.chunk (argA m c) b i j := by
  unfold Cert.Reference2Ideal.Ffn.chunk
  blk_simp [iblk]
  entry_read
  pointwise
  blk_ext [idx t]

theorem blk2 (t : Fin cfg0.N) (j : Fin 1024) :
    (show S1x1024.Idx → EReal from iblk m c 2 t) (ix2 0 j) = argG m c (ix1 j) := by
  blk_simp [iblk]
  entry_read
  pointwise
  blk_ext [idx t]

theorem blk3 (t : Fin cfg0.N) (j : Fin 1024) (e : Fin 2816) :
    (show S1024x2816.Idx → EReal from iblk m c 3 t) (ix2 j e) = argW1 m c (ix2 j e) := by
  blk_simp [iblk]
  entry_read
  pointwise
  blk_ext [idx t]

theorem blk4 (t : Fin cfg0.N) (j : Fin 1024) (e : Fin 2816) :
    (show S1024x2816.Idx → EReal from iblk m c 4 t) (ix2 j e) = argW3 m c (ix2 j e) := by
  blk_simp [iblk]
  entry_read
  pointwise
  blk_ext [idx t]

theorem blk5 (t : Fin cfg0.N) (e : Fin 2816) (j : Fin 1024) :
    (show S2816x1024.Idx → EReal from iblk m c 5 t) (ix2 e j) = argW2 m c (ix2 e j) := by
  blk_simp [iblk]
  entry_read
  pointwise
  blk_ext [idx t]

/-- What the call leaves in its result: the reference's array. -/
theorem final : (dats m 0 c).arrAt 6 cfg0.N
    = Cert.Reference2Ideal.Ffn.result (argX m c) (argA m c) (argG m c) (argW1 m c) (argW3 m c) (argW2 m c) := by
  refine (dats m 0 c).arrAt_eq_of_covers 6 _ (by decide +kernel) fun t _ y => ?_
  obtain ⟨r, col, rfl⟩ : ∃ (r col : Fin 1024), y = (ix2 r col : S1024x1024.Idx) := ⟨y 0, y 1, by rw [eq_ix2 y]; idx_ext⟩
  have ht : t.val < 32 := (idx t).2.2.2.2.2.2.2
  blk_simp
  rw [after0_6]
  have hn : (⟨1024 * t.val + r.val, by omega⟩ : Fin 32768).val = 16384 * (⟨t.val / 16, by omega⟩ : Fin 2).val + (⟨(1024 * t.val + r.val) % 16384, by omega⟩ : Fin 16384).val := by
    show 1024 * t.val + r.val = 16384 * (t.val / 16) + (1024 * t.val + r.val) % 16384
    omega
  refine (out_apply _ _ _ _ _ _ r col).trans ?_
  rw [funext fun j => blk0 m c t _ _ r j hn.symm, funext fun j => blk1 m c t ⟨t.val / 16, by omega⟩ rfl 4 j, funext fun j => blk1 m c t ⟨t.val / 16, by omega⟩ rfl 3 j, funext fun j => blk1 m c t ⟨t.val / 16, by omega⟩ rfl 5 j,
    funext fun j => blk2 m c t j, funext fun j => funext fun e => blk3 m c t j e, funext fun j => funext fun e => blk4 m c t j e, funext fun e => funext fun j => blk5 m c t e j]
  refine (Cert.Reference2Ideal.Ffn.result_apply (argX m c) (argA m c) (argG m c) (argW1 m c) (argW3 m c) (argW2 m c) _ _ _ hn col).symm.trans ?_
  refine congrArg (Cert.Reference2Ideal.Ffn.result (argX m c) (argA m c) (argG m c) (argW1 m c) (argW3 m c) (argW2 m c)) ?_
  blk_ext [idx t]

/-- From any inputs, kernel and reference end with the same array. -/
theorem algebraic : Cert.algebraic_Kernel2Ideal_Reference2Ideal := fun m g m' g' _ hag => by
  refine ⟨fun c => Cert.Reference2Ideal.Ffn.result (argX m c) (argA m c) (argG m c) (argW1 m c) (argW3 m c) (argW2 m c), ?_, ?_⟩
  · exact (θ_run Cert.Kernel2Ideal.defs _ _).mono (fun _ h c => ⟨(h c).1.trans (final m c), (h c).2⟩) (Cert.Kernel2Ideal.Value.run_blocks (F := Ideal) m g)
  · refine (θ_run Cert.Reference2Ideal.defs _ _).mono (fun _ h c => ⟨?_, (h c).2⟩) (Cert.Reference2Ideal.Value.run m' g')
    obtain ⟨h0, h1, h2, h3, h4, h5⟩ := hag c
    refine (h c).1.trans ((Cert.Reference2Ideal.Ffn.result_eq m' c).trans ?_)
    rw [h0, h1, h2, h3, h4, h5]

end Cert.Kernel2Ideal.Ffn

end
-- ==== Proof.Inproj.lean ====
/- The order of the projection's columns, as a formula on extended reals. -/
module

public import Idealize.ShloMosaic.PureOps.Ideal
public import Mathlib.Data.EReal.Operations

@[expose] public section

noncomputable section

namespace Cert.Inproj

/-- Column `d` of 256 after the heads' first halves are put before their second halves: where it came from. -/
def perm (d : ℕ) : ℕ := d % 128 / 32 * 64 + d / 128 * 32 + d % 32

/-- The projection's column that stands at column `c` of the array. -/
def src (c : ℕ) : ℕ :=
  if c < 4096 then 2720 + c
  else if c < 5120 then c - 4096
  else if c < 5376 then 1696 + perm (c - 5120)
  else if c < 5632 then 1952 + perm (c - 5376)
  else if c < 6144 then 2208 + (c - 5632)
  else if c < 6656 then 1184 + (c - 6144)
  else if c < 6784 then 1024 + (c - 6656)
  else 1152 + (c - 6848)

theorem src_cases (c : ℕ) : (c < 4096 ∧ src c = 2720 + c) ∨ (4096 ≤ c ∧ c < 5120 ∧ src c = c - 4096) ∨ (5120 ≤ c ∧ c < 5376 ∧ src c = 1696 + perm (c - 5120))
    ∨ (5376 ≤ c ∧ c < 5632 ∧ src c = 1952 + perm (c - 5376)) ∨ (5632 ≤ c ∧ c < 6144 ∧ src c = 2208 + (c - 5632)) ∨ (6144 ≤ c ∧ c < 6656 ∧ src c = 1184 + (c - 6144))
    ∨ (6656 ≤ c ∧ c < 6784 ∧ src c = 1024 + (c - 6656)) ∨ (6784 ≤ c ∧ src c = 1152 + (c - 6848)) := by
  unfold src
  split_ifs <;> omega

/-- The columns that hold zeros. -/
def isPad (c : ℕ) : Prop := (6784 ≤ c ∧ c < 6848) ∨ 6880 ≤ c

instance (c : ℕ) : Decidable (isPad c) := inferInstanceAs (Decidable (_ ∨ _))

theorem perm_lt (d : ℕ) (h : d < 256) : perm d < 256 := by unfold perm; omega

theorem src_lt (c : ℕ) (h : c < 6912) (hp : ¬isPad c) : src c < 6816 := by
  have := perm_lt (c - 5120)
  have := perm_lt (c - 5376)
  unfold isPad at hp
  unfold src
  split_ifs <;> omega

/-- A row of the projection in the array's order. -/
def arrange (w : Fin 6816 → EReal) (c : Fin 6912) : EReal :=
  if h : isPad c.val then 0 else w ⟨src c.val, src_lt c.val c.isLt h⟩

theorem arrange_of {w : Fin 6816 → EReal} {c : Fin 6912} (hp : ¬isPad c.val) (i : Fin 6816) (hi : i.val = src c.val) : w i = arrange w c := by
  unfold arrange
  rw [dif_neg hp]
  exact congrArg w (Fin.ext hi)

theorem arrange_pad {w : Fin 6816 → EReal} {c : Fin 6912} (hp : isPad c.val) : 0 = arrange w c := by
  unfold arrange
  rw [dif_pos hp]

/-- A product with the columns in the array's order is the product in the array's order. -/
theorem sum_arrange (h : Fin 1024 → EReal) (w : Fin 1024 → Fin 6816 → EReal) (c : Fin 6912) :
    ∑ j, h j * arrange (w j) c = arrange (fun e => ∑ j, h j * w j e) c := by
  unfold arrange
  split_ifs
  · simp
  · rfl

end Cert.Inproj

end
-- ==== Proof.InprojRef.lean ====
/- The projection reference's result at an index. -/
module

public import proofs.«01_k».proof.Proof.Gen.Reference3Ideal
public import proofs.«01_k».proof.Proof.Gen.Reference3Ideal.Run
public import proofs.«01_k».proof.Proof.Inproj
public import proofs.«01_k».proof.Proof.Swiglu
public import proofs.«01_k».proof.Defs
public import Idealize.ShloMosaic.Lib.Claim
public import Idealize.ShloMosaic.PureOps.Reduce
public import Idealize.ShloMosaic.Lib.Pointwise
public import Idealize.ShloMosaic.PureOps.Ideal

@[expose] public section

set_option maxRecDepth 16384

noncomputable section

namespace Cert.Reference3Ideal.Proj

open Cert.Reference3Ideal Cert.Reference3Ideal.Gen
open Idealize.ShloMosaic Idealize.ShloMosaic.TcCoe Idealize.SL.Sem

theorem frame : Cert.quiescent_Reference3Ideal := fun m g _ =>
  (θ_run Cert.Reference3Ideal.defs _ _).mono (fun r h => ⟨fun c => (h c).2.2.2.2,
    Idealize.ShloMosaic.sem_eq_zero_of_no_sems (by decide) r.2⟩) (Cert.Reference3Ideal.Value.run m g)

/-- The input normalized to unit mean square, times the gain, scaled and shifted. -/
def modulated (x : FVec Ideal S2x16384x1024 .f32) (ada : FVec Ideal S2x6144 .f32) (g : FVec Ideal S1024 .f32) : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 ada) slices_S2x1x6144_S2x1x1024_0_0_1024)))) (broadcastInDim S2x16384x1024 ![0, 1, 2] bcast_S2x1x1024_S2x16384x1024_0_1_2 (extractStridedSlice S2x1x1024 ![0, 0, 0] (broadcastInDim S2x1x6144 ![0, 2] bcast_S2x6144_S2x1x6144_0_2 ada) slices_S2x1x6144_S2x1x1024_0_0_0))

/-- The heads' first halves, then their second halves. -/
def halves (A : FVec Ideal S2x16384x256 .f32) : FVec Ideal S2x16384x256 .f32 :=
  shapeCast _ (transpose S2x16384x2x4x32 [0, 1, 3, 2, 4] (shapeCast _ A shapeCasts_S2x16384x256_S2x16384x4x2x32) transposes_S2x16384x4x2x32_S2x16384x2x4x32_0_1_3_2_4) shapeCasts_S2x16384x2x4x32_S2x16384x256

/-- The projection's parts side by side. -/
def parts (P : FVec Ideal S2x16384x6816 .f32) : FVec Ideal S2x16384x6912 .f32 :=
  (concatenate S2x16384x6912 2 [⟨S2x16384x4096, ((extractStridedSlice S2x16384x4096 ![0, 0, 2720] P slices_S2x16384x6816_S2x16384x4096_0_0_2720) : (⟨S2x16384x4096, .f32⟩ : BufTy).Contents (Elt Ideal))⟩, ⟨S2x16384x256, ((extractStridedSlice S2x16384x256 ![0, 0, 0] P slices_S2x16384x6816_S2x16384x256_0_0_0) : (⟨S2x16384x256, .f32⟩ : BufTy).Contents (Elt Ideal))⟩, ⟨S2x16384x256, ((extractStridedSlice S2x16384x256 ![0, 0, 256] P slices_S2x16384x6816_S2x16384x256_0_0_256) : (⟨S2x16384x256, .f32⟩ : BufTy).Contents (Elt Ideal))⟩, ⟨S2x16384x256, ((extractStridedSlice S2x16384x256 ![0, 0, 512] P slices_S2x16384x6816_S2x16384x256_0_0_512) : (⟨S2x16384x256, .f32⟩ : BufTy).Contents (Elt Ideal))⟩, ⟨S2x16384x256, ((extractStridedSlice S2x16384x256 ![0, 0, 768] P slices_S2x16384x6816_S2x16384x256_0_0_768) : (⟨S2x16384x256, .f32⟩ : BufTy).Contents (Elt Ideal))⟩, ⟨S2x16384x256, ((halves (extractStridedSlice S2x16384x256 ![0, 0, 1696] P slices_S2x16384x6816_S2x16384x256_0_0_1696)) : (⟨S2x16384x256, .f32⟩ : BufTy).Contents (Elt Ideal))⟩, ⟨S2x16384x256, ((halves (extractStridedSlice S2x16384x256 ![0, 0, 1952] P slices_S2x16384x6816_S2x16384x256_0_0_1952)) : (⟨S2x16384x256, .f32⟩ : BufTy).Contents (Elt Ideal))⟩, ⟨S2x16384x256, ((extractStridedSlice S2x16384x256 ![0, 0, 2208] P slices_S2x16384x6816_S2x16384x256_0_0_2208) : (⟨S2x16384x256, .f32⟩ : BufTy).Contents (Elt Ideal))⟩, ⟨S2x16384x256, ((extractStridedSlice S2x16384x256 ![0, 0, 2464] P slices_S2x16384x6816_S2x16384x256_0_0_2464) : (⟨S2x16384x256, .f32⟩ : BufTy).Contents (Elt Ideal))⟩, ⟨S2x16384x256, ((extractStridedSlice S2x16384x256 ![0, 0, 1184] P slices_S2x16384x6816_S2x16384x256_0_0_1184) : (⟨S2x16384x256, .f32⟩ : BufTy).Contents (Elt Ideal))⟩, ⟨S2x16384x256, ((extractStridedSlice S2x16384x256 ![0, 0, 1440] P slices_S2x16384x6816_S2x16384x256_0_0_1440) : (⟨S2x16384x256, .f32⟩ : BufTy).Contents (Elt Ideal))⟩, ⟨S2x16384x128, ((extractStridedSlice S2x16384x128 ![0, 0, 1024] P slices_S2x16384x6816_S2x16384x128_0_0_1024) : (⟨S2x16384x128, .f32⟩ : BufTy).Contents (Elt Ideal))⟩, ⟨S2x16384x64, ((shapeCast _ (broadcastInDim S2x16384x1x64 ![0, 1, 2] bcast_S2x16384x1_S2x16384x1x64_0_1_2 (broadcastInDim S2x16384x1 ![] bcast_S_S2x16384x1 (constant (F := Ideal) S_ .f32 0x00000000#32 : FVec Ideal S_ .f32))) shapeCasts_S2x16384x1x64_S2x16384x64) : FVec Ideal S2x16384x64 .f32)⟩, ⟨S2x16384x32, ((extractStridedSlice S2x16384x32 ![0, 0, 1152] P slices_S2x16384x6816_S2x16384x32_0_0_1152) : (⟨S2x16384x32, .f32⟩ : BufTy).Contents (Elt Ideal))⟩, ⟨S2x16384x32, ((shapeCast _ (broadcastInDim S2x16384x1x32 ![0, 1, 2] bcast_S2x16384x1_S2x16384x1x32_0_1_2 (broadcastInDim S2x16384x1 ![] bcast_S_S2x16384x1 (constant (F := Ideal) S_ .f32 0x00000000#32 : FVec Ideal S_ .f32))) shapeCasts_S2x16384x1x32_S2x16384x32) : FVec Ideal S2x16384x32 .f32)⟩] concatenates_S2x16384x4096_S2x16384x256_S2x16384x256_S2x16384x256_S2x16384x256_S2x16384x256_S2x16384x256_S2x16384x256_S2x16384x256_S2x16384x256_S2x16384x256_S2x16384x128_S2x16384x64_S2x16384x32_S2x16384x32_S2x16384x6912_d2 : (⟨S2x16384x6912, .f32⟩ : BufTy).Contents (Elt Ideal))

/-- The same with one row per token. -/
def arranged (P : FVec Ideal S2x16384x6816 .f32) : FVec Ideal S32768x6912 .bf16 :=
  truncf .bf16 (shapeCast _ (parts P) shapeCasts_S2x16384x6912_S32768x6912) bitsLt_bf16_f32

/-- The product of the modulated input with the weights. -/
def product (h : FVec Ideal S2x16384x1024 .f32) (w : FVec Ideal S1024x6816 .f32) : FVec Ideal S2x16384x6816 .f32 :=
  Host.dotGeneral dot_S2x16384x1024_S1024x6816_S2x16384x6816_2_0_01_1_n_n none h w

/-- The reference's result. -/
def result (x : FVec Ideal S2x16384x1024 .f32) (ada : FVec Ideal S2x6144 .f32) (g : FVec Ideal S1024 .f32) (w : FVec Ideal S1024x6816 .f32) : FVec Ideal S32768x6912 .bf16 :=
  arranged (product (modulated x ada g) w)

/-- Entry `j` of chunk `i` of a batch's modulation vector. -/
def chunk (ada : S2x6144.Idx → EReal) (b : Fin 2) (i : Fin 6) (j : Fin 1024) : EReal := ada (ix2 b (⟨1024 * i.val + j.val, by omega⟩ : Fin 6144))

theorem modulated_apply (x : FVec Ideal S2x16384x1024 .f32) (ada : FVec Ideal S2x6144 .f32) (g : FVec Ideal S1024 .f32) (b : Fin 2) (s : Fin 16384) (k : Fin 1024) :
    (modulated x ada g (ix3 b s k) : EReal) = Swiglu.modulated (fun j => x (ix3 b s j)) (fun j => g (ix1 j)) (chunk ada b 1) (chunk ada b 0) k := by
  unfold modulated Swiglu.modulated chunk
  pointwise

theorem product_apply (h : FVec Ideal S2x16384x1024 .f32) (w : FVec Ideal S1024x6816 .f32) (b : Fin 2) (s : Fin 16384) (e : Fin 6816) :
    (product h w (ix3 b s e) : EReal) = ∑ j, h (ix3 b s j) * w (ix2 j e) := by
  unfold product
  pointwise

theorem halves_apply (A : FVec Ideal S2x16384x256 .f32) (b : Fin 2) (s : Fin 16384) (d : Fin 256) :
    (halves A (ix3 b s d) : EReal) = A (ix3 b s (⟨Inproj.perm d.val, Inproj.perm_lt _ d.isLt⟩ : Fin 256)) := by
  unfold halves
  pointwise
  refine congrArg (fun i => A (ix3 b s i)) (Fin.ext ?_)
  show d.val / 32 % 4 * 64 + d.val / 128 * 32 + d.val % 32 = Inproj.perm d.val
  unfold Inproj.perm
  omega

theorem rung {p : Prop} [Decidable p] {a : p → EReal} {b : ¬p → EReal} {r : EReal} (h1 : ∀ h, a h = r) (h2 : ∀ h, b h = r) : dite p a b = r := by
  split_ifs with h
  · exact h1 h
  · exact h2 h

set_option maxHeartbeats 1000000 in
theorem parts_apply (P : FVec Ideal S2x16384x6816 .f32) (b : Fin 2) (s : Fin 16384) (c : Fin 6912) :
    (parts P (ix3 b s c) : EReal) = Inproj.arrange (fun e => P (ix3 b s e)) c := by
  have hv : ∀ k : Fin 6912, k.val < 6912 := fun k => k.isLt
  have hc := hv c
  unfold parts
  pointwise
  simp only [Nat.sub_sub, Nat.reduceAdd]
  repeat' refine rung (fun _ => ?_) (fun _ => ?_)
  all_goals first
    | exact Inproj.arrange_pad (by unfold Inproj.isPad; omega)
    | exact Inproj.arrange_of (w := fun e => P (ix3 b s e)) (by unfold Inproj.isPad; omega) _ (by dsimp only; have := Inproj.src_cases c.val; omega)
    | (refine (halves_apply _ b s _).trans ?_
       pointwise
       exact Inproj.arrange_of (w := fun e => P (ix3 b s e)) (by unfold Inproj.isPad; omega) _ (by dsimp only; have := Inproj.src_cases c.val; omega))

theorem arranged_apply (P : FVec Ideal S2x16384x6816 .f32) (b : Fin 2) (s : Fin 16384) (n : Fin 32768) (hn : n.val = 16384 * b.val + s.val) (c : Fin 6912) :
    (arranged P (ix2 n c) : EReal) = Inproj.arrange (fun e => P (ix3 b s e)) c := by
  have hb : (⟨n.val / 16384, by omega⟩ : Fin 2) = b := Fin.ext (by show n.val / 16384 = b.val; omega)
  have hs : (⟨n.val % 16384, by omega⟩ : Fin 16384) = s := Fin.ext (by show n.val % 16384 = s.val; omega)
  unfold arranged
  pointwise
  rw [hb, hs]
  exact parts_apply P b s c

/-- The reference's result at token `s` of batch `b`, column `c`. -/
theorem result_apply (x : FVec Ideal S2x16384x1024 .f32) (ada : FVec Ideal S2x6144 .f32) (g : FVec Ideal S1024 .f32) (w : FVec Ideal S1024x6816 .f32)
    (b : Fin 2) (s : Fin 16384) (n : Fin 32768) (hn : n.val = 16384 * b.val + s.val) (c : Fin 6912) :
    (result x ada g w (ix2 n c) : EReal)
    = Inproj.arrange (fun e => ∑ j, Swiglu.modulated (fun j => x (ix3 b s j)) (fun j => g (ix1 j)) (chunk ada b 1) (chunk ada b 0) j * w (ix2 j e)) c := by
  refine (arranged_apply _ b s n hn c).trans (congrArg (fun f => Inproj.arrange f c) (funext fun e => ?_))
  exact (product_apply _ w b s e).trans (Finset.sum_congr rfl fun j _ => congrArg (· * w (ix2 j e)) (modulated_apply x ada g b s j))

end Cert.Reference3Ideal.Proj

end
-- ==== Proof.InprojPayload.lean ====
/- What the projection kernel stores of its blocks, at an index. -/
module

public import proofs.«01_k».proof.Proof.Gen.Kernel3Ideal.Frame
public import proofs.«01_k».proof.Proof.Swiglu
public import Idealize.ShloMosaic.Lib.Pipeline.ValueKit
public import Idealize.ShloMosaic.Lib.Pointwise
public import Idealize.ShloMosaic.PureOps.Ideal

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

/-- The product of the modulated rows with 768 columns of the weights. -/
def proj (h : FVec Ideal S512x1024 .bf16) (a : FVec Ideal S1024x768 .bf16) : FVec Ideal S512x768 .bf16 :=
  truncf .bf16 (matmul dot_S512x1024_S1024x768_S512x768_1_0_0_1_n_n none h (shapeCast S1024x768 a shapeCasts_S1024x768_S1024x768) (constant S512x768 .f32 0x00000000#32)) bitsLt_bf16_f32

theorem proj_apply (h : FVec Ideal S512x1024 .bf16) (a : FVec Ideal S1024x768 .bf16) (r : Fin 512) (k : Fin 768) :
    (proj h a (ix2 r k) : EReal) = ∑ j, h (ix2 r j) * a (ix2 j k) := by
  unfold proj
  pointwise

/-- A product is the whole product's entry when its weights are the columns the entry lies in. -/
theorem proj_eq (h : FVec Ideal S512x1024 .bf16) (x3 : FVec Ideal S1024x6912 .bf16) (a : FVec Ideal S1024x768 .bf16) (r : Fin 512) (c : Fin 6912) (x : S512x768.Idx)
    (h0 : r.val = (x 0).val) (ha : ∀ (j : Fin 1024) (k : Fin 768), k.val = (x 1).val → a (ix2 j k) = x3 (ix2 j c)) :
    (proj h a x : EReal) = ∑ j, h (ix2 r j) * x3 (ix2 j c) := by
  obtain ⟨r', k, rfl⟩ : ∃ (r : Fin 512) (k : Fin 768), x = (ix2 r k : S512x768.Idx) := ⟨x 0, x 1, by rw [eq_ix2 x]; idx_ext⟩
  obtain rfl : r = r' := Fin.ext h0
  rw [proj_apply]
  exact Finset.sum_congr rfl fun j _ => congrArg (h (ix2 r j) * ·) (ha j k rfl)

variable (x0 : FVec Ideal S512x1024 .f32) (x1 : FVec Ideal S1x6x1024 .f32) (x2 : FVec Ideal S1x1024 .f32) (x3 : FVec Ideal S1024x6912 .bf16) (x4 : FVec Ideal S512x128 .f32) (x5 : FVec Ideal S512x128 .f32)
  (x6 : FVec Ideal S1x256 .f32) (x7 : FVec Ideal S256x512 .bf16) (x8 : FVec Ideal S256x512 .bf16) (x9 : FVec Ideal S1x128 .f32) (x10 : FVec Ideal S128x512 .bf16) (x11 : FVec Ideal S128x512 .bf16)
  (x12 : FVec Ideal S1x128 .f32) (x13 : FVec Ideal S1x128 .f32) (x14 : FVec Ideal S1x128 .f32) (x15 : FVec Ideal S1x128 .f32) (x16 : FVec Ideal S1x128 .f32) (x17 : FVec Ideal S1x128 .f32)
  (x18 : FVec Ideal S1x512 .f32) (x19 : FVec Ideal S128x128 .bf16)

/-- The modulated rows of a block. -/
abbrev rows : FVec Ideal S512x1024 .bf16 := k0_pay40 (F := Ideal) x0 x1 x2 x3 x4 x5 x6 x7 x8 x9 x10 x11 x12 x13 x14 x15 x16 x17 x18 x19

theorem rows_apply (r : Fin 512) (k : Fin 1024) :
    (rows x0 x1 x2 x3 x4 x5 x6 x7 x8 x9 x10 x11 x12 x13 x14 x15 x16 x17 x18 x19 (ix2 r k) : EReal)
    = Swiglu.modulated (fun j => x0 (ix2 r j)) (fun j => x2 (ix2 0 j)) (fun j => x1 (ix3 0 1 j)) (fun j => x1 (ix3 0 0 j)) k := by
  unfold rows k0_pay40 Swiglu.modulated
  frame_out
  pointwise [k0_pay3]

/-- The nine products as the kernel stores them, the last first. -/
def stored (h : FVec Ideal S512x1024 .bf16) (x3 : FVec Ideal S1024x6912 .bf16) : Vec Ideal S512x6912 .bf16 :=
  View.canon [⟨r0_33, proj h (View.ld (show Vec Ideal S1024x6912 .bf16 from x3) r0_32)⟩, ⟨r0_31, proj h (View.ld (show Vec Ideal S1024x6912 .bf16 from x3) r0_30)⟩,
    ⟨r0_29, proj h (View.ld (show Vec Ideal S1024x6912 .bf16 from x3) r0_28)⟩, ⟨r0_27, proj h (View.ld (show Vec Ideal S1024x6912 .bf16 from x3) r0_26)⟩,
    ⟨r0_25, proj h (View.ld (show Vec Ideal S1024x6912 .bf16 from x3) r0_24)⟩, ⟨r0_23, proj h (View.ld (show Vec Ideal S1024x6912 .bf16 from x3) r0_22)⟩,
    ⟨r0_21, proj h (View.ld (show Vec Ideal S1024x6912 .bf16 from x3) r0_20)⟩, ⟨r0_7, proj h (View.ld (show Vec Ideal S1024x6912 .bf16 from x3) r0_6)⟩,
    ⟨r0_5, proj h (View.ld (show Vec Ideal S1024x6912 .bf16 from x3) r0_4)⟩]

theorem out_eq : out0_20 (F := Ideal) x0 x1 x2 x3 x4 x5 x6 x7 x8 x9 x10 x11 x12 x13 x14 x15 x16 x17 x18 x19
    = stored (rows x0 x1 x2 x3 x4 x5 x6 x7 x8 x9 x10 x11 x12 x13 x14 x15 x16 x17 x18 x19) x3 := by
  unfold out0_20 stored rows proj k0_pay42 k0_pay40
  rfl

theorem stored_apply (h : FVec Ideal S512x1024 .bf16) (x3 : FVec Ideal S1024x6912 .bf16) (r : Fin 512) (c : Fin 6912) :
    (stored h x3 (ix2 r c) : EReal) = ∑ j, h (ix2 r j) * x3 (ix2 j c) := by
  unfold stored
  canon_tiles x h
  all_goals
    refine proj_eq h x3 _ r c x h0 fun j k hk => congrArg x3 (funext fun (a : Fin 2) => Fin.ext ?_)
    have e1 : c.val = _ := h1
    fin_cases a
    · show 0 + 1 * j.val = j.val
      omega
    · rw [← hk] at e1
      first
        | exact (congrArg (_ + ·) (Nat.one_mul k.val)).trans e1.symm
        | exact ((congrArg (_ + ·) (Nat.one_mul k.val)).trans (Nat.zero_add _)).trans e1.symm

/-- The stored block: each row the modulated row times the weights. -/
theorem out_apply (r : Fin 512) (c : Fin 6912) : (out0_20 (F := Ideal) x0 x1 x2 x3 x4 x5 x6 x7 x8 x9 x10 x11 x12 x13 x14 x15 x16 x17 x18 x19 (ix2 r c) : EReal)
    = ∑ j, Swiglu.modulated (fun j => x0 (ix2 r j)) (fun j => x2 (ix2 0 j)) (fun j => x1 (ix3 0 1 j)) (fun j => x1 (ix3 0 0 j)) j * x3 (ix2 j c) := by
  rw [out_eq]
  exact (stored_apply _ x3 r c).trans (Finset.sum_congr rfl fun j _ => congrArg (· * x3 (ix2 j c)) (rows_apply x0 x1 x2 x3 x4 x5 x6 x7 x8 x9 x10 x11 x12 x13 x14 x15 x16 x17 x18 x19 r j))

end Cert.Kernel3Ideal.Proj

end
-- ==== Proof.Latent.lean ====
/- The values that the latent attention reads, as a formula on extended reals. -/
module

public import Idealize.ShloMosaic.PureOps.Ideal
public import Mathlib.Data.EReal.Operations

@[expose] public section

noncomputable section

namespace Cert.Latent

open Idealize.ShloMosaic

/-- A row normalized to unit mean square over `cnt` entries, times the gain. -/
def normed {n : ℕ} (cnt : EReal) (a g : Fin n → EReal) (j : Fin n) : EReal :=
  a j * Ideal.rsqrt (Ideal.div (∑ i, a i * a i) cnt + Ideal.ofBits .f32 0x358637BD#32) * g j

/-- Lane `l` of the values: a head's 64 values, a one, and zeros. -/
def value (a g : Fin 128 → EReal) (w : Fin 128 → Fin 512 → EReal) (l : Fin 512) : EReal :=
  if l.val % 128 < 64 then ∑ j, normed (Ideal.ofBits .f32 0x43000000#32) a g j * w j ⟨l.val / 128 * 128 + 64 + l.val % 64, by omega⟩
  else if l.val % 128 = 64 then 1 else 0

end Cert.Latent

end
-- ==== Proof.LatentPayload.lean ====
/- The values that the projection kernel stores of its blocks, at an index. -/
module

public import proofs.«01_k».proof.Proof.InprojPayload
public import proofs.«01_k».proof.Proof.Latent

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

theorem values_apply (p : FVec Ideal S512x768 .bf16) (g : FVec Ideal S1x128 .f32) (w : FVec Ideal S128x512 .bf16) (u : FVec Ideal S1x512 .f32) (r : Fin 512) (l : Fin 512) :
    (k0_pay16 (F := Ideal) (k0_pay12 p) (k0_pay13 p) g w u (ix2 r l) : EReal)
    = ∑ j, Latent.normed (Ideal.ofBits .f32 0x43000000#32) (fun i : Fin 128 => p (ix2 r (⟨512 + i.val, by omega⟩ : Fin 768))) (fun i => g (ix2 0 i)) j * w (ix2 j l) + u (ix2 0 l) := by
  unfold Latent.normed
  pointwise [k0_pay16, k0_pay14, k0_pay13, k0_pay12]

variable (x0 : FVec Ideal S512x1024 .f32) (x1 : FVec Ideal S1x6x1024 .f32) (x2 : FVec Ideal S1x1024 .f32) (x3 : FVec Ideal S1024x6912 .bf16) (x4 : FVec Ideal S512x128 .f32) (x5 : FVec Ideal S512x128 .f32)
  (x6 : FVec Ideal S1x256 .f32) (x7 : FVec Ideal S256x512 .bf16) (x8 : FVec Ideal S256x512 .bf16) (x9 : FVec Ideal S1x128 .f32) (x10 : FVec Ideal S128x512 .bf16) (x11 : FVec Ideal S128x512 .bf16)
  (x12 : FVec Ideal S1x128 .f32) (x13 : FVec Ideal S1x128 .f32) (x14 : FVec Ideal S1x128 .f32) (x15 : FVec Ideal S1x128 .f32) (x16 : FVec Ideal S1x128 .f32) (x17 : FVec Ideal S1x128 .f32)
  (x18 : FVec Ideal S1x512 .f32) (x19 : FVec Ideal S128x128 .bf16)

/-- The product's columns 6144 to 6911. -/
theorem tail_apply (r : Fin 512) (i : Fin 768) :
    (k0_pay42 (F := Ideal) x0 x1 x2 x3 x4 x5 x6 x7 x8 x9 x10 x11 x12 x13 x14 x15 x16 x17 x18 x19 (ix2 r i) : EReal)
    = ∑ j, Swiglu.modulated (fun j => x0 (ix2 r j)) (fun j => x2 (ix2 0 j)) (fun j => x1 (ix3 0 1 j)) (fun j => x1 (ix3 0 0 j)) j * x3 (ix2 j (⟨6144 + i.val, by omega⟩ : Fin 6912)) := by
  have h : k0_pay42 (F := Ideal) x0 x1 x2 x3 x4 x5 x6 x7 x8 x9 x10 x11 x12 x13 x14 x15 x16 x17 x18 x19
      = proj (rows x0 x1 x2 x3 x4 x5 x6 x7 x8 x9 x10 x11 x12 x13 x14 x15 x16 x17 x18 x19) (View.ld (show Vec Ideal S1024x6912 .bf16 from x3) r0_6) := by
    unfold rows proj k0_pay42 k0_pay40
    rfl
  rw [h, proj_apply]
  refine Finset.sum_congr rfl fun j _ => ?_
  rw [rows_apply]
  refine congrArg (_ * x3 ·) (funext fun (a : Fin 2) => Fin.ext ?_)
  fin_cases a
  · show 0 + 1 * j.val = j.val
    omega
  · show 6144 + 1 * i.val = 6144 + i.val
    omega

theorem outV_apply (r : Fin 512) (l : Fin 512) : (out0_23 (F := Ideal) x0 x1 x2 x3 x4 x5 x6 x7 x8 x9 x10 x11 x12 x13 x14 x15 x16 x17 x18 x19 (ix2 r l) : EReal)
    = ∑ j, Latent.normed (Ideal.ofBits .f32 0x43000000#32)
        (fun i : Fin 128 => ∑ j, Swiglu.modulated (fun j => x0 (ix2 r j)) (fun j => x2 (ix2 0 j)) (fun j => x1 (ix3 0 1 j)) (fun j => x1 (ix3 0 0 j)) j * x3 (ix2 j (⟨6656 + i.val, by omega⟩ : Fin 6912)))
        (fun i => x9 (ix2 0 i)) j * x11 (ix2 j l) + x18 (ix2 0 l) := by
  unfold out0_23 k0_pay48
  frame_out
  refine (values_apply _ x9 x11 x18 r l).trans ?_
  refine congrArg (fun f : Fin 128 → EReal => ∑ j, Latent.normed (Ideal.ofBits .f32 0x43000000#32) f (fun i => x9 (ix2 0 i)) j * x11 (ix2 j l) + x18 (ix2 0 l)) (funext fun i => ?_)
  refine (tail_apply x0 x1 x2 x3 x4 x5 x6 x7 x8 x9 x10 x11 x12 x13 x14 x15 x16 x17 x18 x19 r _).trans ?_
  refine Finset.sum_congr rfl fun j _ => congrArg (_ * x3 ·) ?_
  refine congrArg (ix2 j) (Fin.ext ?_)
  show 6144 + (512 + i.val) = 6656 + i.val
  omega

end Cert.Kernel3Ideal.Proj

end
-- ==== Proof.Softmax.lean ====
/- The softmax algebra: a weighted mean does not depend on the factor all its weights share. -/
module

public import Idealize.ShloMosaic.PureOps.Ideal
public import Mathlib.Data.EReal.Operations
public import Mathlib.Analysis.SpecialFunctions.Pow.Real

@[expose] public section

noncomputable section

namespace Cert.Softmax

open Idealize.ShloMosaic

variable {ι : Type} [Fintype ι]

/-- A nonnegative real factor distributes over a sum of extended reals. -/
theorem sum_mul_real (S : Finset ι) (f : ι → EReal) (a : ℝ) (ha : 0 ≤ a) : (∑ s ∈ S, f s) * (a : EReal) = ∑ s ∈ S, f s * (a : EReal) := by
  classical
  induction S using Finset.induction_on with
  | empty => simp
  | insert x S hx ih =>
    rw [Finset.sum_insert hx, Finset.sum_insert hx, EReal.right_distrib_of_nonneg_of_ne_top (by exact_mod_cast ha) (EReal.coe_ne_top a), ih]

/-- A sum of reals, read as extended reals. -/
theorem coe_sum (S : Finset ι) (f : ι → ℝ) : ((∑ s ∈ S, f s : ℝ) : EReal) = ∑ s ∈ S, (f s : EReal) := by
  classical
  induction S using Finset.induction_on with
  | empty => simp
  | insert x S hx ih => rw [Finset.sum_insert hx, Finset.sum_insert hx, EReal.coe_add, ih]

theorem coe_ite (p : Prop) [Decidable p] (x : ℝ) : (if p then (x : EReal) else 0) = ((if p then x else 0 : ℝ) : EReal) := by
  split <;> simp

/-- The quotient of the two sums, weights `e^{T s} κ`, is the mean under the weights `e^{T s − M}` over their sum. -/
theorem mean_eq (P : ι → Prop) [DecidablePred P] (T : ι → ℝ) (κ M : ℝ) (hκ : 0 < κ) (v : ι → EReal) (hP : ∃ s, P s) :
    Ideal.div (∑ s, if P s then ((Real.exp (T s) * κ : ℝ) : EReal) * v s else 0) (∑ s, if P s then ((Real.exp (T s) * κ : ℝ) : EReal) * 1 else 0)
      = ∑ s, v s * Ideal.div (if P s then ((Real.exp (T s - M) : ℝ) : EReal) else 0) (∑ s', if P s' then ((Real.exp (T s' - M) : ℝ) : EReal) else 0) := by
  have hZ : 0 < ∑ s, if P s then Real.exp (T s) else 0 := by
    obtain ⟨s, hs⟩ := hP
    refine Finset.sum_pos' (fun i _ => by split <;> positivity) ⟨s, Finset.mem_univ _, by rw [if_pos hs]; positivity⟩
  set Z : ℝ := ∑ s, if P s then Real.exp (T s) else 0 with hZd
  have hL : (∑ s, if P s then ((Real.exp (T s) * κ : ℝ) : EReal) * 1 else 0) = ((Z * κ : ℝ) : EReal) := by
    rw [hZd, Finset.sum_mul, coe_sum]
    refine Finset.sum_congr rfl fun s _ => ?_
    split <;> simp
  have hR : (∑ s', if P s' then ((Real.exp (T s' - M) : ℝ) : EReal) else 0) = ((Z * Real.exp (-M) : ℝ) : EReal) := by
    rw [hZd, Finset.sum_mul, coe_sum]
    refine Finset.sum_congr rfl fun s _ => ?_
    rw [coe_ite, ite_mul, zero_mul, sub_eq_add_neg, Real.exp_add]
  have hZκ : Z * κ ≠ 0 := by positivity
  have hZM : Z * Real.exp (-M) ≠ 0 := by positivity
  rw [hL, hR, Ideal.div_coe hZκ, sum_mul_real _ _ _ (by positivity)]
  refine Finset.sum_congr rfl fun s _ => ?_
  rw [Ideal.div_coe hZM]
  by_cases h : P s
  · rw [if_pos h, if_pos h, mul_comm _ (v s), mul_assoc, ← EReal.coe_mul, ← EReal.coe_mul]
    congr 2
    rw [sub_eq_add_neg, Real.exp_add]
    have := Real.exp_pos (-M)
    field_simp
  · rw [if_neg h, if_neg h, zero_mul, zero_mul, mul_zero]

/-- The largest of finitely many extended reals, none `+∞` and one not `−∞`, is a real. -/
theorem fold_max_real (S : Finset ι) (f : ι → EReal) (h1 : ∀ i ∈ S, f i ≠ ⊤) (h2 : ∃ i ∈ S, f i ≠ ⊥) : ∃ M : ℝ, S.fold max ⊥ f = (M : EReal) := by
  have ht : S.fold max ⊥ f ≠ ⊤ := by
    refine ne_of_lt ?_
    rw [Finset.fold_max_lt]
    exact ⟨bot_lt_top, fun i hi => lt_top_iff_ne_top.mpr (h1 i hi)⟩
  have hb : S.fold max ⊥ f ≠ ⊥ := by
    refine ne_of_gt ?_
    rw [Finset.lt_fold_max]
    obtain ⟨i, hi, h⟩ := h2
    exact Or.inr ⟨i, hi, bot_lt_iff_ne_bot.mpr h⟩
  exact ⟨_, (EReal.coe_toReal ht hb).symm⟩

/-- The base-two exponential of a score scaled by `1 / log 2` and shifted: the exponential, times a factor that does not depend on the score. -/
theorem exp2_scaled (t B : ℝ) : Ideal.exp2 ((t / Real.log 2 - B : ℝ) : EReal) = ((Real.exp t * (2 : ℝ) ^ (-B) : ℝ) : EReal) := by
  rw [Ideal.exp2_coe]
  congr 1
  show (2 : ℝ) ^ (t / Real.log 2 - B) = _
  have hl : Real.log 2 ≠ 0 := by have := Real.log_pos (by norm_num : (1 : ℝ) < 2); positivity
  rw [sub_eq_add_neg, Real.rpow_add (by norm_num)]
  congr 1
  rw [Real.rpow_def_of_pos (by norm_num)]
  congr 1
  field_simp

/-- The scale of the scores, the 96 lanes' inverse square root as a float. -/
def scale : ℝ := (Ideal.ofBits .f32 0x3DD105EC#32 : EReal).toReal

theorem ofBits_real (w : BitVec 32) (h : (w.extractLsb' 23 8).toNat ≠ 255) : ∃ x : ℝ, Ideal.ofBits .f32 w = (x : EReal) := by
  show ∃ x : ℝ, Ideal.ieee 8 23 w = (x : EReal)
  unfold Ideal.ieee
  dsimp only
  rw [if_neg (by simpa using h)]
  split <;> exact ⟨_, rfl⟩

theorem scale_eq : Ideal.ofBits .f32 0x3DD105EC#32 = (scale : EReal) := by
  obtain ⟨x, hx⟩ := ofBits_real 0x3DD105EC#32 (by decide)
  unfold scale
  rw [hx]; rfl

theorem neg_inf : Ideal.ofBits .f32 0xFF800000#32 = ⊥ := by simp [Ideal.ofBits, Ideal.ieee]

theorem two_eq : Ideal.ofBits .f32 0x40000000#32 = ((2 : ℝ) : EReal) := by
  show Ideal.ieee 8 23 0x40000000#32 = _
  unfold Ideal.ieee
  dsimp only
  rw [if_neg (by decide), if_neg (by decide)]
  congr 1
  rw [show (BitVec.extractLsb' (8 + 23) 1 0x40000000#32 == 1#1) = false from by decide,
    show (BitVec.extractLsb' 23 8 0x40000000#32).toNat = 128 from by decide, show (BitVec.extractLsb' 0 23 0x40000000#32).toNat = 0 from by decide]
  norm_num [zpow_neg]

theorem sum_mul_coe {κ : Type} [Fintype κ] (f g : κ → ℝ) : (∑ x, (f x : EReal) * (g x : EReal)) = ((∑ x, f x * g x : ℝ) : EReal) := by
  rw [coe_sum]
  exact Finset.sum_congr rfl fun x _ => (EReal.coe_mul _ _).symm

/-- Comparing two row numbers as words is comparing them. -/
theorem sle_iff (a b : Fin 16384) : IntOp.cmpi CmpIPredicate.sle (BitVec.ofNat 32 a.val) (BitVec.ofNat 32 b.val) = if a.val ≤ b.val then 1#1 else 0#1 := by
  have h (x : Fin 16384) : (BitVec.ofNat 32 x.val).toInt = x.val := by
    rw [BitVec.toInt_eq_toNat_cond, BitVec.toNat_ofNat, Nat.mod_eq_of_lt (by omega), if_pos (by omega)]
  simp only [IntOp.cmpi, BitVec.sle, h]
  by_cases hab : a.val ≤ b.val
  · rw [decide_eq_true (by exact_mod_cast hab), if_pos hab]; rfl
  · rw [decide_eq_false (by exact_mod_cast hab), if_neg hab]; rfl

end Cert.Softmax

end
-- ==== Proof.Rope.lean ====
/- Heads normalized and turned by their position, two ways that agree: 96 entries with the pairs turned one by one, and 128 lanes with the pairs' other halves laid over them. -/
module

public import proofs.«01_k».proof.Proof.Latent
public import proofs.«01_k».proof.Proof.Softmax
public import Mathlib.Data.EReal.Operations

@[expose] public section

noncomputable section

namespace Cert.Latent

open Idealize.ShloMosaic

/-- Where the other half of lane `l`'s pair lies: lanes 64 to 79 pair with lanes 80 to 95, any other lane with itself. -/
def sw (l : ℕ) : ℕ := if l < 64 then l else if l < 80 then l + 16 else if l < 96 then l - 16 else l

theorem sw_lt (l : ℕ) (h : l < 96) : sw l < 96 := by unfold sw; split_ifs <;> omega

/-- 96 entries in the first of 128 lanes, zeros behind. -/
def lanes (z : Fin 96 → EReal) (l : Fin 128) : EReal := if h : l.val < 96 then z ⟨l.val, h⟩ else 0

/-- The entries with the two halves of the turned ones exchanged. -/
def swap (z : Fin 96 → EReal) (i : Fin 96) : EReal := z ⟨sw i.val, sw_lt _ i.isLt⟩

/-- The cosines in the lanes that are turned, ones elsewhere. -/
def cosLane (co : Fin 16 → EReal) (l : Fin 128) : EReal := if 64 ≤ l.val ∧ l.val < 96 then co ⟨l.val % 16, by omega⟩ else 1

/-- The sines in the lanes that are turned, negated in the first half, zeros elsewhere. -/
def sinLane (si : Fin 16 → EReal) (l : Fin 128) : EReal :=
  if l.val < 64 then 0 else if l.val < 80 then -si ⟨l.val % 16, by omega⟩ else if l.val < 96 then si ⟨l.val % 16, by omega⟩ else 0

/-- The last 32 entries turned in pairs. -/
def roped (n : Fin 96 → EReal) (co si : Fin 16 → EReal) (i : Fin 96) : EReal :=
  if h : i.val < 64 then n i
  else if h' : i.val < 80 then n i * co ⟨i.val % 16, by omega⟩ - n ⟨i.val + 16, by omega⟩ * si ⟨i.val % 16, by omega⟩
  else n i * co ⟨i.val % 16, by omega⟩ + n ⟨i.val - 16, by omega⟩ * si ⟨i.val % 16, by omega⟩

/-- A head's 128 lanes: its entries normalized, turned and scaled, then `e`, then zeros. -/
def head (z g : Fin 96 → EReal) (co si : Fin 16 → EReal) (s e : EReal) (l : Fin 128) : EReal :=
  if h : l.val < 96 then roped (normed (Ideal.ofBits .f32 0x42C00000#32) z g) co si ⟨l.val, h⟩ * s else if l.val = 96 then e else 0

/-- Lane `l` of 128 lanes `A`, with `B` their pairs' other halves, weighted, summed and normalized. -/
def turned (inv : EReal) (A B C D u : Fin 128 → EReal) (l : Fin 128) : EReal :=
  (A l * C l + B l * D l) * Ideal.rsqrt ((∑ i, A i * A i) * inv + Ideal.ofBits .f32 0x358637BD#32) + u l

theorem sum_lanes (z : Fin 96 → EReal) : ∑ i, lanes z i * lanes z i = ∑ i, z i * z i := by
  refine (Fin.sum_univ_add (a := 96) (b := 32) fun i => lanes z i * lanes z i).trans ?_
  have h1 : ∀ i : Fin 96, lanes z (Fin.castAdd 32 i : Fin 128) = z i := fun i => dif_pos i.isLt
  have h2 : ∀ i : Fin 32, lanes z (Fin.natAdd 96 i : Fin 128) = 0 := fun i => dif_neg (by show ¬(96 + i.val < 96); omega)
  simp [h1, h2]

theorem cnt_eq : Ideal.ofBits .f32 0x42C00000#32 = ((96 : ℝ) : EReal) := by
  simp [Ideal.ofBits, Ideal.ieee, -EReal.coe_mul]
  norm_num

theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

theorem scale_pos : ∃ e : ℝ, 0 < e ∧ Ideal.ofBits .f32 0x3E16C740#32 = (e : EReal) := by
  refine ⟨9881408 / 67108864, by norm_num, ?_⟩
  simp [Ideal.ofBits, Ideal.ieee, -EReal.coe_mul]
  norm_num

theorem mul_self_nonneg (x : EReal) : 0 ≤ x * x := by
  rcases le_total 0 x with h | h
  · exact EReal.mul_nonneg_iff.mpr (.inl ⟨h, h⟩)
  · exact EReal.mul_nonneg_iff.mpr (.inr ⟨h, h⟩)

/-- The reciprocal root of a sum of squares plus a positive real is not negative and finite. -/
theorem rsqrt_fin (S : EReal) (hS : 0 ≤ S) : 0 ≤ Ideal.rsqrt (S + Ideal.ofBits .f32 0x358637BD#32) ∧ Ideal.rsqrt (S + Ideal.ofBits .f32 0x358637BD#32) ≠ ⊤ := by
  obtain ⟨e, he, h⟩ := eps_pos
  rw [h]
  induction S using EReal.rec with
  | bot => simp at hS
  | top => rw [EReal.top_add_coe]; exact ⟨le_refl _, EReal.zero_ne_top⟩
  | coe x =>
    have hx : 0 ≤ x := EReal.coe_nonneg.mp hS
    rw [← EReal.coe_add]
    have hr : Ideal.rsqrt ((x + e : ℝ) : EReal) = (((Real.sqrt (x + e))⁻¹ : ℝ) : EReal) := by
      show (if x + e < 0 then ⊥ else if x + e = 0 then ⊤ else (((Real.sqrt (x + e))⁻¹ : ℝ) : EReal)) = _
      rw [if_neg (by linarith), if_neg (by linarith)]
    rw [hr]
    exact ⟨EReal.coe_nonneg.mpr (inv_nonneg.mpr (Real.sqrt_nonneg _)), EReal.coe_ne_top _⟩

theorem sum_nonneg (z : Fin 96 → EReal) : 0 ≤ (∑ i, z i * z i) * ((1 / 96 : ℝ) : EReal) :=
  EReal.mul_nonneg (Finset.sum_nonneg fun i _ => mul_self_nonneg (z i)) (EReal.coe_nonneg.mpr (by norm_num))

/-- The lanes are the head. -/
theorem turned_eq (z g : Fin 96 → EReal) (co si : Fin 16 → EReal) (s e : EReal) (hs : 0 ≤ s) (hs' : s ≠ ⊤) (l : Fin 128) :
    turned ((1 / 96 : ℝ) : EReal) (lanes z) (lanes (swap z)) (fun l => cosLane co l * (lanes g l * s)) (fun l => sinLane si l * (lanes (swap g) l * s)) (fun l => if l.val = 96 then e else 0) l
    = head z g co si s e l := by
  obtain ⟨hr, hr'⟩ := rsqrt_fin _ (sum_nonneg z)
  unfold turned head normed
  rw [sum_lanes, cnt_eq, Ideal.div_coe (by norm_num : (96 : ℝ) ≠ 0)]
  generalize Ideal.rsqrt ((∑ i, z i * z i) * ((1 / 96 : ℝ) : EReal) + Ideal.ofBits .f32 0x358637BD#32) = r at hr hr' ⊢
  dsimp only
  by_cases h : l.val < 96
  · have h96 : ¬l.val = 96 := by omega
    rw [dif_pos h, if_neg h96, add_zero]
    have eA : lanes z l = z ⟨l.val, h⟩ := dif_pos h
    have eB : lanes (swap z) l = z ⟨sw l.val, sw_lt _ h⟩ := dif_pos h
    have eC : lanes g l = g ⟨l.val, h⟩ := dif_pos h
    have eD : lanes (swap g) l = g ⟨sw l.val, sw_lt _ h⟩ := dif_pos h
    rw [eA, eB, eC, eD]
    unfold roped
    dsimp only
    by_cases h1 : l.val < 64
    · have c1 : cosLane co l = 1 := if_neg (by omega)
      have s1 : sinLane si l = 0 := if_pos h1
      rw [dif_pos h1, c1, s1, one_mul, zero_mul, mul_zero, add_zero]
      ac_rfl
    · have c1 : cosLane co l = co ⟨l.val % 16, by omega⟩ := if_pos (by omega)
      rw [dif_neg h1, c1]
      by_cases h2 : l.val < 80
      · have s1 : sinLane si l = -si ⟨l.val % 16, by omega⟩ := (if_neg h1).trans (if_pos h2)
        have w : (⟨sw l.val, sw_lt _ h⟩ : Fin 96) = ⟨l.val + 16, by omega⟩ := Fin.ext ((if_neg h1).trans (if_pos h2))
        rw [dif_pos h2, s1, w, EReal.right_distrib_of_nonneg_of_ne_top hr hr', EReal.sub_mul_of_nonneg_of_ne_top hs hs', sub_eq_add_neg, neg_mul, mul_neg, neg_mul]
        refine congrArg₂ (fun a b : EReal => a + -b) ?_ ?_ <;> ac_rfl
      · have s1 : sinLane si l = si ⟨l.val % 16, by omega⟩ := (if_neg h1).trans ((if_neg h2).trans (if_pos h))
        have w : (⟨sw l.val, sw_lt _ h⟩ : Fin 96) = ⟨l.val - 16, by omega⟩ := Fin.ext ((if_neg h1).trans ((if_neg h2).trans (if_pos h)))
        rw [dif_neg h2, s1, w, EReal.right_distrib_of_nonneg_of_ne_top hr hr', EReal.right_distrib_of_nonneg_of_ne_top hs hs']
        refine congrArg₂ (fun a b : EReal => a + b) ?_ ?_ <;> ac_rfl
  · have eA : lanes z l = 0 := dif_neg h
    have eB : lanes (swap z) l = 0 := dif_neg h
    rw [dif_neg h, eA, eB, zero_mul, zero_mul, zero_add, zero_mul, zero_add]

end Cert.Latent

end
-- ==== Proof.HeadPayload.lean ====
/- The queries and keys that the projection kernel stores of its blocks, at an index. -/
module

public import proofs.«01_k».proof.Proof.LatentPayload
public import proofs.«01_k».proof.Proof.Rope

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

/-- One over the number of entries of a head. -/
theorem inv_eq : Named.named (F := Ideal) Cert.Kernel3Ideal.κ "inv_head" (φ := .f32) 0x3C2AAAAB#32 = ((1 / 96 : ℝ) : EReal) :=
  IdealRules.named_const.ideal_named_scalar _ _ _ _ rfl

/-- Lane `i` of head `o` in a row of four heads. -/
abbrev at4 (A : S512x512.Idx → EReal) (r : Fin 512) (o : Fin 4) (i : Fin 128) : EReal := A (ix2 r (⟨128 * o.val + i.val, by omega⟩ : Fin 512))

theorem q0_apply (A B : FVec Ideal S512x512 .f32) (C D : FVec Ideal S512x128 .f32) (u : FVec Ideal S1x128 .f32) (r : Fin 512) (l : Fin 128) :
    (k0_pay23 (F := Ideal) A B C D u (ix2 r l) : EReal) = Latent.turned ((1 / 96 : ℝ) : EReal) (at4 A r 0) (at4 B r 0) (fun i => C (ix2 r i)) (fun i => D (ix2 r i)) (fun i => u (ix2 0 i)) l := by
  rw [← inv_eq]
  unfold Latent.turned at4
  pointwise [k0_pay23]

theorem q1_apply (A B : FVec Ideal S512x512 .f32) (C D : FVec Ideal S512x128 .f32) (u : FVec Ideal S1x128 .f32) (r : Fin 512) (l : Fin 128) :
    (k0_pay26 (F := Ideal) A B C D u (ix2 r l) : EReal) = Latent.turned ((1 / 96 : ℝ) : EReal) (at4 A r 1) (at4 B r 1) (fun i => C (ix2 r i)) (fun i => D (ix2 r i)) (fun i => u (ix2 0 i)) l := by
  rw [← inv_eq]
  unfold Latent.turned at4
  pointwise [k0_pay26]

theorem q2_apply (A B : FVec Ideal S512x512 .f32) (C D : FVec Ideal S512x128 .f32) (u : FVec Ideal S1x128 .f32) (r : Fin 512) (l : Fin 128) :
    (k0_pay29 (F := Ideal) A B C D u (ix2 r l) : EReal) = Latent.turned ((1 / 96 : ℝ) : EReal) (at4 A r 2) (at4 B r 2) (fun i => C (ix2 r i)) (fun i => D (ix2 r i)) (fun i => u (ix2 0 i)) l := by
  rw [← inv_eq]
  unfold Latent.turned at4
  pointwise [k0_pay29]

theorem q3_apply (A B : FVec Ideal S512x512 .f32) (C D : FVec Ideal S512x128 .f32) (u : FVec Ideal S1x128 .f32) (r : Fin 512) (l : Fin 128) :
    (k0_pay32 (F := Ideal) A B C D u (ix2 r l) : EReal) = Latent.turned ((1 / 96 : ℝ) : EReal) (at4 A r 3) (at4 B r 3) (fun i => C (ix2 r i)) (fun i => D (ix2 r i)) (fun i => u (ix2 0 i)) l := by
  rw [← inv_eq]
  unfold Latent.turned at4
  pointwise [k0_pay32]

theorem k1_apply (A : FVec Ideal S512x512 .f32) (a b C D : FVec Ideal S512x128 .f32) (u : FVec Ideal S1x128 .f32) (r : Fin 512) (l : Fin 128) :
    (k0_pay28 (F := Ideal) (k0_pay27 A a b C D) u (ix2 r l) : EReal)
    = Latent.turned ((1 / 96 : ℝ) : EReal) (fun i => at4 A r 1 i + a (ix2 r i)) (fun i => at4 A r 1 i + b (ix2 r i)) (fun i => C (ix2 r i)) (fun i => D (ix2 r i)) (fun i => u (ix2 0 i)) l := by
  rw [← inv_eq]
  unfold Latent.turned at4
  pointwise [k0_pay28, k0_pay27]

theorem k2_apply (A : FVec Ideal S512x512 .f32) (a b C D : FVec Ideal S512x128 .f32) (u : FVec Ideal S1x128 .f32) (r : Fin 512) (l : Fin 128) :
    (k0_pay31 (F := Ideal) (k0_pay30 A a b C D) u (ix2 r l) : EReal)
    = Latent.turned ((1 / 96 : ℝ) : EReal) (fun i => at4 A r 2 i + a (ix2 r i)) (fun i => at4 A r 2 i + b (ix2 r i)) (fun i => C (ix2 r i)) (fun i => D (ix2 r i)) (fun i => u (ix2 0 i)) l := by
  rw [← inv_eq]
  unfold Latent.turned at4
  pointwise [k0_pay31, k0_pay30]

theorem k3_apply (A : FVec Ideal S512x512 .f32) (a b C D : FVec Ideal S512x128 .f32) (u : FVec Ideal S1x128 .f32) (r : Fin 512) (l : Fin 128) :
    (k0_pay34 (F := Ideal) (k0_pay33 A a b C D) u (ix2 r l) : EReal)
    = Latent.turned ((1 / 96 : ℝ) : EReal) (fun i => at4 A r 3 i + a (ix2 r i)) (fun i => at4 A r 3 i + b (ix2 r i)) (fun i => C (ix2 r i)) (fun i => D (ix2 r i)) (fun i => u (ix2 0 i)) l := by
  rw [← inv_eq]
  unfold Latent.turned at4
  pointwise [k0_pay34, k0_pay33]

theorem k0_apply (A : FVec Ideal S512x512 .f32) (a b c d : FVec Ideal S512x128 .f32) (g h u : FVec Ideal S1x128 .f32) (r : Fin 512) (l : Fin 128) :
    (k0_pay25 (F := Ideal) (k0_pay24 c d A a b g h) u (ix2 r l) : EReal)
    = Latent.turned ((1 / 96 : ℝ) : EReal) (fun i => at4 A r 0 i + a (ix2 r i)) (fun i => at4 A r 0 i + b (ix2 r i)) (fun i => c (ix2 r i) * g (ix2 0 i)) (fun i => d (ix2 r i) * h (ix2 0 i)) (fun i => u (ix2 0 i)) l := by
  rw [← inv_eq]
  unfold Latent.turned at4
  pointwise [k0_pay25, k0_pay24, k0_pay22, k0_pay21]

/-- Four heads as the kernel stores them, the last first. -/
def stored4 (p3 p2 p1 p0 : FVec Ideal S512x128 .bf16) : Vec Ideal S512x512 .bf16 := View.canon [⟨r0_19, p3⟩, ⟨r0_18, p2⟩, ⟨r0_17, p1⟩, ⟨r0_16, p0⟩]

theorem stored4_apply (p3 p2 p1 p0 : FVec Ideal S512x128 .bf16) (T : Fin 4 → Fin 128 → EReal) (r : Fin 512) (t0 : ∀ l, (p0 (ix2 r l) : EReal) = T 0 l) (t1 : ∀ l, (p1 (ix2 r l) : EReal) = T 1 l)
    (t2 : ∀ l, (p2 (ix2 r l) : EReal) = T 2 l) (t3 : ∀ l, (p3 (ix2 r l) : EReal) = T 3 l) (c : Fin 512) :
    (stored4 p3 p2 p1 p0 (ix2 r c) : EReal) = T ⟨c.val / 128, by omega⟩ ⟨c.val % 128, by omega⟩ := by
  have key : ∀ (p : FVec Ideal S512x128 .bf16) (o : Fin 4) (_ : ∀ l, (p (ix2 r l) : EReal) = T o l) (x : S512x128.Idx) (_ : r.val = (x 0).val) (_ : c.val = 128 * o.val + (x 1).val),
      (p x : EReal) = T ⟨c.val / 128, by omega⟩ ⟨c.val % 128, by omega⟩ := fun p o hp x e0 e1 => by
    obtain ⟨r', l, rfl⟩ : ∃ (r : Fin 512) (l : Fin 128), x = (ix2 r l : S512x128.Idx) := ⟨x 0, x 1, by rw [eq_ix2 x]; idx_ext⟩
    obtain rfl : r = r' := Fin.ext e0
    have e1' : c.val = 128 * o.val + l.val := e1
    rw [hp, show (⟨c.val / 128, by omega⟩ : Fin 4) = o from Fin.ext (by show c.val / 128 = o.val; omega), show (⟨c.val % 128, by omega⟩ : Fin 128) = l from Fin.ext (by show c.val % 128 = l.val; omega)]
  unfold stored4
  canon_tiles x h
  all_goals
    have e1 : c.val = _ := h1
    first
      | exact key p3 3 t3 x h0 e1
      | exact key p2 2 t2 x h0 e1
      | exact key p1 1 t1 x h0 e1
      | exact key p0 0 t0 x h0 (e1.trans (by show _ = 128 * 0 + (x 1).val; omega))
      | exact key p0 0 t0 x h0 (e1.trans (Nat.zero_add _).symm)

variable (x0 : FVec Ideal S512x1024 .f32) (x1 : FVec Ideal S1x6x1024 .f32) (x2 : FVec Ideal S1x1024 .f32) (x3 : FVec Ideal S1024x6912 .bf16) (x4 : FVec Ideal S512x128 .f32) (x5 : FVec Ideal S512x128 .f32)
  (x6 : FVec Ideal S1x256 .f32) (x7 : FVec Ideal S256x512 .bf16) (x8 : FVec Ideal S256x512 .bf16) (x9 : FVec Ideal S1x128 .f32) (x10 : FVec Ideal S128x512 .bf16) (x11 : FVec Ideal S128x512 .bf16)
  (x12 : FVec Ideal S1x128 .f32) (x13 : FVec Ideal S1x128 .f32) (x14 : FVec Ideal S1x128 .f32) (x15 : FVec Ideal S1x128 .f32) (x16 : FVec Ideal S1x128 .f32) (x17 : FVec Ideal S1x128 .f32)
  (x18 : FVec Ideal S1x512 .f32) (x19 : FVec Ideal S128x128 .bf16)

/-- Entry `e` of row `r` of the whole product. -/
def whole (x0 : FVec Ideal S512x1024 .f32) (x1 : FVec Ideal S1x6x1024 .f32) (x2 : FVec Ideal S1x1024 .f32) (x3 : FVec Ideal S1024x6912 .bf16) (r : Fin 512) (e : Fin 6912) : EReal :=
  ∑ j, Swiglu.modulated (fun j => x0 (ix2 r j)) (fun j => x2 (ix2 0 j)) (fun j => x1 (ix3 0 1 j)) (fun j => x1 (ix3 0 0 j)) j * x3 (ix2 j e)

/-- The product's columns 4608 to 5375. -/
theorem chunk_apply (r : Fin 512) (i : Fin 768) :
    (k0_pay41 (F := Ideal) x0 x1 x2 x3 x4 x5 x6 x7 x8 x9 x10 x11 x12 x13 x14 x15 x16 x17 x18 x19 (ix2 r i) : EReal)
    = whole x0 x1 x2 x3 r (⟨4608 + i.val, by omega⟩ : Fin 6912) := by
  have h : k0_pay41 (F := Ideal) x0 x1 x2 x3 x4 x5 x6 x7 x8 x9 x10 x11 x12 x13 x14 x15 x16 x17 x18 x19
      = proj (rows x0 x1 x2 x3 x4 x5 x6 x7 x8 x9 x10 x11 x12 x13 x14 x15 x16 x17 x18 x19) (View.ld (show Vec Ideal S1024x6912 .bf16 from x3) r0_4) := by
    unfold rows proj k0_pay41 k0_pay40
    rfl
  rw [h, proj_apply]
  refine Finset.sum_congr rfl fun j _ => ?_
  rw [rows_apply]
  refine congrArg (_ * x3 ·) (funext fun (a : Fin 2) => Fin.ext ?_)
  fin_cases a
  · show 0 + 1 * j.val = j.val
    omega
  · show 4608 + 1 * i.val = 4608 + i.val
    omega

theorem up_apply (p : FVec Ideal S512x768 .bf16) (g : FVec Ideal S1x256 .f32) (w : FVec Ideal S256x512 .bf16) (r : Fin 512) (l : Fin 512) :
    (k0_pay10 (F := Ideal) p g w (ix2 r l) : EReal)
    = ∑ j, Latent.normed (Ideal.ofBits .f32 0x43800000#32) (fun i : Fin 256 => p (ix2 r (⟨256 + i.val, by omega⟩ : Fin 768))) (fun i => g (ix2 0 i)) j * w (ix2 j l) := by
  unfold Latent.normed
  pointwise [k0_pay10, k0_pay9]

theorem up'_apply (p : FVec Ideal S512x768 .bf16) (g : FVec Ideal S1x256 .f32) (w : FVec Ideal S256x512 .bf16) (r : Fin 512) (l : Fin 512) :
    (k0_pay11 (F := Ideal) p g w (ix2 r l) : EReal)
    = ∑ j, Latent.normed (Ideal.ofBits .f32 0x43800000#32) (fun i : Fin 256 => p (ix2 r (⟨256 + i.val, by omega⟩ : Fin 768))) (fun i => g (ix2 0 i)) j * w (ix2 j l) := by
  unfold Latent.normed
  pointwise [k0_pay11, k0_pay9]

theorem upK_apply (p : FVec Ideal S512x768 .bf16) (g : FVec Ideal S1x128 .f32) (w : FVec Ideal S128x512 .bf16) (r : Fin 512) (l : Fin 512) :
    (k0_pay15 (F := Ideal) (k0_pay12 p) (k0_pay13 p) g w (ix2 r l) : EReal)
    = ∑ j, Latent.normed (Ideal.ofBits .f32 0x43000000#32) (fun i : Fin 128 => p (ix2 r (⟨512 + i.val, by omega⟩ : Fin 768))) (fun i => g (ix2 0 i)) j * w (ix2 j l) := by
  unfold Latent.normed
  pointwise [k0_pay15, k0_pay14, k0_pay13, k0_pay12]

/-- The product of the normalized compressed queries with weights. -/
def qrow (w : FVec Ideal S256x512 .bf16) (r : Fin 512) (l : Fin 512) : EReal :=
  ∑ j, Latent.normed (Ideal.ofBits .f32 0x43800000#32) (fun i : Fin 256 => whole x0 x1 x2 x3 r (⟨4864 + i.val, by omega⟩ : Fin 6912)) (fun i => x6 (ix2 0 i)) j * w (ix2 j l)

/-- The product of the normalized compressed keys with weights. -/
def krow (w : FVec Ideal S128x512 .bf16) (r : Fin 512) (l : Fin 512) : EReal :=
  ∑ j, Latent.normed (Ideal.ofBits .f32 0x43000000#32) (fun i : Fin 128 => whole x0 x1 x2 x3 r (⟨6656 + i.val, by omega⟩ : Fin 6912)) (fun i => x9 (ix2 0 i)) j * w (ix2 j l)

theorem cq_apply (r : Fin 512) (i : Fin 256) :
    (k0_pay41 (F := Ideal) x0 x1 x2 x3 x4 x5 x6 x7 x8 x9 x10 x11 x12 x13 x14 x15 x16 x17 x18 x19 (ix2 r (⟨256 + i.val, by omega⟩ : Fin 768)) : EReal) = whole x0 x1 x2 x3 r (⟨4864 + i.val, by omega⟩ : Fin 6912) := by
  refine (chunk_apply x0 x1 x2 x3 x4 x5 x6 x7 x8 x9 x10 x11 x12 x13 x14 x15 x16 x17 x18 x19 r _).trans (congrArg (whole x0 x1 x2 x3 r) (Fin.ext ?_))
  show 4608 + (256 + i.val) = 4864 + i.val
  omega

theorem ckv_apply (r : Fin 512) (i : Fin 128) :
    (k0_pay42 (F := Ideal) x0 x1 x2 x3 x4 x5 x6 x7 x8 x9 x10 x11 x12 x13 x14 x15 x16 x17 x18 x19 (ix2 r (⟨512 + i.val, by omega⟩ : Fin 768)) : EReal) = whole x0 x1 x2 x3 r (⟨6656 + i.val, by omega⟩ : Fin 6912) := by
  refine (tail_apply x0 x1 x2 x3 x4 x5 x6 x7 x8 x9 x10 x11 x12 x13 x14 x15 x16 x17 x18 x19 r _).trans (congrArg (whole x0 x1 x2 x3 r) (Fin.ext ?_))
  show 6144 + (512 + i.val) = 6656 + i.val
  omega

theorem kr_apply (r : Fin 512) (i : Fin 128) :
    (k0_pay43 (F := Ideal) x0 x1 x2 x3 x4 x5 x6 x7 x8 x9 x10 x11 x12 x13 x14 x15 x16 x17 x18 x19 (ix2 r i) : EReal) = whole x0 x1 x2 x3 r (⟨6784 + i.val, by omega⟩ : Fin 6912) := by
  have h : ∀ p : FVec Ideal S512x768 .bf16, (k0_pay6 (F := Ideal) p (ix2 r i) : EReal) = p (ix2 r (⟨640 + i.val, by omega⟩ : Fin 768)) := fun p => by
    pointwise [k0_pay6]
  unfold k0_pay43
  refine (h _).trans ((tail_apply x0 x1 x2 x3 x4 x5 x6 x7 x8 x9 x10 x11 x12 x13 x14 x15 x16 x17 x18 x19 r _).trans (congrArg (whole x0 x1 x2 x3 r) (Fin.ext ?_)))
  show 6144 + (640 + i.val) = 6784 + i.val
  omega

theorem qa_apply (r l : Fin 512) : (k0_pay46 (F := Ideal) x0 x1 x2 x3 x4 x5 x6 x7 x8 x9 x10 x11 x12 x13 x14 x15 x16 x17 x18 x19 (ix2 r l) : EReal) = qrow x0 x1 x2 x3 x6 x7 r l := by
  unfold k0_pay46 qrow
  frame_out
  refine (up_apply _ x6 x7 r l).trans ?_
  exact congrArg (fun f : Fin 256 → EReal => ∑ j, Latent.normed (Ideal.ofBits .f32 0x43800000#32) f (fun i => x6 (ix2 0 i)) j * x7 (ix2 j l)) (funext fun i => cq_apply x0 x1 x2 x3 x4 x5 x6 x7 x8 x9 x10 x11 x12 x13 x14 x15 x16 x17 x18 x19 r i)

theorem qb_apply (r l : Fin 512) : (k0_pay47 (F := Ideal) x0 x1 x2 x3 x4 x5 x6 x7 x8 x9 x10 x11 x12 x13 x14 x15 x16 x17 x18 x19 (ix2 r l) : EReal) = qrow x0 x1 x2 x3 x6 x8 r l := by
  unfold k0_pay47 qrow
  frame_out
  refine (up'_apply _ x6 x8 r l).trans ?_
  exact congrArg (fun f : Fin 256 → EReal => ∑ j, Latent.normed (Ideal.ofBits .f32 0x43800000#32) f (fun i => x6 (ix2 0 i)) j * x8 (ix2 j l)) (funext fun i => cq_apply x0 x1 x2 x3 x4 x5 x6 x7 x8 x9 x10 x11 x12 x13 x14 x15 x16 x17 x18 x19 r i)

theorem ka_apply (r l : Fin 512) : (k0_pay50 (F := Ideal) x0 x1 x2 x3 x4 x5 x6 x7 x8 x9 x10 x11 x12 x13 x14 x15 x16 x17 x18 x19 (ix2 r l) : EReal) = krow x0 x1 x2 x3 x9 x10 r l := by
  unfold k0_pay50 k0_pay48 k0_pay49 krow
  frame_out
  refine (upK_apply _ x9 x10 r l).trans ?_
  exact congrArg (fun f : Fin 128 → EReal => ∑ j, Latent.normed (Ideal.ofBits .f32 0x43000000#32) f (fun i => x9 (ix2 0 i)) j * x10 (ix2 j l)) (funext fun i => ckv_apply x0 x1 x2 x3 x4 x5 x6 x7 x8 x9 x10 x11 x12 x13 x14 x15 x16 x17 x18 x19 r i)

theorem kra_apply (r : Fin 512) (l : Fin 128) : (k0_pay51 (F := Ideal) x0 x1 x2 x3 x4 x5 x6 x7 x8 x9 x10 x11 x12 x13 x14 x15 x16 x17 x18 x19 (ix2 r l) : EReal)
    = whole x0 x1 x2 x3 r (⟨6784 + l.val, by omega⟩ : Fin 6912) := by
  have h : ∀ p : FVec Ideal S512x128 .bf16, (k0_pay17 (F := Ideal) p (ix2 r l) : EReal) = p (ix2 r l) := fun p => by
    pointwise [k0_pay17]
  unfold k0_pay51
  exact (h _).trans (kr_apply x0 x1 x2 x3 x4 x5 x6 x7 x8 x9 x10 x11 x12 x13 x14 x15 x16 x17 x18 x19 r l)

theorem krb_apply (r : Fin 512) (l : Fin 128) : (k0_pay52 (F := Ideal) x0 x1 x2 x3 x4 x5 x6 x7 x8 x9 x10 x11 x12 x13 x14 x15 x16 x17 x18 x19 (ix2 r l) : EReal)
    = ∑ j : Fin 128, whole x0 x1 x2 x3 r (⟨6784 + j.val, by omega⟩ : Fin 6912) * x19 (ix2 j l) := by
  have h : ∀ p : FVec Ideal S512x128 .bf16, (k0_pay18 (F := Ideal) p x19 (ix2 r l) : EReal) = ∑ j : Fin 128, p (ix2 r j) * x19 (ix2 j l) := fun p => by
    pointwise [k0_pay18]
  unfold k0_pay52
  frame_out
  exact (h _).trans (Finset.sum_congr rfl fun j _ => congrArg (· * x19 (ix2 j l)) (kr_apply x0 x1 x2 x3 x4 x5 x6 x7 x8 x9 x10 x11 x12 x13 x14 x15 x16 x17 x18 x19 r j))

theorem qC_apply (r : Fin 512) (l : Fin 128) : (k0_pay53 (F := Ideal) x0 x1 x2 x3 x4 x5 x6 x7 x8 x9 x10 x11 x12 x13 x14 x15 x16 x17 x18 x19 (ix2 r l) : EReal)
    = x4 (ix2 r l) * (x12 (ix2 0 l) * Ideal.ofBits .f32 0x3E16C740#32) := by
  unfold k0_pay53 k0_pay44
  frame_out
  pointwise [k0_pay19, k0_pay7]

theorem qD_apply (r : Fin 512) (l : Fin 128) : (k0_pay54 (F := Ideal) x0 x1 x2 x3 x4 x5 x6 x7 x8 x9 x10 x11 x12 x13 x14 x15 x16 x17 x18 x19 (ix2 r l) : EReal)
    = x5 (ix2 r l) * (x13 (ix2 0 l) * Ideal.ofBits .f32 0x3E16C740#32) := by
  unfold k0_pay54 k0_pay45
  frame_out
  pointwise [k0_pay20, k0_pay8]

theorem kC_apply (r : Fin 512) (l : Fin 128) : (k0_pay55 (F := Ideal) x0 x1 x2 x3 x4 x5 x6 x7 x8 x9 x10 x11 x12 x13 x14 x15 x16 x17 x18 x19 (ix2 r l) : EReal)
    = x4 (ix2 r l) * x14 (ix2 0 l) := by
  unfold k0_pay55 k0_pay44
  frame_out
  pointwise [k0_pay21, k0_pay7]

theorem kD_apply (r : Fin 512) (l : Fin 128) : (k0_pay56 (F := Ideal) x0 x1 x2 x3 x4 x5 x6 x7 x8 x9 x10 x11 x12 x13 x14 x15 x16 x17 x18 x19 (ix2 r l) : EReal)
    = x5 (ix2 r l) * x15 (ix2 0 l) := by
  unfold k0_pay56 k0_pay45
  frame_out
  pointwise [k0_pay22, k0_pay8]

theorem kc_apply (r : Fin 512) (l : Fin 128) : (k0_pay44 (F := Ideal) x0 x1 x2 x3 x4 x5 x6 x7 x8 x9 x10 x11 x12 x13 x14 x15 x16 x17 x18 x19 (ix2 r l) : EReal) = x4 (ix2 r l) := by
  unfold k0_pay44
  frame_out
  pointwise [k0_pay7]

theorem kd_apply (r : Fin 512) (l : Fin 128) : (k0_pay45 (F := Ideal) x0 x1 x2 x3 x4 x5 x6 x7 x8 x9 x10 x11 x12 x13 x14 x15 x16 x17 x18 x19 (ix2 r l) : EReal) = x5 (ix2 r l) := by
  unfold k0_pay45
  frame_out
  pointwise [k0_pay8]

/-- Lane `i` of head `o` in a row of four heads of lanes. -/
abbrev lane4 (A : Fin 512 → EReal) (o : Fin 4) (i : Fin 128) : EReal := A (⟨128 * o.val + i.val, by omega⟩ : Fin 512)

/-- The stored queries. -/
theorem outQ_apply (r : Fin 512) (c : Fin 512) : (out0_21 (F := Ideal) x0 x1 x2 x3 x4 x5 x6 x7 x8 x9 x10 x11 x12 x13 x14 x15 x16 x17 x18 x19 (ix2 r c) : EReal)
    = Latent.turned ((1 / 96 : ℝ) : EReal) (lane4 (qrow x0 x1 x2 x3 x6 x7 r) ⟨c.val / 128, by omega⟩) (lane4 (qrow x0 x1 x2 x3 x6 x8 r) ⟨c.val / 128, by omega⟩)
        (fun i => x4 (ix2 r i) * (x12 (ix2 0 i) * Ideal.ofBits .f32 0x3E16C740#32)) (fun i => x5 (ix2 r i) * (x13 (ix2 0 i) * Ideal.ofBits .f32 0x3E16C740#32)) (fun i => x16 (ix2 0 i)) ⟨c.val % 128, by omega⟩ := by
  have e : ∀ (o : Fin 4) (l : Fin 128),
      Latent.turned ((1 / 96 : ℝ) : EReal) (at4 (k0_pay46 (F := Ideal) x0 x1 x2 x3 x4 x5 x6 x7 x8 x9 x10 x11 x12 x13 x14 x15 x16 x17 x18 x19) r o) (at4 (k0_pay47 (F := Ideal) x0 x1 x2 x3 x4 x5 x6 x7 x8 x9 x10 x11 x12 x13 x14 x15 x16 x17 x18 x19) r o)
        (fun i => k0_pay53 (F := Ideal) x0 x1 x2 x3 x4 x5 x6 x7 x8 x9 x10 x11 x12 x13 x14 x15 x16 x17 x18 x19 (ix2 r i)) (fun i => k0_pay54 (F := Ideal) x0 x1 x2 x3 x4 x5 x6 x7 x8 x9 x10 x11 x12 x13 x14 x15 x16 x17 x18 x19 (ix2 r i)) (fun i => x16 (ix2 0 i)) l
      = Latent.turned ((1 / 96 : ℝ) : EReal) (lane4 (qrow x0 x1 x2 x3 x6 x7 r) o) (lane4 (qrow x0 x1 x2 x3 x6 x8 r) o)
        (fun i => x4 (ix2 r i) * (x12 (ix2 0 i) * Ideal.ofBits .f32 0x3E16C740#32)) (fun i => x5 (ix2 r i) * (x13 (ix2 0 i) * Ideal.ofBits .f32 0x3E16C740#32)) (fun i => x16 (ix2 0 i)) l := fun o l => by
    rw [show at4 (k0_pay46 (F := Ideal) x0 x1 x2 x3 x4 x5 x6 x7 x8 x9 x10 x11 x12 x13 x14 x15 x16 x17 x18 x19) r o = lane4 (qrow x0 x1 x2 x3 x6 x7 r) o from funext fun i => qa_apply x0 x1 x2 x3 x4 x5 x6 x7 x8 x9 x10 x11 x12 x13 x14 x15 x16 x17 x18 x19 r _,
      show at4 (k0_pay47 (F := Ideal) x0 x1 x2 x3 x4 x5 x6 x7 x8 x9 x10 x11 x12 x13 x14 x15 x16 x17 x18 x19) r o = lane4 (qrow x0 x1 x2 x3 x6 x8 r) o from funext fun i => qb_apply x0 x1 x2 x3 x4 x5 x6 x7 x8 x9 x10 x11 x12 x13 x14 x15 x16 x17 x18 x19 r _,
      funext fun i => qC_apply x0 x1 x2 x3 x4 x5 x6 x7 x8 x9 x10 x11 x12 x13 x14 x15 x16 x17 x18 x19 r i, funext fun i => qD_apply x0 x1 x2 x3 x4 x5 x6 x7 x8 x9 x10 x11 x12 x13 x14 x15 x16 x17 x18 x19 r i]
  unfold out0_21
  frame_out
  exact stored4_apply _ _ _ _ (fun o l => Latent.turned ((1 / 96 : ℝ) : EReal) (lane4 (qrow x0 x1 x2 x3 x6 x7 r) o) (lane4 (qrow x0 x1 x2 x3 x6 x8 r) o)
        (fun i => x4 (ix2 r i) * (x12 (ix2 0 i) * Ideal.ofBits .f32 0x3E16C740#32)) (fun i => x5 (ix2 r i) * (x13 (ix2 0 i) * Ideal.ofBits .f32 0x3E16C740#32)) (fun i => x16 (ix2 0 i)) l) r
    (fun l => (q0_apply _ _ _ _ _ r l).trans (e 0 l)) (fun l => (q1_apply _ _ _ _ _ r l).trans (e 1 l)) (fun l => (q2_apply _ _ _ _ _ r l).trans (e 2 l)) (fun l => (q3_apply _ _ _ _ _ r l).trans (e 3 l)) c

/-- The stored keys. -/
theorem outK_apply (r : Fin 512) (c : Fin 512) : (out0_22 (F := Ideal) x0 x1 x2 x3 x4 x5 x6 x7 x8 x9 x10 x11 x12 x13 x14 x15 x16 x17 x18 x19 (ix2 r c) : EReal)
    = Latent.turned ((1 / 96 : ℝ) : EReal) (fun i => lane4 (krow x0 x1 x2 x3 x9 x10 r) ⟨c.val / 128, by omega⟩ i + whole x0 x1 x2 x3 r (⟨6784 + i.val, by omega⟩ : Fin 6912))
        (fun i => lane4 (krow x0 x1 x2 x3 x9 x10 r) ⟨c.val / 128, by omega⟩ i + ∑ j : Fin 128, whole x0 x1 x2 x3 r (⟨6784 + j.val, by omega⟩ : Fin 6912) * x19 (ix2 j i))
        (fun i => x4 (ix2 r i) * x14 (ix2 0 i)) (fun i => x5 (ix2 r i) * x15 (ix2 0 i)) (fun i => x17 (ix2 0 i)) ⟨c.val % 128, by omega⟩ := by
  have e0 : ∀ (o : Fin 4) (i : Fin 128), at4 (k0_pay50 (F := Ideal) x0 x1 x2 x3 x4 x5 x6 x7 x8 x9 x10 x11 x12 x13 x14 x15 x16 x17 x18 x19) r o i = lane4 (krow x0 x1 x2 x3 x9 x10 r) o i :=
    fun o i => ka_apply x0 x1 x2 x3 x4 x5 x6 x7 x8 x9 x10 x11 x12 x13 x14 x15 x16 x17 x18 x19 r _
  unfold out0_22
  frame_out
  refine stored4_apply _ _ _ _ (fun o l => Latent.turned ((1 / 96 : ℝ) : EReal) (fun i => lane4 (krow x0 x1 x2 x3 x9 x10 r) o i + whole x0 x1 x2 x3 r (⟨6784 + i.val, by omega⟩ : Fin 6912))
        (fun i => lane4 (krow x0 x1 x2 x3 x9 x10 r) o i + ∑ j : Fin 128, whole x0 x1 x2 x3 r (⟨6784 + j.val, by omega⟩ : Fin 6912) * x19 (ix2 j i))
        (fun i => x4 (ix2 r i) * x14 (ix2 0 i)) (fun i => x5 (ix2 r i) * x15 (ix2 0 i)) (fun i => x17 (ix2 0 i)) l) r
    (fun l => (k0_apply _ _ _ _ _ _ _ _ r l).trans ?_) (fun l => (k1_apply _ _ _ _ _ _ r l).trans ?_) (fun l => (k2_apply _ _ _ _ _ _ r l).trans ?_) (fun l => (k3_apply _ _ _ _ _ _ r l).trans ?_) c
  · simp only [e0, kra_apply, krb_apply, kc_apply, kd_apply]
  all_goals simp only [e0, kra_apply, krb_apply, kC_apply, kD_apply]

end Cert.Kernel3Ideal.Proj

end
-- ==== Proof.InprojWeights.lean ====
/- The projection's weights in the call's column order, at an entry. -/
module

public import proofs.«01_k».proof.Proof.Gen.Kernel3Ideal.Frame
public import proofs.«01_k».proof.Proof.Inproj
public import Idealize.ShloMosaic.Lib.Pipeline.ValueKit
public import Idealize.ShloMosaic.Lib.Pointwise
public import Idealize.ShloMosaic.Lib.StableHlo.RunRead
public import Idealize.ShloMosaic.PureOps.Ideal

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem Idealize.ShloMosaic.StableHlo

/-- The table of column numbers holds the order in which a head's first half goes before its second. -/
theorem table : ∀ d : Fin 256, (lit0 (S256.rowMajor (ix1 d))).toInt.toNat = Inproj.perm d.val := by decide +kernel

/-- Columns picked by a list of column numbers. -/
theorem pick_apply (x : FVec Ideal S1024x256 .f32) (l : IVec S256x1 32) (j : Fin 1024) (d : Fin 256) :
    (Host.gather gather_S1024x256_S256x1_S1024x256_0_1_n_n_1_1_10241 x l (ix2 j d) : EReal)
    = x (ix2 j (⟨min (l (ix2 d 0)).toInt.toNat 255, by omega⟩ : Fin 256)) := by
  unfold Host.gather
  refine congrArg x (funext fun (a : Fin 2) => Fin.ext ?_)
  fin_cases a
  · show GatherDims.start _ _ _ _ + GatherDims.batchCoord _ _ _ + GatherDims.offCoord _ _ _ = j.val
    rw [GatherDims.batchCoord_eq_zero _ _ _ List.not_mem_nil]
    unfold GatherDims.start
    rw [dif_neg (by decide)]
    show 0 + 0 + j.val = j.val
    omega
  · show GatherDims.start _ _ _ _ + GatherDims.batchCoord _ _ _ + GatherDims.offCoord _ _ _ = min (l (ix2 d 0)).toInt.toNat 255
    rw [GatherDims.batchCoord_eq_zero _ _ _ List.not_mem_nil, GatherDims.offCoord_eq_zero _ _ _ (by decide)]
    unfold GatherDims.start
    rw [dif_pos (by decide)]
    refine congrArg (fun i => min (l i).toInt.toNat 255) (funext fun (b : Fin 2) => Fin.ext ?_)
    fin_cases b <;> rfl

/-- The list of column numbers as the call's program computes it. -/
def order : IVec S256x1 32 :=
  broadcastInDim S256x1 ![0] bcast_S256_S256x1_0 (select (constantI S256 1 0#1) (addi (fun i => lit0 (S256.rowMajor i)) (broadcastInDim S256 ![] bcast_S_S256 (constantI S_ 32 256#32))) (fun i => lit0 (S256.rowMajor i)))

/-- Ten pieces side by side. -/
def pack (u0 : FVec Ideal S1024x4096 .f32) (u1 : FVec Ideal S1024x1024 .f32) (u2 : FVec Ideal S1024x256 .f32) (u3 : FVec Ideal S1024x256 .f32) (u4 : FVec Ideal S1024x512 .f32) (u5 : FVec Ideal S1024x512 .f32) (u6 : FVec Ideal S1024x128 .f32) (u7 : FVec Ideal S1024x64 .f32) (u8 : FVec Ideal S1024x32 .f32) (u9 : FVec Ideal S1024x32 .f32) : FVec Ideal S1024x6912 .bf16 :=
  truncf .bf16 (concatenate S1024x6912 1 [⟨S1024x4096, u0⟩, ⟨S1024x1024, u1⟩, ⟨S1024x256, u2⟩, ⟨S1024x256, u3⟩, ⟨S1024x512, u4⟩, ⟨S1024x512, u5⟩, ⟨S1024x128, u6⟩, ⟨S1024x64, u7⟩, ⟨S1024x32, u8⟩, ⟨S1024x32, u9⟩] concatenates_S1024x4096_S1024x1024_S1024x256_S1024x256_S1024x512_S1024x512_S1024x128_S1024x64_S1024x32_S1024x32_S1024x6912_d1) bitsLt_bf16_f32

/-- The weights in the call's column order. -/
def packed (w : FVec Ideal S1024x6816 .f32) : FVec Ideal S1024x6912 .bf16 :=
  pack
    (shapeCast S1024x4096 (extractStridedSlice S1x1024x4096 ![0, 0, 2720] (broadcastInDim S1x1024x6816 ![1, 2] bcast_S1024x6816_S1x1024x6816_1_2 w) slices_S1x1024x6816_S1x1024x4096_0_0_2720) shapeCasts_S1x1024x4096_S1024x4096 : FVec Ideal S1024x4096 .f32)
    (shapeCast S1024x1024 (extractStridedSlice S1x1024x1024 ![0, 0, 0] (broadcastInDim S1x1024x6816 ![1, 2] bcast_S1024x6816_S1x1024x6816_1_2 w) slices_S1x1024x6816_S1x1024x1024_0_0_0) shapeCasts_S1x1024x1024_S1024x1024 : FVec Ideal S1024x1024 .f32)
    (Host.gather gather_S1024x256_S256x1_S1024x256_0_1_n_n_1_1_10241 (shapeCast S1024x256 (extractStridedSlice S1x1024x256 ![0, 0, 1696] (broadcastInDim S1x1024x6816 ![1, 2] bcast_S1024x6816_S1x1024x6816_1_2 w) slices_S1x1024x6816_S1x1024x256_0_0_1696) shapeCasts_S1x1024x256_S1024x256 : FVec Ideal S1024x256 .f32) order : FVec Ideal S1024x256 .f32)
    (Host.gather gather_S1024x256_S256x1_S1024x256_0_1_n_n_1_1_10241 (shapeCast S1024x256 (extractStridedSlice S1x1024x256 ![0, 0, 1952] (broadcastInDim S1x1024x6816 ![1, 2] bcast_S1024x6816_S1x1024x6816_1_2 w) slices_S1x1024x6816_S1x1024x256_0_0_1952) shapeCasts_S1x1024x256_S1024x256 : FVec Ideal S1024x256 .f32) order : FVec Ideal S1024x256 .f32)
    (shapeCast S1024x512 (extractStridedSlice S1x1024x512 ![0, 0, 2208] (broadcastInDim S1x1024x6816 ![1, 2] bcast_S1024x6816_S1x1024x6816_1_2 w) slices_S1x1024x6816_S1x1024x512_0_0_2208) shapeCasts_S1x1024x512_S1024x512 : FVec Ideal S1024x512 .f32)
    (shapeCast S1024x512 (extractStridedSlice S1x1024x512 ![0, 0, 1184] (broadcastInDim S1x1024x6816 ![1, 2] bcast_S1024x6816_S1x1024x6816_1_2 w) slices_S1x1024x6816_S1x1024x512_0_0_1184) shapeCasts_S1x1024x512_S1024x512 : FVec Ideal S1024x512 .f32)
    (shapeCast S1024x128 (extractStridedSlice S1x1024x128 ![0, 0, 1024] (broadcastInDim S1x1024x6816 ![1, 2] bcast_S1024x6816_S1x1024x6816_1_2 w) slices_S1x1024x6816_S1x1024x128_0_0_1024) shapeCasts_S1x1024x128_S1024x128 : FVec Ideal S1024x128 .f32)
    (broadcastInDim S1024x64 ![] bcast_S_S1024x64 (constant (F := Ideal) S_ .f32 0x00000000#32 : FVec Ideal S_ .f32) : FVec Ideal S1024x64 .f32)
    (shapeCast S1024x32 (extractStridedSlice S1x1024x32 ![0, 0, 1152] (broadcastInDim S1x1024x6816 ![1, 2] bcast_S1024x6816_S1x1024x6816_1_2 w) slices_S1x1024x6816_S1x1024x32_0_0_1152) shapeCasts_S1x1024x32_S1024x32 : FVec Ideal S1024x32 .f32)
    (broadcastInDim S1024x32 ![] bcast_S_S1024x32 (constant (F := Ideal) S_ .f32 0x00000000#32 : FVec Ideal S_ .f32) : FVec Ideal S1024x32 .f32)

theorem order_apply (d : Fin 256) : (order (ix2 d 0)).toInt.toNat = Inproj.perm d.val := by
  refine Eq.trans (congrArg (fun i : S256.Idx => (lit0 (S256.rowMajor i)).toInt.toNat) (funext fun (a : Fin 1) => Fin.ext ?_)) (table d)
  fin_cases a
  rfl

theorem rung {p : Prop} [Decidable p] {a : p → EReal} {b : ¬p → EReal} {r : EReal} (h1 : ∀ h, a h = r) (h2 : ∀ h, b h = r) : dite p a b = r := by
  split_ifs with h
  · exact h1 h
  · exact h2 h

theorem pick_order (x : FVec Ideal S1024x256 .f32) (j : Fin 1024) (d : Fin 256) :
    (Host.gather gather_S1024x256_S256x1_S1024x256_0_1_n_n_1_1_10241 x order (ix2 j d) : EReal) = x (ix2 j (⟨Inproj.perm d.val, Inproj.perm_lt _ d.isLt⟩ : Fin 256)) := by
  refine (pick_apply x order j d).trans (congrArg (fun i => x (ix2 j i)) (Fin.ext ?_))
  have := Inproj.perm_lt _ d.isLt
  show min (order (ix2 d 0)).toInt.toNat 255 = Inproj.perm d.val
  rw [order_apply]
  omega

set_option maxHeartbeats 1000000 in
theorem packed_apply (w : FVec Ideal S1024x6816 .f32) (j : Fin 1024) (c : Fin 6912) :
    (packed w (ix2 j c) : EReal) = Inproj.arrange (fun e => w (ix2 j e)) c := by
  have hv : ∀ k : Fin 6912, k.val < 6912 := fun k => k.isLt
  have hc := hv c
  unfold packed pack
  pointwise
  simp only [Nat.sub_sub, Nat.reduceAdd]
  repeat' refine rung (fun _ => ?_) (fun _ => ?_)
  all_goals first
    | exact Inproj.arrange_pad (by unfold Inproj.isPad; omega)
    | exact Inproj.arrange_of (w := fun e => w (ix2 j e)) (by unfold Inproj.isPad; omega) _ (by dsimp only; have := Inproj.src_cases c.val; omega)
    | (refine (pick_order _ j _).trans ?_
       pointwise
       exact Inproj.arrange_of (w := fun e => w (ix2 j e)) (by unfold Inproj.isPad; omega) _ (by dsimp only; have := Inproj.src_cases c.val; omega))

variable (m : (ℓ : Loc nD τ sig) → Buf (Elt Ideal) ℓ) (c : Dev nD)

abbrev argW : FVec Ideal S1024x6816 .f32 := m ((c : Thread nD τ).loc main_arg3)

theorem entry : V m c main_v126 = packed (argW m c) := by
  unfold V
  after_reads_simp
  change pack (upto (τ := τ) (sig := sig) (Val := Elt Ideal) _ _ _ (Proc.devRef .tc main_v98)) (upto (τ := τ) (sig := sig) (Val := Elt Ideal) _ _ _ (Proc.devRef .tc main_v100)) (upto (τ := τ) (sig := sig) (Val := Elt Ideal) _ _ _ (Proc.devRef .tc main_v107)) (upto (τ := τ) (sig := sig) (Val := Elt Ideal) _ _ _ (Proc.devRef .tc main_v114)) (upto (τ := τ) (sig := sig) (Val := Elt Ideal) _ _ _ (Proc.devRef .tc main_v116)) (upto (τ := τ) (sig := sig) (Val := Elt Ideal) _ _ _ (Proc.devRef .tc main_v118)) (upto (τ := τ) (sig := sig) (Val := Elt Ideal) _ _ _ (Proc.devRef .tc main_v120)) (upto (τ := τ) (sig := sig) (Val := Elt Ideal) _ _ _ (Proc.devRef .tc main_v121)) (upto (τ := τ) (sig := sig) (Val := Elt Ideal) _ _ _ (Proc.devRef .tc main_v123)) (upto (τ := τ) (sig := sig) (Val := Elt Ideal) _ _ _ (Proc.devRef .tc main_v124)) = _
  after_reads_simp
  unfold packed order
  rfl

theorem blk3 (t : Fin cfg0.N) (j : Fin 1024) (e : Fin 6912) :
    (show S1024x6912.Idx → EReal from iblk m c 3 t) (ix2 j e) = Inproj.arrange (fun i => argW m c (ix2 j i)) e := by
  refine Eq.trans ?_ (packed_apply (argW m c) j e)
  rw [← entry m c]
  blk_simp [iblk]
  refine congrArg (V m c main_v126) ?_
  blk_ext [(by decide +kernel : ∀ t : Fin grid0.N, win0_3.index t = ![0, 0]) t]

end Cert.Kernel3Ideal.Proj

end
-- ==== Proof.LatentRef.lean ====
/- The reference's values at an index. -/
module

public import proofs.«01_k».proof.Proof.InprojRef
public import proofs.«01_k».proof.Proof.Latent

@[expose] public section

set_option maxRecDepth 16384

noncomputable section

namespace Cert.Reference3Ideal.Proj

open Cert.Reference3Ideal Cert.Reference3Ideal.Gen
open Idealize.ShloMosaic Idealize.ShloMosaic.TcCoe Idealize.SL.Sem

/-- The compressed keys and values. -/
def latent (P : FVec Ideal S2x16384x6816 .f32) : FVec Ideal S2x16384x128 .f32 :=
  extractStridedSlice S2x16384x128 ![0, 0, 1024] P slices_S2x16384x6816_S2x16384x128_0_0_1024

/-- The same normalized to unit mean square, times the gain. -/
def normed (a : FVec Ideal S2x16384x128 .f32) (g : FVec Ideal S128 .f32) : FVec Ideal S2x16384x128 .f32 :=
  mulf (mulf a (broadcastInDim S2x16384x128 ![0, 1, 2] bcast_S2x16384x1_S2x16384x128_0_1_2 (Host.rsqrt (addf (Host.divf (broadcastInDim S2x16384x1 ![0, 1] bcast_S2x16384_S2x16384x1_0_1 (Host.reduceAdd (mulf a a) (constant S_ .f32 0x00000000#32) reducesTo_S2x16384x128_S2x16384_d2 h_S_)) (broadcastInDim S2x16384x1 ![] bcast_S_S2x16384x1 (constant S_ .f32 0x43000000#32))) (broadcastInDim S2x16384x1 ![] bcast_S_S2x16384x1 (constant S_ .f32 0x358637BD#32)))))) (broadcastInDim S2x16384x128 ![0, 1, 2] bcast_S1x1x128_S2x16384x128_0_1_2 (broadcastInDim S1x1x128 ![2] bcast_S128_S1x1x128_2 g))

/-- The heads' values with a one and zeros behind each, one row per token. -/
def heads (K : FVec Ideal S2x16384x512 .f32) : FVec Ideal S32768x512 .bf16 :=
  truncf .bf16 (shapeCast _ ((concatenate S2x16384x4x128 3 [⟨S2x16384x4x64, ((extractStridedSlice S2x16384x4x64 ![0, 0, 0, 64] (shapeCast _ K shapeCasts_S2x16384x512_S2x16384x4x128) slices_S2x16384x4x128_S2x16384x4x64_0_0_0_64) : (⟨S2x16384x4x64, .f32⟩ : BufTy).Contents (Elt Ideal))⟩, ⟨S2x16384x4x1, ((addf (broadcastInDim S2x16384x4x1 ![] bcast_S_S2x16384x4x1 (constant S_ .f32 0x00000000#32)) (broadcastInDim S2x16384x4x1 ![] bcast_S_S2x16384x4x1 (constant (F := Ideal) S_ .f32 0x3F800000#32))) : (⟨S2x16384x4x1, .f32⟩ : BufTy).Contents (Elt Ideal))⟩, ⟨S2x16384x4x63, ((shapeCast _ (broadcastInDim S2x16384x4x1x63 ![0, 1, 2, 3] bcast_S2x16384x4x1_S2x16384x4x1x63_0_1_2_3 (broadcastInDim S2x16384x4x1 ![] bcast_S_S2x16384x4x1 (constant (F := Ideal) S_ .f32 0x00000000#32))) shapeCasts_S2x16384x4x1x63_S2x16384x4x63) : (⟨S2x16384x4x63, .f32⟩ : BufTy).Contents (Elt Ideal))⟩] concatenates_S2x16384x4x64_S2x16384x4x1_S2x16384x4x63_S2x16384x4x128_d3 : (⟨S2x16384x4x128, .f32⟩ : BufTy).Contents (Elt Ideal))) shapeCasts_S2x16384x4x128_S32768x512) bitsLt_bf16_f32

/-- The product with the up-projection's weights. -/
def up (a : FVec Ideal S2x16384x128 .f32) (w : FVec Ideal S128x512 .f32) : FVec Ideal S2x16384x512 .f32 :=
  Host.dotGeneral dot_S2x16384x128_S128x512_S2x16384x512_2_0_01_1_n_n none a w

/-- The values from the product. -/
def values (P : FVec Ideal S2x16384x6816 .f32) (g : FVec Ideal S128 .f32) (w : FVec Ideal S128x512 .f32) : FVec Ideal S32768x512 .bf16 :=
  heads (up (normed (latent P) g) w)

theorem latent_apply (P : FVec Ideal S2x16384x6816 .f32) (b : Fin 2) (s : Fin 16384) (j : Fin 128) :
    (latent P (ix3 b s j) : EReal) = P (ix3 b s (⟨1024 + j.val, by omega⟩ : Fin 6816)) := by
  unfold latent
  pointwise

theorem normed_apply (a : FVec Ideal S2x16384x128 .f32) (g : FVec Ideal S128 .f32) (b : Fin 2) (s : Fin 16384) (j : Fin 128) :
    (normed a g (ix3 b s j) : EReal) = Latent.normed (Ideal.ofBits .f32 0x43000000#32) (fun i => a (ix3 b s i)) (fun i => g (ix1 i)) j := by
  unfold normed Latent.normed
  pointwise

theorem up_apply (a : FVec Ideal S2x16384x128 .f32) (w : FVec Ideal S128x512 .f32) (b : Fin 2) (s : Fin 16384) (l : Fin 512) :
    (up a w (ix3 b s l) : EReal) = ∑ j, a (ix3 b s j) * w (ix2 j l) := by
  unfold up
  pointwise

theorem heads_apply (K : FVec Ideal S2x16384x512 .f32) (b : Fin 2) (s : Fin 16384) (n : Fin 32768) (hn : n.val = 16384 * b.val + s.val) (l : Fin 512) :
    (heads K (ix2 n l) : EReal) = if l.val % 128 < 64 then K (ix3 b s (⟨l.val / 128 * 128 + 64 + l.val % 64, by omega⟩ : Fin 512)) else if l.val % 128 = 64 then 1 else 0 := by
  unfold heads
  pointwise
  refine rung (fun h => ?_) (fun h => ?_)
  · refine Eq.trans (congrArg K (funext fun (a : Fin 3) => Fin.ext ?_)) (if_pos h).symm
    fin_cases a
    · show n.val / 16384 = b.val
      omega
    · show n.val % 16384 = s.val
      omega
    · show l.val / 128 * 128 + (64 + l.val % 128) = l.val / 128 * 128 + 64 + l.val % 64
      have : l.val % 128 < 64 := h
      omega
  · refine Eq.trans ?_ (if_neg h).symm
    refine rung (fun h' => (if_pos ?_).symm) (fun h' => (if_neg ?_).symm)
    · have : l.val % 128 - 64 < 1 := h'
      have : ¬l.val % 128 < 64 := h
      omega
    · have : ¬l.val % 128 - 64 < 1 := h'
      omega

/-- The reference's values at token `s` of batch `b`, lane `l`. -/
theorem values_apply (x : FVec Ideal S2x16384x1024 .f32) (ada : FVec Ideal S2x6144 .f32) (g1 : FVec Ideal S1024 .f32) (w1 : FVec Ideal S1024x6816 .f32) (g : FVec Ideal S128 .f32) (w : FVec Ideal S128x512 .f32)
    (b : Fin 2) (s : Fin 16384) (n : Fin 32768) (hn : n.val = 16384 * b.val + s.val) (l : Fin 512) :
    (values (product (modulated x ada g1) w1) g w (ix2 n l) : EReal)
    = Latent.value (fun i => ∑ j, Swiglu.modulated (fun j => x (ix3 b s j)) (fun j => g1 (ix1 j)) (chunk ada b 1) (chunk ada b 0) j * w1 (ix2 j (⟨1024 + i.val, by omega⟩ : Fin 6816)))
        (fun i => g (ix1 i)) (fun j e => w (ix2 j e)) l := by
  unfold values Latent.value
  refine (heads_apply _ b s n hn l).trans ?_
  refine congrArg (fun z : EReal => if l.val % 128 < 64 then z else if l.val % 128 = 64 then 1 else 0) ?_
  refine (up_apply _ w b s _).trans (Finset.sum_congr rfl fun j _ => congrArg (· * w (ix2 j _)) ?_)
  refine (normed_apply _ g b s j).trans (congrArg (fun f => Latent.normed _ f _ j) (funext fun i => ?_))
  refine (latent_apply _ b s i).trans ((product_apply _ w1 b s _).trans (Finset.sum_congr rfl fun j _ => congrArg (· * w1 (ix2 j _)) ?_))
  exact modulated_apply x ada g1 b s j

end Cert.Reference3Ideal.Proj

end
-- ==== Proof.HeadRef.lean ====
/- The reference's queries and keys at an index. -/
module

public import proofs.«01_k».proof.Proof.LatentRef
public import proofs.«01_k».proof.Proof.Rope

@[expose] public section

set_option maxRecDepth 16384

noncomputable section

namespace Cert.Reference3Ideal.Proj

open Cert.Reference3Ideal Cert.Reference3Ideal.Gen
open Idealize.ShloMosaic Idealize.ShloMosaic.TcCoe Idealize.SL.Sem

/-- The compressed queries. -/
def latentQ (P : FVec Ideal S2x16384x6816 .f32) : FVec Ideal S2x16384x256 .f32 :=
  extractStridedSlice S2x16384x256 ![0, 0, 768] P slices_S2x16384x6816_S2x16384x256_0_0_768

/-- The same normalized to unit mean square, times the gain. -/
def normedQ (a : FVec Ideal S2x16384x256 .f32) (g : FVec Ideal S256 .f32) : FVec Ideal S2x16384x256 .f32 :=
  mulf (mulf a (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf a a) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 g))

/-- The product with the queries' up-projection. -/
def upQ (a : FVec Ideal S2x16384x256 .f32) (w : FVec Ideal S256x384 .f32) : FVec Ideal S2x16384x384 .f32 :=
  Host.dotGeneral dot_S2x16384x256_S256x384_S2x16384x384_2_0_01_1_n_n none a w

/-- The keys of the four heads: 64 entries of their own, then the 32 that all share. -/
def keys (K : FVec Ideal S2x16384x512 .f32) (P : FVec Ideal S2x16384x6816 .f32) : FVec Ideal S2x16384x4x96 .f32 :=
  concatenate S2x16384x4x96 3 [⟨S2x16384x4x64, (extractStridedSlice S2x16384x4x64 ![0, 0, 0, 0] (shapeCast _ K shapeCasts_S2x16384x512_S2x16384x4x128) slices_S2x16384x4x128_S2x16384x4x64_0_0_0_0)⟩, ⟨S2x16384x4x32, (broadcastInDim S2x16384x4x32 ![0, 1, 2, 3] bcast_S2x16384x1x32_S2x16384x4x32_0_1_2_3 (broadcastInDim S2x16384x1x32 ![0, 1, 3] bcast_S2x16384x32_S2x16384x1x32_0_1_3 (extractStridedSlice S2x16384x32 ![0, 0, 1152] P slices_S2x16384x6816_S2x16384x32_0_0_1152)))⟩] concatenates_S2x16384x4x64_S2x16384x4x32_S2x16384x4x96_d3

/-- Each head normalized to unit mean square, times the gain. -/
def normedH (z : FVec Ideal S2x16384x4x96 .f32) (g : FVec Ideal S96 .f32) : FVec Ideal S2x16384x4x96 .f32 :=
  mulf (mulf z (broadcastInDim S2x16384x4x96 ![0, 1, 2, 3] bcast_S2x16384x4x1_S2x16384x4x96_0_1_2_3 (Host.rsqrt (addf (Host.divf (broadcastInDim S2x16384x4x1 ![0, 1, 2] bcast_S2x16384x4_S2x16384x4x1_0_1_2 (Host.reduceAdd (mulf z z) (constant S_ .f32 0x00000000#32) reducesTo_S2x16384x4x96_S2x16384x4_d3 h_S_)) (broadcastInDim S2x16384x4x1 ![] bcast_S_S2x16384x4x1 (constant S_ .f32 0x42C00000#32))) (broadcastInDim S2x16384x4x1 ![] bcast_S_S2x16384x4x1 (constant S_ .f32 0x358637BD#32)))))) (broadcastInDim S2x16384x4x96 ![0, 1, 2, 3] bcast_S1x1x1x96_S2x16384x4x96_0_1_2_3 (broadcastInDim S1x1x1x96 ![3] bcast_S96_S1x1x1x96_3 g))

/-- The angles that positions turn the pairs by. -/
def angle (pos : IVec S2x16384 32) : FVec Ideal S2x16384x16 .f32 :=
  mulf (broadcastInDim S2x16384x16 ![0, 1, 2] bcast_S2x16384x1_S2x16384x16_0_1_2 (broadcastInDim S2x16384x1 ![0, 1] bcast_S2x16384_S2x16384x1_0_1 (sitofp .f32 pos))) (broadcastInDim S2x16384x16 ![0, 1, 2] bcast_S1x1x16_S2x16384x16_0_1_2 (broadcastInDim S1x1x16 ![2] bcast_S16_S1x1x16_2 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- A table of the angles, one for all heads. -/
def table (a : FVec Ideal S2x16384x16 .f32) : FVec Ideal S2x16384x4x16 .f32 :=
  broadcastInDim S2x16384x4x16 ![0, 1, 2, 3] bcast_S2x16384x1x16_S2x16384x4x16_0_1_2_3 (broadcastInDim S2x16384x1x16 ![0, 1, 3] bcast_S2x16384x16_S2x16384x1x16_0_1_3 a)

/-- The first halves of the pairs that are turned. -/
def half1 (n : FVec Ideal S2x16384x4x96 .f32) : FVec Ideal S2x16384x4x16 .f32 :=
  extractStridedSlice S2x16384x4x16 ![0, 0, 0, 0] (extractStridedSlice S2x16384x4x32 ![0, 0, 0, 64] n slices_S2x16384x4x96_S2x16384x4x32_0_0_0_64) slices_S2x16384x4x32_S2x16384x4x16_0_0_0_0

/-- Their second halves. -/
def half2 (n : FVec Ideal S2x16384x4x96 .f32) : FVec Ideal S2x16384x4x16 .f32 :=
  extractStridedSlice S2x16384x4x16 ![0, 0, 0, 16] (extractStridedSlice S2x16384x4x32 ![0, 0, 0, 64] n slices_S2x16384x4x96_S2x16384x4x32_0_0_0_64) slices_S2x16384x4x32_S2x16384x4x16_0_0_0_16

/-- The heads with their last 32 entries turned in pairs. -/
def roped (n : FVec Ideal S2x16384x4x96 .f32) (pos : IVec S2x16384 32) : FVec Ideal S2x16384x4x96 .f32 :=
  concatenate S2x16384x4x96 3 [⟨S2x16384x4x64, (extractStridedSlice S2x16384x4x64 ![0, 0, 0, 0] n slices_S2x16384x4x96_S2x16384x4x64_0_0_0_0)⟩, ⟨S2x16384x4x32, (concatenate S2x16384x4x32 3 [⟨S2x16384x4x16, (subf (mulf (half1 n) (table (Host.cos (angle pos)))) (mulf (half2 n) (table (Host.sin (angle pos)))))⟩, ⟨S2x16384x4x16, (addf (mulf (half2 n) (table (Host.cos (angle pos)))) (mulf (half1 n) (table (Host.sin (angle pos)))))⟩] concatenates_S2x16384x4x16_S2x16384x4x16_S2x16384x4x32_d3)⟩] concatenates_S2x16384x4x64_S2x16384x4x32_S2x16384x4x96_d3

/-- The heads in 128 lanes each, one row per token: their 96 entries, one number more, and zeros. -/
def packed (n : FVec Ideal S2x16384x4x96 .f32) (e : FVec Ideal S_ .f32) : FVec Ideal S32768x512 .bf16 :=
  truncf .bf16 (shapeCast _ ((concatenate S2x16384x4x128 3 [⟨S2x16384x4x96, (n : (⟨S2x16384x4x96, .f32⟩ : BufTy).Contents (Elt Ideal))⟩, ⟨S2x16384x4x1, ((addf (broadcastInDim S2x16384x4x1 ![] bcast_S_S2x16384x4x1 (constant S_ .f32 0x00000000#32)) (broadcastInDim S2x16384x4x1 ![] bcast_S_S2x16384x4x1 e)) : (⟨S2x16384x4x1, .f32⟩ : BufTy).Contents (Elt Ideal))⟩, ⟨S2x16384x4x31, ((shapeCast _ (broadcastInDim S2x16384x4x1x31 ![0, 1, 2, 3] bcast_S2x16384x4x1_S2x16384x4x1x31_0_1_2_3 (broadcastInDim S2x16384x4x1 ![] bcast_S_S2x16384x4x1 (constant (F := Ideal) S_ .f32 0x00000000#32))) shapeCasts_S2x16384x4x1x31_S2x16384x4x31) : (⟨S2x16384x4x31, .f32⟩ : BufTy).Contents (Elt Ideal))⟩] concatenates_S2x16384x4x96_S2x16384x4x1_S2x16384x4x31_S2x16384x4x128_d3 : (⟨S2x16384x4x128, .f32⟩ : BufTy).Contents (Elt Ideal))) shapeCasts_S2x16384x4x128_S32768x512) bitsLt_bf16_f32

/-- A bound on the products of queries and keys. -/
def bound (gq gk : FVec Ideal S96 .f32) : FVec Ideal S_ .f32 :=
  mulf (mulf (constant S_ .f32 0x41622ADF#32) (Host.reduce FloatOps.maximumf (Host.absf gq) (constant S_ .f32 0xFF800000#32) reducesTo_S96_S_d0 h_S_)) (Host.reduce FloatOps.maximumf (Host.absf gk) (constant S_ .f32 0xFF800000#32) reducesTo_S96_S_d0 h_S_)

/-- The bound negated when it is at most 50, else zero. -/
def shift (gq gk : FVec Ideal S96 .f32) : FVec Ideal S_ .f32 :=
  select (cmpf .ole (bound gq gk) (constant S_ .f32 0x42480000#32)) (Host.negf (bound gq gk)) (id (constant S_ .f32 0x00000000#32))

/-- The heads' queries before they are normalized. -/
def rawQ (P : FVec Ideal S2x16384x6816 .f32) (g : FVec Ideal S256 .f32) (w : FVec Ideal S256x384 .f32) : FVec Ideal S2x16384x4x96 .f32 :=
  shapeCast _ (upQ (normedQ (latentQ P) g) w) shapeCasts_S2x16384x384_S2x16384x4x96

/-- The heads' keys before they are normalized. -/
def rawK (P : FVec Ideal S2x16384x6816 .f32) (g : FVec Ideal S128 .f32) (w : FVec Ideal S128x512 .f32) : FVec Ideal S2x16384x4x96 .f32 :=
  keys (up (normed (latent P) g) w) P

/-- The queries from the product. -/
def queries (P : FVec Ideal S2x16384x6816 .f32) (g : FVec Ideal S256 .f32) (w : FVec Ideal S256x384 .f32) (gq : FVec Ideal S96 .f32) (pos : IVec S2x16384 32) : FVec Ideal S32768x512 .bf16 :=
  packed (mulf (roped (normedH (rawQ P g w) gq) pos) (broadcastInDim S2x16384x4x96 ![] bcast_S_S2x16384x4x96 (constant S_ .f32 0x3E16C740#32))) (constant S_ .f32 0x3F800000#32)

/-- The keys from the product. -/
def keyRows (P : FVec Ideal S2x16384x6816 .f32) (g : FVec Ideal S128 .f32) (w : FVec Ideal S128x512 .f32) (gq gk : FVec Ideal S96 .f32) (pos : IVec S2x16384 32) : FVec Ideal S32768x512 .bf16 :=
  packed (roped (normedH (rawK P g w) gk) pos) (shift gq gk)

/-- The reference ends with these four arrays and its arguments unchanged. -/
theorem runs (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v53) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v196) = queries (product (modulated (m ((c.tc : Thread nD τ).loc main_arg0)) (m ((c.tc : Thread nD τ).loc main_arg1)) (m ((c.tc : Thread nD τ).loc main_arg2))) (m ((c.tc : Thread nD τ).loc main_arg3)))
          (m ((c.tc : Thread nD τ).loc main_arg5)) (m ((c.tc : Thread nD τ).loc main_arg6)) (m ((c.tc : Thread nD τ).loc main_arg9)) (m ((c.tc : Thread nD τ).loc main_arg4))
      ∧ r.2.mem ((c.tc : Thread nD τ).loc main_v203) = keyRows (product (modulated (m ((c.tc : Thread nD τ).loc main_arg0)) (m ((c.tc : Thread nD τ).loc main_arg1)) (m ((c.tc : Thread nD τ).loc main_arg2))) (m ((c.tc : Thread nD τ).loc main_arg3)))
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg4))
      ∧ r.2.mem ((c.tc : Thread nD τ).loc main_v211) = values (product (modulated (m ((c.tc : Thread nD τ).loc main_arg0)) (m ((c.tc : Thread nD τ).loc main_arg1)) (m ((c.tc : Thread nD τ).loc main_arg2))) (m ((c.tc : Thread nD τ).loc main_arg3)))
          (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run Cert.Reference3Ideal.defs _ _).mono (fun _ h c => by
    refine ⟨(h c).1.trans ?_, (h c).2.1.trans ?_, (h c).2.2.1.trans ?_, (h c).2.2.2.1.trans ?_, (h c).2.2.2.2⟩ <;> rfl) (Cert.Reference3Ideal.Value.run m g)

theorem latentQ_apply (P : FVec Ideal S2x16384x6816 .f32) (b : Fin 2) (s : Fin 16384) (j : Fin 256) :
    (latentQ P (ix3 b s j) : EReal) = P (ix3 b s (⟨768 + j.val, by omega⟩ : Fin 6816)) := by
  unfold latentQ
  pointwise

theorem normedQ_apply (a : FVec Ideal S2x16384x256 .f32) (g : FVec Ideal S256 .f32) (b : Fin 2) (s : Fin 16384) (j : Fin 256) :
    (normedQ a g (ix3 b s j) : EReal) = Latent.normed (Ideal.ofBits .f32 0x43800000#32) (fun i => a (ix3 b s i)) (fun i => g (ix1 i)) j := by
  unfold normedQ Latent.normed
  pointwise

theorem upQ_apply (a : FVec Ideal S2x16384x256 .f32) (w : FVec Ideal S256x384 .f32) (b : Fin 2) (s : Fin 16384) (l : Fin 384) :
    (upQ a w (ix3 b s l) : EReal) = ∑ j, a (ix3 b s j) * w (ix2 j l) := by
  unfold upQ
  pointwise

theorem normedH_apply (z : FVec Ideal S2x16384x4x96 .f32) (g : FVec Ideal S96 .f32) (b : Fin 2) (s : Fin 16384) (o : Fin 4) (i : Fin 96) :
    (normedH z g (ix4 b s o i) : EReal) = Latent.normed (Ideal.ofBits .f32 0x42C00000#32) (fun i => z (ix4 b s o i)) (fun i => g (ix1 i)) i := by
  unfold normedH Latent.normed
  pointwise

theorem table_apply (a : FVec Ideal S2x16384x16 .f32) (b : Fin 2) (s : Fin 16384) (o : Fin 4) (q : Fin 16) : (table a (ix4 b s o q) : EReal) = a (ix3 b s q) := by
  unfold table
  pointwise

theorem half1_apply (n : FVec Ideal S2x16384x4x96 .f32) (b : Fin 2) (s : Fin 16384) (o : Fin 4) (q : Fin 16) :
    (half1 n (ix4 b s o q) : EReal) = n (ix4 b s o (⟨64 + q.val, by omega⟩ : Fin 96)) := by
  unfold half1
  pointwise

theorem half2_apply (n : FVec Ideal S2x16384x4x96 .f32) (b : Fin 2) (s : Fin 16384) (o : Fin 4) (q : Fin 16) :
    (half2 n (ix4 b s o q) : EReal) = n (ix4 b s o (⟨80 + q.val, by omega⟩ : Fin 96)) := by
  unfold half2
  pointwise
  refine congrArg (fun i => n (ix4 b s o i)) (Fin.ext ?_)
  show 64 + (16 + q.val) = 80 + q.val
  omega

theorem roped_apply (n : FVec Ideal S2x16384x4x96 .f32) (pos : IVec S2x16384 32) (b : Fin 2) (s : Fin 16384) (o : Fin 4) (i : Fin 96) :
    (roped n pos (ix4 b s o i) : EReal)
    = Latent.roped (fun i => n (ix4 b s o i)) (fun q => Host.cos (angle pos) (ix3 b s q)) (fun q => Host.sin (angle pos) (ix3 b s q)) i := by
  unfold roped Latent.roped
  generalize Host.cos (angle pos) = co
  generalize Host.sin (angle pos) = si
  pointwise [half1_apply, half2_apply, table_apply]
  have hi : i.val < 96 := i.isLt
  refine rung (fun h => by rw [dif_pos h]) (fun h => ?_)
  rw [dif_neg h]
  refine rung (fun h' => ?_) (fun h' => ?_)
  · rw [dif_pos (by omega)]
    have e1 : (⟨64 + (i.val - 64), by omega⟩ : Fin 96) = i := Fin.ext (by show 64 + (i.val - 64) = i.val; omega)
    have e2 : (⟨80 + (i.val - 64), by omega⟩ : Fin 96) = ⟨i.val + 16, by omega⟩ := Fin.ext (by show 80 + (i.val - 64) = i.val + 16; omega)
    have e3 : (⟨i.val - 64, h'⟩ : Fin 16) = ⟨i.val % 16, by omega⟩ := Fin.ext (by show i.val - 64 = i.val % 16; omega)
    rw [e1, e2, e3]
  · rw [dif_neg (by omega)]
    have e1 : (⟨80 + (i.val - 64 - 16), by omega⟩ : Fin 96) = i := Fin.ext (by show 80 + (i.val - 64 - 16) = i.val; omega)
    have e2 : (⟨64 + (i.val - 64 - 16), by omega⟩ : Fin 96) = ⟨i.val - 16, by omega⟩ := Fin.ext (by show 64 + (i.val - 64 - 16) = i.val - 16; omega)
    have e3 : (⟨i.val - 64 - 16, by omega⟩ : Fin 16) = ⟨i.val % 16, by omega⟩ := Fin.ext (by show i.val - 64 - 16 = i.val % 16; omega)
    rw [e1, e2, e3]

theorem packed_apply (n : FVec Ideal S2x16384x4x96 .f32) (e : FVec Ideal S_ .f32) (b : Fin 2) (s : Fin 16384) (t : Fin 32768) (ht : t.val = 16384 * b.val + s.val) (l : Fin 512) :
    (packed n e (ix2 t l) : EReal)
    = if h : l.val % 128 < 96 then n (ix4 b s (⟨l.val / 128, by omega⟩ : Fin 4) (⟨l.val % 128, h⟩ : Fin 96)) else if l.val % 128 = 96 then e ix0 else 0 := by
  unfold packed
  pointwise
  refine rung (fun h => Eq.trans (b := (n (ix4 b s (⟨l.val / 128, by omega⟩ : Fin 4) (⟨l.val % 128, h⟩ : Fin 96)) : EReal)) (congrArg n (funext fun (a : Fin 4) => Fin.ext ?_)) (by rw [dif_pos h])) (fun h => Eq.trans ?_ (Eq.symm (@dif_neg _ _ h EReal _ _)))
  · fin_cases a
    · show t.val / 16384 = b.val
      omega
    · show t.val % 16384 = s.val
      omega
    · rfl
    · rfl
  refine rung (fun h' => (if_pos ?_).symm) (fun h' => (if_neg ?_).symm)
  · have : l.val % 128 - 96 < 1 := h'
    omega
  · have : ¬l.val % 128 - 96 < 1 := h'
    omega

theorem keys_apply (K : FVec Ideal S2x16384x512 .f32) (P : FVec Ideal S2x16384x6816 .f32) (b : Fin 2) (s : Fin 16384) (o : Fin 4) (i : Fin 96) :
    (keys K P (ix4 b s o i) : EReal)
    = if h : i.val < 64 then K (ix3 b s (⟨o.val * 128 + i.val, by omega⟩ : Fin 512)) else P (ix3 b s (⟨1152 + (i.val - 64), by omega⟩ : Fin 6816)) := by
  unfold keys
  pointwise

/-- The compressed queries normalized and projected up. -/
def zq (P : FVec Ideal S2x16384x6816 .f32) (g : FVec Ideal S256 .f32) (w : FVec Ideal S256x384 .f32) (b : Fin 2) (s : Fin 16384) (o : Fin 4) (i : Fin 96) : EReal :=
  ∑ j, Latent.normed (Ideal.ofBits .f32 0x43800000#32) (fun i : Fin 256 => P (ix3 b s (⟨768 + i.val, by omega⟩ : Fin 6816))) (fun i => g (ix1 i)) j * w (ix2 j (⟨o.val * 96 + i.val, by omega⟩ : Fin 384))

/-- The compressed keys normalized and projected up, then the entries that all heads share. -/
def zk (P : FVec Ideal S2x16384x6816 .f32) (g : FVec Ideal S128 .f32) (w : FVec Ideal S128x512 .f32) (b : Fin 2) (s : Fin 16384) (o : Fin 4) (i : Fin 96) : EReal :=
  if h : i.val < 64 then ∑ j, Latent.normed (Ideal.ofBits .f32 0x43000000#32) (fun i : Fin 128 => P (ix3 b s (⟨1024 + i.val, by omega⟩ : Fin 6816))) (fun i => g (ix1 i)) j * w (ix2 j (⟨o.val * 128 + i.val, by omega⟩ : Fin 512))
  else P (ix3 b s (⟨1152 + (i.val - 64), by omega⟩ : Fin 6816))

theorem rawQ_apply (P : FVec Ideal S2x16384x6816 .f32) (g : FVec Ideal S256 .f32) (w : FVec Ideal S256x384 .f32) (b : Fin 2) (s : Fin 16384) (o : Fin 4) (i : Fin 96) :
    (rawQ P g w (ix4 b s o i) : EReal) = zq P g w b s o i := by
  unfold rawQ zq
  pointwise
  refine (upQ_apply _ w b s _).trans (Finset.sum_congr rfl fun j _ => congrArg (· * w (ix2 j _)) ?_)
  exact (normedQ_apply _ g b s j).trans (congrArg (fun f => Latent.normed _ f _ j) (funext fun i => latentQ_apply P b s i))

theorem rawK_apply (P : FVec Ideal S2x16384x6816 .f32) (g : FVec Ideal S128 .f32) (w : FVec Ideal S128x512 .f32) (b : Fin 2) (s : Fin 16384) (o : Fin 4) (i : Fin 96) :
    (rawK P g w (ix4 b s o i) : EReal) = zk P g w b s o i := by
  unfold rawK zk
  refine (keys_apply _ P b s o i).trans ?_
  split_ifs with h
  · refine (up_apply _ w b s _).trans (Finset.sum_congr rfl fun j _ => congrArg (· * w (ix2 j _)) ?_)
    exact (normed_apply _ g b s j).trans (congrArg (fun f => Latent.normed _ f _ j) (funext fun i => latent_apply P b s i))
  · rfl

/-- The cosines and sines of a token's angles. -/
abbrev cosAt (pos : IVec S2x16384 32) (b : Fin 2) (s : Fin 16384) (q : Fin 16) : EReal := Host.cos (angle pos) (ix3 b s q)
abbrev sinAt (pos : IVec S2x16384 32) (b : Fin 2) (s : Fin 16384) (q : Fin 16) : EReal := Host.sin (angle pos) (ix3 b s q)

/-- The reference's queries at token `s` of batch `b`, lane `l`. -/
theorem queries_apply (P : FVec Ideal S2x16384x6816 .f32) (g : FVec Ideal S256 .f32) (w : FVec Ideal S256x384 .f32) (gq : FVec Ideal S96 .f32) (pos : IVec S2x16384 32)
    (b : Fin 2) (s : Fin 16384) (t : Fin 32768) (ht : t.val = 16384 * b.val + s.val) (l : Fin 512) :
    (queries P g w gq pos (ix2 t l) : EReal)
    = Latent.head (zq P g w b s (⟨l.val / 128, by omega⟩ : Fin 4)) (fun i => gq (ix1 i)) (cosAt pos b s) (sinAt pos b s) (Ideal.ofBits .f32 0x3E16C740#32) 1 (⟨l.val % 128, by omega⟩ : Fin 128) := by
  unfold queries Latent.head
  refine (packed_apply _ _ b s t ht l).trans ?_
  dsimp only
  split_ifs with h h'
  · pointwise
    refine congrArg (· * Ideal.ofBits .f32 0x3E16C740#32) ((roped_apply _ pos b s _ _).trans ?_)
    refine congrArg (fun f => Latent.roped f (cosAt pos b s) (sinAt pos b s) _) (funext fun i => (normedH_apply _ gq b s _ i).trans ?_)
    exact congrArg (fun f => Latent.normed (Ideal.ofBits .f32 0x42C00000#32) f (fun i => gq (ix1 i)) i) (funext fun i => rawQ_apply P g w b s _ i)
  · exact Swiglu.one_eq
  · rfl

/-- The reference's keys at token `s` of batch `b`, lane `l`. -/
theorem keyRows_apply (P : FVec Ideal S2x16384x6816 .f32) (g : FVec Ideal S128 .f32) (w : FVec Ideal S128x512 .f32) (gq gk : FVec Ideal S96 .f32) (pos : IVec S2x16384 32)
    (b : Fin 2) (s : Fin 16384) (t : Fin 32768) (ht : t.val = 16384 * b.val + s.val) (l : Fin 512) :
    (keyRows P g w gq gk pos (ix2 t l) : EReal)
    = Latent.head (zk P g w b s (⟨l.val / 128, by omega⟩ : Fin 4)) (fun i => gk (ix1 i)) (cosAt pos b s) (sinAt pos b s) 1 (shift gq gk ix0) (⟨l.val % 128, by omega⟩ : Fin 128) := by
  unfold keyRows Latent.head
  refine (packed_apply _ _ b s t ht l).trans ?_
  dsimp only
  split_ifs with h h'
  · refine Eq.trans ?_ (mul_one _).symm
    refine (roped_apply _ pos b s _ _).trans ?_
    refine congrArg (fun f => Latent.roped f (cosAt pos b s) (sinAt pos b s) _) (funext fun i => (normedH_apply _ gk b s _ i).trans ?_)
    exact congrArg (fun f => Latent.normed (Ideal.ofBits .f32 0x42C00000#32) f (fun i => gk (ix1 i)) i) (funext fun i => rawK_apply P g w b s _ i)
  · rfl
  · rfl

end Cert.Reference3Ideal.Proj

end
-- ==== Proof.HeadHost.lean ====
/- What the projection call's program lays out for the queries and keys, at an entry. -/
module

public import proofs.«01_k».proof.Proof.InprojWeights
public import proofs.«01_k».proof.Proof.HeadRef

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem Idealize.ShloMosaic.StableHlo

/-- The angles that positions turn the pairs by, one row per token. -/
def angle (pos : IVec S2x16384 32) : FVec Ideal S32768x16 .f32 :=
  mulf (broadcastInDim S32768x16 ![0, 1] bcast_S32768x1_S32768x16_0_1 (shapeCast S32768x1 (sitofp .f32 pos : FVec Ideal S2x16384 .f32) shapeCasts_S2x16384_S32768x1)) (broadcastInDim S32768x16 ![0, 1] bcast_S1x16_S32768x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Four pieces of a table side by side. -/
def tab4 (u0 : FVec Ideal S32768x64 .f32) (u1 u2 : FVec Ideal S32768x16 .f32) (u3 : FVec Ideal S32768x32 .f32) : FVec Ideal S32768x128 .f32 :=
  concatenate S32768x128 1 [⟨S32768x64, u0⟩, ⟨S32768x16, u1⟩, ⟨S32768x16, u2⟩, ⟨S32768x32, u3⟩] concatenates_S32768x64_S32768x16_S32768x16_S32768x32_S32768x128_d1

/-- The table of cosines. -/
def cosTab (pos : IVec S2x16384 32) : FVec Ideal S32768x128 .f32 :=
  tab4 (broadcastInDim S32768x64 ![] bcast_S_S32768x64 (constant S_ .f32 0x3F800000#32)) (Host.cos (angle pos)) (Host.cos (angle pos)) (broadcastInDim S32768x32 ![] bcast_S_S32768x32 (constant S_ .f32 0x3F800000#32))

/-- The table of sines. -/
def sinTab (pos : IVec S2x16384 32) : FVec Ideal S32768x128 .f32 :=
  tab4 (broadcastInDim S32768x64 ![] bcast_S_S32768x64 (constant S_ .f32 0x00000000#32)) (Host.negf (Host.sin (angle pos))) (Host.sin (angle pos)) (broadcastInDim S32768x32 ![] bcast_S_S32768x32 (constant S_ .f32 0x00000000#32))

/-- The queries' up-projection, each head padded to 128 lanes. -/
def padQ (w : FVec Ideal S256x384 .f32) : FVec Ideal S256x4x128 .f32 :=
  pad S256x4x128 ![0, 0, 0] ![0, 0, 32] ![0, 0, 0] (shapeCast S256x4x96 w shapeCasts_S256x384_S256x4x96) (sitofp .f32 (constantI S_ 32 0#32)) pads_S256x4x96_S256x4x128_000_000_0320 h_S_

def flatQ (p : FVec Ideal S256x4x128 .f32) : FVec Ideal S256x512 .bf16 := truncf .bf16 (shapeCast S256x512 p shapeCasts_S256x4x128_S256x512) bitsLt_bf16_f32

/-- Four pieces of each head side by side. -/
def head4 (u0 : FVec Ideal S256x4x64 .f32) (u1 u2 : FVec Ideal S256x4x16 .f32) (u3 : FVec Ideal S256x4x32 .f32) : FVec Ideal S256x512 .bf16 :=
  flatQ (concatenate S256x4x128 2 [⟨S256x4x64, u0⟩, ⟨S256x4x16, u1⟩, ⟨S256x4x16, u2⟩, ⟨S256x4x32, u3⟩] concatenates_S256x4x64_S256x4x16_S256x4x16_S256x4x32_S256x4x128_d2)

/-- The padded up-projection with the halves of the turned entries exchanged. -/
def swapQ (p : FVec Ideal S256x4x128 .f32) : FVec Ideal S256x512 .bf16 :=
  head4 (extractStridedSlice S256x4x64 ![0, 0, 0] p slices_S256x4x128_S256x4x64_0_0_0) (extractStridedSlice S256x4x16 ![0, 0, 80] p slices_S256x4x128_S256x4x16_0_0_80)
    (extractStridedSlice S256x4x16 ![0, 0, 64] p slices_S256x4x128_S256x4x16_0_0_64) (extractStridedSlice S256x4x32 ![0, 0, 96] p slices_S256x4x128_S256x4x32_0_0_96)

/-- The key half of the up-projection's weights, each head padded to 128 lanes. -/
def padK (u : FVec Ideal S128x512 .f32) : FVec Ideal S128x512 .bf16 :=
  truncf .bf16 (shapeCast S128x512 (pad S128x4x128 ![0, 0, 0] ![0, 0, 64] ![0, 0, 0] (extractStridedSlice S128x4x64 ![0, 0, 0] (shapeCast S128x4x128 u shapeCasts_S128x512_S128x4x128) slices_S128x4x128_S128x4x64_0_0_0)
    (sitofp .f32 (constantI S_ 32 0#32)) pads_S128x4x64_S128x4x128_000_000_0640 h_S_ : FVec Ideal S128x4x128 .f32) shapeCasts_S128x4x128_S128x512) bitsLt_bf16_f32

/-- A gain padded to 128 lanes. -/
def padG (g : FVec Ideal S96 .f32) : FVec Ideal S1x128 .f32 :=
  broadcastInDim S1x128 ![1] bcast_S128_S1x128_1 (pad S128 ![0] ![32] ![0] g (sitofp .f32 (constantI S_ 32 0#32)) pads_S96_S128_0320 h_S_ : FVec Ideal S128 .f32)

/-- Four pieces of a row of lanes side by side. -/
def row4 (u0 : FVec Ideal S1x64 .f32) (u1 u2 : FVec Ideal S1x16 .f32) (u3 : FVec Ideal S1x32 .f32) : FVec Ideal S1x128 .f32 :=
  concatenate S1x128 1 [⟨S1x64, u0⟩, ⟨S1x16, u1⟩, ⟨S1x16, u2⟩, ⟨S1x32, u3⟩] concatenates_S1x64_S1x16_S1x16_S1x32_S1x128_d1

/-- The padded gain with the halves of the turned entries exchanged. -/
def swapG (p : FVec Ideal S1x128 .f32) : FVec Ideal S1x128 .f32 :=
  row4 (extractStridedSlice S1x64 ![0, 0] p slices_S1x128_S1x64_0_0) (extractStridedSlice S1x16 ![0, 80] p slices_S1x128_S1x16_0_80)
    (extractStridedSlice S1x16 ![0, 64] p slices_S1x128_S1x16_0_64) (extractStridedSlice S1x32 ![0, 96] p slices_S1x128_S1x32_0_96)

/-- A one in lane 96. -/
def mark : FVec Ideal S1x128 .f32 :=
  broadcastInDim S1x128 ![1] bcast_S128_S1x128_1 (uitofp .f32 (cmpi .eq (iotaInDim S128 32 0) (broadcastInDim S128 ![] bcast_S_S128 (constantI S_ 32 96#32))) : FVec Ideal S128 .f32)

/-- A number in lane 96. -/
def markBy (e : FVec Ideal S_ .f32) : FVec Ideal S1x128 .f32 := mulf mark (broadcastInDim S1x128 ![] bcast_S_S1x128 e)

/-- Four pieces of a row of lane numbers side by side. -/
def num4 (u0 : IVec S1x64 32) (u1 u2 : IVec S1x16 32) (u3 : IVec S1x32 32) : IVec S1x128 32 :=
  concatenate S1x128 1 [⟨S1x64, u0⟩, ⟨S1x16, u1⟩, ⟨S1x16, u2⟩, ⟨S1x32, u3⟩] concatenates_S1x64_S1x16_S1x16_S1x32_S1x128_d1

/-- The lane numbers with the halves of the turned lanes exchanged. -/
def nums : IVec S1x128 32 :=
  num4 (extractStridedSlice S1x64 ![0, 0] (broadcastInDim S1x128 ![1] bcast_S128_S1x128_1 (iotaInDim S128 32 0)) slices_S1x128_S1x64_0_0) (extractStridedSlice S1x16 ![0, 80] (broadcastInDim S1x128 ![1] bcast_S128_S1x128_1 (iotaInDim S128 32 0)) slices_S1x128_S1x16_0_80)
    (extractStridedSlice S1x16 ![0, 64] (broadcastInDim S1x128 ![1] bcast_S128_S1x128_1 (iotaInDim S128 32 0)) slices_S1x128_S1x16_0_64) (extractStridedSlice S1x32 ![0, 96] (broadcastInDim S1x128 ![1] bcast_S128_S1x128_1 (iotaInDim S128 32 0)) slices_S1x128_S1x32_0_96)

/-- The matrix that exchanges the halves, from the lane numbers. -/
def matrixOf (n : IVec S1x128 32) : FVec Ideal S128x128 .bf16 :=
  uitofp .bf16 (cmpi .eq (broadcastInDim S128x128 ![0, 1] bcast_S1x128_S128x128_0_1 (broadcastInDim S1x128 ![1] bcast_S128_S1x128_1 (shapeCast S128 n shapeCasts_S1x128_S128))) (broadcastInDim S128x128 ![0, 1] bcast_S128x1_S128x128_0_1 (broadcastInDim S128x1 ![0] bcast_S128_S128x1_0 (iotaInDim S128 32 0))))

variable (m : (ℓ : Loc nD τ sig) → Buf (Elt Ideal) ℓ) (c : Dev nD)

abbrev argP : IVec S2x16384 32 := m ((c : Thread nD τ).loc main_arg4)
abbrev argCQ : FVec Ideal S256 .f32 := m ((c : Thread nD τ).loc main_arg5)
abbrev argUQ : FVec Ideal S256x384 .f32 := m ((c : Thread nD τ).loc main_arg6)
abbrev argCK : FVec Ideal S128 .f32 := m ((c : Thread nD τ).loc main_arg7)
abbrev argUK : FVec Ideal S128x512 .f32 := m ((c : Thread nD τ).loc main_arg8)
abbrev argGQ : FVec Ideal S96 .f32 := m ((c : Thread nD τ).loc main_arg9)
abbrev argGK : FVec Ideal S96 .f32 := m ((c : Thread nD τ).loc main_arg10)

set_option maxHeartbeats 1000000 in
theorem entry4 : V m c main_v16 = cosTab (argP m c) := by
  unfold V
  after_reads_simp
  change tab4 (upto (τ := τ) (sig := sig) (Val := Elt Ideal) _ _ _ (Proc.devRef .tc main_v14)) (upto (τ := τ) (sig := sig) (Val := Elt Ideal) _ _ _ (Proc.devRef .tc main_v12)) (upto (τ := τ) (sig := sig) (Val := Elt Ideal) _ _ _ (Proc.devRef .tc main_v12)) (upto (τ := τ) (sig := sig) (Val := Elt Ideal) _ _ _ (Proc.devRef .tc main_v15)) = _
  after_reads_simp
  rfl

set_option maxHeartbeats 1000000 in
theorem entry5 : V m c main_v20 = sinTab (argP m c) := by
  unfold V
  after_reads_simp
  change tab4 (upto (τ := τ) (sig := sig) (Val := Elt Ideal) _ _ _ (Proc.devRef .tc main_v17)) (upto (τ := τ) (sig := sig) (Val := Elt Ideal) _ _ _ (Proc.devRef .tc main_v18)) (upto (τ := τ) (sig := sig) (Val := Elt Ideal) _ _ _ (Proc.devRef .tc main_v13)) (upto (τ := τ) (sig := sig) (Val := Elt Ideal) _ _ _ (Proc.devRef .tc main_v19)) = _
  after_reads_simp
  rfl

set_option maxHeartbeats 1000000 in
theorem entry7 : V m c main_v58 = flatQ (padQ (argUQ m c)) := by
  unfold V
  after_reads_simp
  rfl

set_option maxHeartbeats 1000000 in
theorem entry8 : V m c main_v65 = swapQ (padQ (argUQ m c)) := by
  unfold V
  after_reads_simp
  change head4 (upto (τ := τ) (sig := sig) (Val := Elt Ideal) _ _ _ (Proc.devRef .tc main_v59)) (upto (τ := τ) (sig := sig) (Val := Elt Ideal) _ _ _ (Proc.devRef .tc main_v60)) (upto (τ := τ) (sig := sig) (Val := Elt Ideal) _ _ _ (Proc.devRef .tc main_v61)) (upto (τ := τ) (sig := sig) (Val := Elt Ideal) _ _ _ (Proc.devRef .tc main_v62)) = _
  after_reads_simp
  rfl

set_option maxHeartbeats 1000000 in
theorem entry10 : V m c main_v67 = padK (argUK m c) := by
  unfold V
  after_reads_simp
  rfl

set_option maxHeartbeats 1000000 in
theorem entry12 : V m c main_v29 = padG (argGQ m c) := by
  unfold V
  after_reads_simp
  rfl

set_option maxHeartbeats 1000000 in
theorem entry13 : V m c main_v74 = swapG (padG (argGQ m c)) := by
  unfold V
  after_reads_simp
  change row4 (upto (τ := τ) (sig := sig) (Val := Elt Ideal) _ _ _ (Proc.devRef .tc main_v70)) (upto (τ := τ) (sig := sig) (Val := Elt Ideal) _ _ _ (Proc.devRef .tc main_v71)) (upto (τ := τ) (sig := sig) (Val := Elt Ideal) _ _ _ (Proc.devRef .tc main_v72)) (upto (τ := τ) (sig := sig) (Val := Elt Ideal) _ _ _ (Proc.devRef .tc main_v73)) = _
  after_reads_simp
  rfl

set_option maxHeartbeats 1000000 in
theorem entry14 : V m c main_v31 = padG (argGK m c) := by
  unfold V
  after_reads_simp
  rfl

set_option maxHeartbeats 1000000 in
theorem entry15 : V m c main_v79 = swapG (padG (argGK m c)) := by
  unfold V
  after_reads_simp
  change row4 (upto (τ := τ) (sig := sig) (Val := Elt Ideal) _ _ _ (Proc.devRef .tc main_v75)) (upto (τ := τ) (sig := sig) (Val := Elt Ideal) _ _ _ (Proc.devRef .tc main_v76)) (upto (τ := τ) (sig := sig) (Val := Elt Ideal) _ _ _ (Proc.devRef .tc main_v77)) (upto (τ := τ) (sig := sig) (Val := Elt Ideal) _ _ _ (Proc.devRef .tc main_v78)) = _
  after_reads_simp
  rfl

set_option maxHeartbeats 1000000 in
theorem entry16 : V m c main_v43 = mark := by
  unfold V
  after_reads_simp
  rfl

set_option maxHeartbeats 1000000 in
theorem entry17 : V m c main_v47 = markBy (Cert.Reference3Ideal.Proj.shift (argGQ m c) (argGK m c)) := by
  unfold V
  after_reads_simp
  rfl

set_option maxHeartbeats 1000000 in
theorem entry19 : V m c main_v92 = matrixOf nums := by
  unfold V
  after_reads_simp
  change matrixOf (num4 (upto (τ := τ) (sig := sig) (Val := Elt Ideal) _ _ _ (Proc.devRef .tc main_v81)) (upto (τ := τ) (sig := sig) (Val := Elt Ideal) _ _ _ (Proc.devRef .tc main_v82)) (upto (τ := τ) (sig := sig) (Val := Elt Ideal) _ _ _ (Proc.devRef .tc main_v83)) (upto (τ := τ) (sig := sig) (Val := Elt Ideal) _ _ _ (Proc.devRef .tc main_v84))) = _
  after_reads_simp
  rfl

end Cert.Kernel3Ideal.Proj

end
-- ==== Proof.InprojValue.lean ====
/- The projection call's first result is the reference's. -/
module

public import proofs.«01_k».proof.Proof.InprojPayload
public import proofs.«01_k».proof.Proof.InprojWeights
public import proofs.«01_k».proof.Proof.InprojRef
public import proofs.«01_k».proof.Proof.Gen.Kernel3Ideal.Value
public import Idealize.ShloMosaic.Lib.Claim

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- Where the blocks sit at grid point `t`: 512 rows of the input and the result, batch `t / 32`'s modulation, the gain whole. -/
theorem idx : ∀ t : Fin cfg0.N, win0_0.index t = ![t.val, 0] ∧ win0_1.index t = ![t.val / 32, 0, 0] ∧ win0_2.index t = ![0, 0] ∧ win0_20.index t = ![t.val, 0] ∧ t.val < 64 :=
  (by decide +kernel : ∀ t : Fin grid0.N, _)

abbrev argX : FVec Ideal S2x16384x1024 .f32 := m ((c : Thread nD τ).loc main_arg0)
abbrev argA : FVec Ideal S2x6144 .f32 := m ((c : Thread nD τ).loc main_arg1)
abbrev argG : FVec Ideal S1024 .f32 := m ((c : Thread nD τ).loc main_arg2)

theorem entry0 : V m c main_v93 = shapeCast S32768x1024 (argX m c) shapeCasts_S2x16384x1024_S32768x1024 := by
  unfold V
  after_reads_simp
  rfl

set_option maxHeartbeats 1000000 in
theorem blk0 (t : Fin cfg0.N) (b : Fin 2) (s : Fin 16384) (r : Fin 512) (j : Fin 1024) (h : 16384 * b.val + s.val = 512 * t.val + r.val) :
    (show S512x1024.Idx → EReal from iblk m c 0 t) (ix2 r j) = argX m c (ix3 b s j) := by
  blk_simp [iblk]
  rw [entry0 m c]
  pointwise
  blk_ext [idx t]

theorem blk1 (t : Fin cfg0.N) (b : Fin 2) (h : b.val = t.val / 32) (i : Fin 6) (j : Fin 1024) :
    (show S1x6x1024.Idx → EReal from iblk m c 1 t) (ix3 0 i j) = Cert.Reference3Ideal.Proj.chunk (argA m c) b i j := by
  unfold Cert.Reference3Ideal.Proj.chunk
  blk_simp [iblk]
  after_reads_simp
  pointwise
  blk_ext [idx t]

theorem blk2 (t : Fin cfg0.N) (j : Fin 1024) :
    (show S1x1024.Idx → EReal from iblk m c 2 t) (ix2 0 j) = argG m c (ix1 j) := by
  blk_simp [iblk]
  after_reads_simp
  pointwise
  blk_ext [idx t]

/-- What the call leaves in its first result: the reference's array. -/
theorem final : (dats m 0 c).arrAt 20 cfg0.N
    = Cert.Reference3Ideal.Proj.result (argX m c) (argA m c) (argG m c) (argW m c) := by
  refine (dats m 0 c).arrAt_eq_of_covers 20 _ (by decide +kernel) fun t _ y => ?_
  obtain ⟨r, col, rfl⟩ : ∃ (r : Fin 512) (col : Fin 6912), y = (ix2 r col : S512x6912.Idx) := ⟨y 0, y 1, by rw [eq_ix2 y]; idx_ext⟩
  have ht : t.val < 64 := (idx t).2.2.2.2
  blk_simp
  rw [after0_20]
  have hn : (⟨512 * t.val + r.val, by omega⟩ : Fin 32768).val = 16384 * (⟨t.val / 32, by omega⟩ : Fin 2).val + (⟨(512 * t.val + r.val) % 16384, by omega⟩ : Fin 16384).val := by
    show 512 * t.val + r.val = 16384 * (t.val / 32) + (512 * t.val + r.val) % 16384
    omega
  refine (out_apply _ _ _ _ _ _ _ _ _ _ _ _ _ _ _ _ _ _ _ _ r col).trans ?_
  rw [funext fun j => blk0 m c t _ _ r j hn.symm, funext fun j => blk1 m c t ⟨t.val / 32, by omega⟩ rfl 1 j, funext fun j => blk1 m c t ⟨t.val / 32, by omega⟩ rfl 0 j,
    funext fun j => blk2 m c t j]
  refine (Finset.sum_congr rfl fun j _ => congrArg (_ * ·) (blk3 m c t j col)).trans ?_
  refine (Inproj.sum_arrange _ (fun j e => argW m c (ix2 j e)) col).trans ?_
  refine (Cert.Reference3Ideal.Proj.result_apply (argX m c) (argA m c) (argG m c) (argW m c) _ _ _ hn col).symm.trans ?_
  refine congrArg (Cert.Reference3Ideal.Proj.result (argX m c) (argA m c) (argG m c) (argW m c)) ?_
  blk_ext [idx t]

end Cert.Kernel3Ideal.Proj

end
-- ==== Proof.HeadTab.lean ====
/- The tables, weights and gains the projection call's queries and keys are made with, at an entry. -/
module

public import proofs.«01_k».proof.Proof.HeadHost
public import proofs.«01_k».proof.Proof.InprojValue

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem Idealize.ShloMosaic.StableHlo

theorem angle_apply (pos : IVec S2x16384 32) (b : Fin 2) (s : Fin 16384) (t : Fin 32768) (ht : t.val = 16384 * b.val + s.val) (q : Fin 16) :
    (angle pos (ix2 t q) : EReal) = Cert.Reference3Ideal.Proj.angle pos (ix3 b s q) := by
  unfold angle Cert.Reference3Ideal.Proj.angle
  pointwise
  refine congrArg (fun i => FloatOps.sitofp FTy.f32 (pos i) * _) (funext fun (a : Fin 2) => Fin.ext ?_)
  fin_cases a
  · show t.val / 16384 = b.val
    omega
  · show t.val % 16384 = s.val
    omega

theorem zero_num : (FloatOps.sitofp (F := Ideal) FTy.f32 (0#32 : BitVec 32) : EReal) = 0 := by
  show (((0#32 : BitVec 32).toInt : ℝ) : EReal) = 0
  simp

theorem tab4_apply (u0 : FVec Ideal S32768x64 .f32) (u1 u2 : FVec Ideal S32768x16 .f32) (u3 : FVec Ideal S32768x32 .f32) (t : Fin 32768) (l : Fin 128) (r : EReal)
    (h0 : ∀ h : l.val < 64, u0 (ix2 t ⟨l.val, h⟩) = r) (h1 : ∀ h : 64 ≤ l.val ∧ l.val < 80, u1 (ix2 t ⟨l.val % 16, by omega⟩) = r)
    (h2 : ∀ h : 80 ≤ l.val ∧ l.val < 96, u2 (ix2 t ⟨l.val % 16, by omega⟩) = r) (h3 : ∀ h : 96 ≤ l.val, u3 (ix2 t ⟨l.val - 96, by omega⟩) = r) :
    (tab4 u0 u1 u2 u3 (ix2 t l) : EReal) = r := by
  unfold tab4
  pointwise
  refine rung (fun h => h0 h) (fun h => rung (fun h' => Eq.trans (congrArg (fun i => u1 (ix2 t i)) (Fin.ext ?_)) (h1 (by omega))) (fun h' => rung (fun h'' => Eq.trans (congrArg (fun i => u2 (ix2 t i)) (Fin.ext ?_)) (h2 (by omega))) (fun h'' => Eq.trans (congrArg (fun i => u3 (ix2 t i)) (Fin.ext ?_)) (h3 (by omega)))))
  · show l.val - 64 = l.val % 16
    omega
  · show l.val - 64 - 16 = l.val % 16
    omega
  · show l.val - 64 - 16 - 16 = l.val - 96
    omega

theorem one_num : (Ideal.ofBits FTy.f32 0x3F800000#32 : EReal) = 1 := by
  simp [Ideal.ofBits, Ideal.ieee, -EReal.coe_mul]
  norm_num

theorem nil_num : (Ideal.ofBits FTy.f32 0x00000000#32 : EReal) = 0 := by
  simp [Ideal.ofBits, Ideal.ieee]

theorem cosTab_apply (pos : IVec S2x16384 32) (b : Fin 2) (s : Fin 16384) (t : Fin 32768) (ht : t.val = 16384 * b.val + s.val) (l : Fin 128) :
    (cosTab pos (ix2 t l) : EReal) = Latent.cosLane (Cert.Reference3Ideal.Proj.cosAt pos b s) l := by
  unfold cosTab Latent.cosLane
  refine tab4_apply _ _ _ _ t l _ (fun h => ?_) (fun h => ?_) (fun h => ?_) (fun h => ?_)
  · rw [if_neg (by omega)]
    exact one_num
  · rw [if_pos (by omega)]
    exact congrArg Ideal.cos (angle_apply pos b s t ht _)
  · rw [if_pos (by omega)]
    exact congrArg Ideal.cos (angle_apply pos b s t ht _)
  · rw [if_neg (by omega)]
    exact one_num

theorem sinTab_apply (pos : IVec S2x16384 32) (b : Fin 2) (s : Fin 16384) (t : Fin 32768) (ht : t.val = 16384 * b.val + s.val) (l : Fin 128) :
    (sinTab pos (ix2 t l) : EReal) = Latent.sinLane (Cert.Reference3Ideal.Proj.sinAt pos b s) l := by
  unfold sinTab Latent.sinLane
  refine tab4_apply _ _ _ _ t l _ (fun h => ?_) (fun h => ?_) (fun h => ?_) (fun h => ?_)
  · rw [if_pos h]
    exact nil_num
  · rw [if_neg (by omega), if_pos h.2]
    exact congrArg (fun x => -Ideal.sin x) (angle_apply pos b s t ht _)
  · rw [if_neg (by omega), if_neg (by omega), if_pos h.2]
    exact congrArg Ideal.sin (angle_apply pos b s t ht _)
  · rw [if_neg (by omega), if_neg (by omega), if_neg (by omega)]
    exact nil_num

theorem padG_apply (g : FVec Ideal S96 .f32) (l : Fin 128) : (padG g (ix2 0 l) : EReal) = Latent.lanes (fun i => g (ix1 i)) l := by
  unfold padG Latent.lanes
  pointwise
  rw [zero_num]

theorem padQ_apply (w : FVec Ideal S256x384 .f32) (j : Fin 256) (o : Fin 4) (l : Fin 128) : (padQ w (ix3 j o l) : EReal) = Latent.lanes (fun i => w (ix2 j (⟨o.val * 96 + i.val, by omega⟩ : Fin 384))) l := by
  unfold padQ Latent.lanes
  pointwise
  rw [zero_num]

theorem flatQ_apply (p : FVec Ideal S256x4x128 .f32) (j : Fin 256) (l : Fin 512) : (flatQ p (ix2 j l) : EReal) = p (ix3 j (⟨l.val / 128, by omega⟩ : Fin 4) (⟨l.val % 128, by omega⟩ : Fin 128)) := by
  unfold flatQ
  pointwise

theorem sw_lt' (l : Fin 128) : Latent.sw l.val < 128 := by
  unfold Latent.sw
  split_ifs <;> omega

/-- A ladder of four pieces reads lane `sw l`. -/
theorem ladder {α : Type} (f : Fin 128 → α) (l : Fin 128) (k : ℕ) (hk : l.val = k) :
    (if h : k < 64 then f ⟨k, by omega⟩ else if h : k - 64 < 16 then f ⟨80 + (k - 64), by omega⟩
      else if h : k - 64 - 16 < 16 then f ⟨64 + (k - 64 - 16), by omega⟩ else f ⟨96 + (k - 64 - 16 - 16), by omega⟩) = f ⟨Latent.sw l.val, sw_lt' l⟩ := by
  subst hk
  split_ifs <;> refine congrArg f (Fin.ext ?_) <;> unfold Latent.sw <;> dsimp only <;> split_ifs <;> omega

theorem swapQ_apply (p : FVec Ideal S256x4x128 .f32) (j : Fin 256) (l : Fin 512) : (swapQ p (ix2 j l) : EReal) = p (ix3 j (⟨l.val / 128, by omega⟩ : Fin 4) (⟨Latent.sw (l.val % 128), sw_lt' ⟨l.val % 128, by omega⟩⟩ : Fin 128)) := by
  unfold swapQ head4
  refine (flatQ_apply _ j l).trans ?_
  pointwise
  exact ladder (fun i => p (ix3 j (⟨l.val / 128, by omega⟩ : Fin 4) i)) ⟨l.val % 128, by omega⟩ _ rfl

/-- Lanes read at their pairs' other halves. -/
theorem lanes_sw (z : Fin 96 → EReal) (l : Fin 128) : Latent.lanes z ⟨Latent.sw l.val, sw_lt' l⟩ = Latent.lanes (Latent.swap z) l := by
  unfold Latent.lanes Latent.swap
  by_cases h : l.val < 96
  · rw [dif_pos h, dif_pos (Latent.sw_lt _ h)]
  · rw [dif_neg h, dif_neg (by unfold Latent.sw; split_ifs <;> dsimp only <;> omega)]

theorem padK_apply (u : FVec Ideal S128x512 .f32) (j : Fin 128) (l : Fin 512) :
    (padK u (ix2 j l) : EReal) = if l.val % 128 < 64 then u (ix2 j l) else 0 := by
  unfold padK
  pointwise
  rw [zero_num]
  refine rung (fun h => (if_pos h.2).symm) (fun h => (if_neg fun h' => h ⟨by omega, h'⟩).symm)

theorem swapG_apply (p : FVec Ideal S1x128 .f32) (l : Fin 128) : (swapG p (ix2 0 l) : EReal) = p (ix2 0 (⟨Latent.sw l.val, sw_lt' l⟩ : Fin 128)) := by
  unfold swapG row4
  pointwise
  exact ladder (fun i => p (ix2 0 i)) l _ rfl

theorem bit (p : Prop) [Decidable p] : (((if p then 1#1 else 0#1 : BitVec 1).toNat : ℝ) : EReal) = if p then 1 else 0 := by
  split_ifs <;> simp

theorem cmp_eq (a b : BitVec 32) : IntOp.cmpi CmpIPredicate.eq a b = if a = b then 1#1 else 0#1 := by
  show BitVec.ofBool (a == b) = _
  by_cases h : a = b
  · rw [if_pos h, h, beq_self_eq_true]
    rfl
  · rw [if_neg h, beq_eq_false_iff_ne.mpr h]
    rfl

theorem num_inj (a b : ℕ) (ha : a < 128) (hb : b < 128) : BitVec.ofNat 32 a = BitVec.ofNat 32 b ↔ a = b := by
  refine ⟨fun h => ?_, fun h => h ▸ rfl⟩
  have := congrArg BitVec.toNat h
  simp only [BitVec.toNat_ofNat] at this
  omega

theorem mark_apply (l : Fin 128) : (mark (ix2 0 l) : EReal) = if l.val = 96 then 1 else 0 := by
  unfold mark
  pointwise
  rw [cmp_eq]
  refine (bit _).trans ?_
  exact if_congr (num_inj _ 96 l.isLt (by omega)) rfl rfl

theorem markBy_apply (e : FVec Ideal S_ .f32) (l : Fin 128) : (markBy e (ix2 0 l) : EReal) = if l.val = 96 then e ix0 else 0 := by
  refine Eq.trans (b := ((if l.val = 96 then (1 : EReal) else 0) * (e ix0 : EReal))) ?_ ?_
  · refine Eq.trans ?_ (congrArg (· * (e ix0 : EReal)) (mark_apply l))
    unfold markBy
    pointwise
  · split_ifs
    · exact one_mul _
    · exact zero_mul _

theorem nums_apply (l : Fin 128) : nums (ix2 0 l) = BitVec.ofNat 32 (Latent.sw l.val) := by
  unfold nums num4
  pointwise
  exact ladder (fun i => BitVec.ofNat 32 i.val) l _ rfl

theorem matrixOf_apply (j l : Fin 128) : (matrixOf nums (ix2 j l) : EReal) = if Latent.sw l.val = j.val then 1 else 0 := by
  refine Eq.trans (b := ((if nums (ix2 0 l) = BitVec.ofNat 32 j.val then 1 else 0 : EReal))) ?_ ?_
  · generalize nums = n
    unfold matrixOf
    pointwise
    rw [cmp_eq]
    exact bit _
  · rw [nums_apply]
    exact if_congr (num_inj _ _ (sw_lt' l) j.isLt) rfl rfl

variable (m : (ℓ : Loc nD τ sig) → Buf (Elt Ideal) ℓ) (c : Dev nD)

theorem idxH : ∀ t : Fin cfg0.N, win0_4.index t = ![t.val, 0] ∧ win0_5.index t = ![t.val, 0] ∧ win0_6.index t = ![0, 0] ∧ win0_7.index t = ![0, 0] ∧ win0_8.index t = ![0, 0] ∧ win0_10.index t = ![0, 0]
    ∧ win0_12.index t = ![0, 0] ∧ win0_13.index t = ![0, 0] ∧ win0_14.index t = ![0, 0] ∧ win0_15.index t = ![0, 0] ∧ win0_16.index t = ![0, 0] ∧ win0_17.index t = ![0, 0] ∧ win0_19.index t = ![0, 0]
    ∧ win0_21.index t = ![t.val, 0] ∧ win0_22.index t = ![t.val, 0] :=
  (by decide +kernel : ∀ t : Fin grid0.N, _)

theorem blk4 (t : Fin cfg0.N) (b : Fin 2) (s : Fin 16384) (r : Fin 512) (l : Fin 128) (h : 16384 * b.val + s.val = 512 * t.val + r.val) :
    (show S512x128.Idx → EReal from iblk m c 4 t) (ix2 r l) = Latent.cosLane (Cert.Reference3Ideal.Proj.cosAt (argP m c) b s) l := by
  refine Eq.trans ?_ (cosTab_apply (argP m c) b s (⟨16384 * b.val + s.val, by omega⟩ : Fin 32768) rfl l)
  rw [← entry4 m c]
  blk_simp [iblk]
  refine congrArg (V m c main_v16) ?_
  blk_ext [idxH t]

theorem blk5 (t : Fin cfg0.N) (b : Fin 2) (s : Fin 16384) (r : Fin 512) (l : Fin 128) (h : 16384 * b.val + s.val = 512 * t.val + r.val) :
    (show S512x128.Idx → EReal from iblk m c 5 t) (ix2 r l) = Latent.sinLane (Cert.Reference3Ideal.Proj.sinAt (argP m c) b s) l := by
  refine Eq.trans ?_ (sinTab_apply (argP m c) b s (⟨16384 * b.val + s.val, by omega⟩ : Fin 32768) rfl l)
  rw [← entry5 m c]
  blk_simp [iblk]
  refine congrArg (V m c main_v20) ?_
  blk_ext [idxH t]

theorem blk6 (t : Fin cfg0.N) (j : Fin 256) : (show S1x256.Idx → EReal from iblk m c 6 t) (ix2 0 j) = argCQ m c (ix1 j) := by
  blk_simp [iblk]
  after_reads_simp
  pointwise
  blk_ext [idxH t]

theorem blk7 (t : Fin cfg0.N) (j : Fin 256) (l : Fin 512) : (show S256x512.Idx → EReal from iblk m c 7 t) (ix2 j l)
    = Latent.lanes (fun i => argUQ m c (ix2 j (⟨l.val / 128 * 96 + i.val, by omega⟩ : Fin 384))) ⟨l.val % 128, by omega⟩ := by
  refine Eq.trans ?_ ((flatQ_apply _ j l).trans (padQ_apply (argUQ m c) j _ _))
  rw [← entry7 m c]
  blk_simp [iblk]
  refine congrArg (V m c main_v58) ?_
  blk_ext [idxH t]

theorem blk8 (t : Fin cfg0.N) (j : Fin 256) (l : Fin 512) : (show S256x512.Idx → EReal from iblk m c 8 t) (ix2 j l)
    = Latent.lanes (Latent.swap fun i => argUQ m c (ix2 j (⟨l.val / 128 * 96 + i.val, by omega⟩ : Fin 384))) ⟨l.val % 128, by omega⟩ := by
  refine Eq.trans ?_ ((swapQ_apply _ j l).trans ((padQ_apply (argUQ m c) j _ _).trans (lanes_sw _ ⟨l.val % 128, by omega⟩)))
  rw [← entry8 m c]
  blk_simp [iblk]
  refine congrArg (V m c main_v65) ?_
  blk_ext [idxH t]

theorem blk10 (t : Fin cfg0.N) (j : Fin 128) (l : Fin 512) : (show S128x512.Idx → EReal from iblk m c 10 t) (ix2 j l) = if l.val % 128 < 64 then argUK m c (ix2 j l) else 0 := by
  refine Eq.trans ?_ (padK_apply (argUK m c) j l)
  rw [← entry10 m c]
  blk_simp [iblk]
  refine congrArg (V m c main_v67) ?_
  blk_ext [idxH t]

theorem blk12 (t : Fin cfg0.N) (l : Fin 128) : (show S1x128.Idx → EReal from iblk m c 12 t) (ix2 0 l) = Latent.lanes (fun i => argGQ m c (ix1 i)) l := by
  refine Eq.trans ?_ (padG_apply (argGQ m c) l)
  rw [← entry12 m c]
  blk_simp [iblk]
  refine congrArg (V m c main_v29) ?_
  blk_ext [idxH t]

theorem blk13 (t : Fin cfg0.N) (l : Fin 128) : (show S1x128.Idx → EReal from iblk m c 13 t) (ix2 0 l) = Latent.lanes (Latent.swap fun i => argGQ m c (ix1 i)) l := by
  refine Eq.trans ?_ ((swapG_apply _ l).trans ((padG_apply (argGQ m c) _).trans (lanes_sw _ l)))
  rw [← entry13 m c]
  blk_simp [iblk]
  refine congrArg (V m c main_v74) ?_
  blk_ext [idxH t]

theorem blk14 (t : Fin cfg0.N) (l : Fin 128) : (show S1x128.Idx → EReal from iblk m c 14 t) (ix2 0 l) = Latent.lanes (fun i => argGK m c (ix1 i)) l := by
  refine Eq.trans ?_ (padG_apply (argGK m c) l)
  rw [← entry14 m c]
  blk_simp [iblk]
  refine congrArg (V m c main_v31) ?_
  blk_ext [idxH t]

theorem blk15 (t : Fin cfg0.N) (l : Fin 128) : (show S1x128.Idx → EReal from iblk m c 15 t) (ix2 0 l) = Latent.lanes (Latent.swap fun i => argGK m c (ix1 i)) l := by
  refine Eq.trans ?_ ((swapG_apply _ l).trans ((padG_apply (argGK m c) _).trans (lanes_sw _ l)))
  rw [← entry15 m c]
  blk_simp [iblk]
  refine congrArg (V m c main_v79) ?_
  blk_ext [idxH t]

theorem blk16 (t : Fin cfg0.N) (l : Fin 128) : (show S1x128.Idx → EReal from iblk m c 16 t) (ix2 0 l) = if l.val = 96 then 1 else 0 := by
  refine Eq.trans ?_ (mark_apply l)
  rw [← entry16 m c]
  blk_simp [iblk]
  refine congrArg (V m c main_v43) ?_
  blk_ext [idxH t]

theorem blk17 (t : Fin cfg0.N) (l : Fin 128) : (show S1x128.Idx → EReal from iblk m c 17 t) (ix2 0 l)
    = if l.val = 96 then (Cert.Reference3Ideal.Proj.shift (argGQ m c) (argGK m c) ix0 : EReal) else 0 := by
  refine Eq.trans ?_ (markBy_apply (Cert.Reference3Ideal.Proj.shift (argGQ m c) (argGK m c)) l)
  rw [← entry17 m c]
  blk_simp [iblk]
  refine congrArg (V m c main_v47) ?_
  blk_ext [idxH t]

theorem blk19 (t : Fin cfg0.N) (j l : Fin 128) : (show S128x128.Idx → EReal from iblk m c 19 t) (ix2 j l) = if Latent.sw l.val = j.val then 1 else 0 := by
  refine Eq.trans ?_ (matrixOf_apply j l)
  rw [← entry19 m c]
  blk_simp [iblk]
  refine congrArg (V m c main_v92) ?_
  blk_ext [idxH t]

end Cert.Kernel3Ideal.Proj

end
-- ==== Proof.HeadMath.lean ====
/- The projection call's queries and keys of a token, from the tables, weights and gains it gets, are the heads normalized and turned. -/
module

public import proofs.«01_k».proof.Proof.HeadPayload
public import proofs.«01_k».proof.Proof.HeadTab

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

/-- A product with padded weights is the padded product. -/
theorem sum_of_lanes {n : ℕ} (f : Fin n → EReal) (w : Fin n → Fin 96 → EReal) (i : Fin 128) :
    ∑ j, f j * Latent.lanes (w j) i = Latent.lanes (fun k => ∑ j, f j * w j k) i := by
  unfold Latent.lanes
  split_ifs
  · rfl
  · simp

section
variable (x0 : FVec Ideal S512x1024 .f32) (x1 : FVec Ideal S1x6x1024 .f32) (x2 : FVec Ideal S1x1024 .f32) (x3 : FVec Ideal S1024x6912 .bf16) (x4 x5 : FVec Ideal S512x128 .f32)
  (r : Fin 512) (P : FVec Ideal Cert.Reference3Ideal.S2x16384x6816 .f32) (b : Fin 2) (s : Fin 16384) (co si : Fin 16 → EReal)
  (hw : ∀ e, whole x0 x1 x2 x3 r e = Inproj.arrange (fun e => P (ix3 b s e)) e)
  (h4 : ∀ l, x4 (ix2 r l) = Latent.cosLane co l) (h5 : ∀ l, x5 (ix2 r l) = Latent.sinLane si l)

include hw in
theorem cols_q : (fun i : Fin 256 => whole x0 x1 x2 x3 r (⟨4864 + i.val, by omega⟩ : Fin 6912)) = fun i => (P (ix3 b s (⟨768 + i.val, by omega⟩ : Fin 6816)) : EReal) :=
  funext fun i => (hw _).trans (Inproj.arrange_of (w := fun e => P (ix3 b s e)) (by unfold Inproj.isPad; dsimp only; omega) _ (by have := Inproj.src_cases (4864 + i.val); dsimp only; omega)).symm

include hw in
theorem cols_k : (fun i : Fin 128 => whole x0 x1 x2 x3 r (⟨6656 + i.val, by omega⟩ : Fin 6912)) = fun i => (P (ix3 b s (⟨1024 + i.val, by omega⟩ : Fin 6816)) : EReal) :=
  funext fun i => (hw _).trans (Inproj.arrange_of (w := fun e => P (ix3 b s e)) (by unfold Inproj.isPad; dsimp only; omega) _ (by have := Inproj.src_cases (6656 + i.val); dsimp only; omega)).symm

/-- The entries that all heads' keys share, in the lanes that are turned. -/
def shared (i : Fin 128) : EReal := if h : 64 ≤ i.val ∧ i.val < 96 then P (ix3 b s (⟨1152 + (i.val - 64), by omega⟩ : Fin 6816)) else 0

include hw in
theorem cols_s (i : Fin 128) : whole x0 x1 x2 x3 r (⟨6784 + i.val, by omega⟩ : Fin 6912) = shared P b s i := by
  refine (hw _).trans ?_
  unfold shared
  split_ifs with h
  · exact (Inproj.arrange_of (w := fun e => P (ix3 b s e)) (by unfold Inproj.isPad; dsimp only; omega) _ (by have := Inproj.src_cases (6784 + i.val); dsimp only; omega)).symm
  · exact (Inproj.arrange_pad (by unfold Inproj.isPad; dsimp only; omega)).symm

include hw in
theorem qrow_eq (x6 : FVec Ideal S1x256 .f32) (g : FVec Ideal S256 .f32) (h6 : ∀ j, x6 (ix2 0 j) = g (ix1 j)) (x7 : FVec Ideal S256x512 .bf16) (o : Fin 4) (w : Fin 256 → Fin 96 → EReal)
    (h7 : ∀ (j : Fin 256) (i : Fin 128), x7 (ix2 j (⟨128 * o.val + i.val, by omega⟩ : Fin 512)) = Latent.lanes (w j) i) :
    lane4 (qrow x0 x1 x2 x3 x6 x7 r) o
    = Latent.lanes fun k => ∑ j, Latent.normed (Ideal.ofBits .f32 0x43800000#32) (fun i : Fin 256 => P (ix3 b s (⟨768 + i.val, by omega⟩ : Fin 6816))) (fun i => g (ix1 i)) j * w j k := by
  funext i
  unfold lane4 qrow
  rw [cols_q x0 x1 x2 x3 r P b s hw, funext h6]
  exact (Finset.sum_congr rfl fun j _ => congrArg (_ * ·) (h7 j i)).trans (sum_of_lanes _ _ _)

/-- The keys' own entries of a head. -/
def own (g : FVec Ideal S128 .f32) (w : FVec Ideal S128x512 .f32) (o : Fin 4) (i : Fin 128) : EReal :=
  if i.val < 64 then ∑ j, Latent.normed (Ideal.ofBits .f32 0x43000000#32) (fun i : Fin 128 => P (ix3 b s (⟨1024 + i.val, by omega⟩ : Fin 6816))) (fun i => g (ix1 i)) j * w (ix2 j (⟨o.val * 128 + i.val, by omega⟩ : Fin 512)) else 0

include hw in
theorem krow_eq (x9 : FVec Ideal S1x128 .f32) (g : FVec Ideal S128 .f32) (h9 : ∀ j, x9 (ix2 0 j) = g (ix1 j)) (x10 : FVec Ideal S128x512 .bf16) (w : FVec Ideal S128x512 .f32)
    (h10 : ∀ (j : Fin 128) (l : Fin 512), x10 (ix2 j l) = if l.val % 128 < 64 then w (ix2 j l) else 0) (o : Fin 4) (i : Fin 128) :
    lane4 (krow x0 x1 x2 x3 x9 x10 r) o i = own P b s g w o i := by
  unfold lane4 krow own
  rw [cols_k x0 x1 x2 x3 r P b s hw, funext h9]
  refine (Finset.sum_congr rfl fun j _ => congrArg (_ * ·) (h10 j _)).trans ?_
  dsimp only
  split_ifs with h h' h'
  · refine Finset.sum_congr rfl fun j _ => congrArg (fun e => _ * w (ix2 j e)) (Fin.ext ?_)
    show 128 * o.val + i.val = o.val * 128 + i.val
    omega
  · omega
  · omega
  · simp

theorem own_shared (g : FVec Ideal S128 .f32) (w : FVec Ideal S128x512 .f32) (o : Fin 4) (i : Fin 128) :
    own P b s g w o i + shared P b s i = Latent.lanes (Cert.Reference3Ideal.Proj.zk P g w b s o) i := by
  unfold own shared Latent.lanes Cert.Reference3Ideal.Proj.zk
  by_cases h : i.val < 64
  · rw [if_pos h, dif_neg (by omega), add_zero, dif_pos (by omega), dif_pos h]
  · rw [if_neg h, zero_add]
    by_cases h' : i.val < 96
    · rw [dif_pos ⟨by omega, h'⟩, dif_pos h', dif_neg h]
    · rw [dif_neg (by omega), dif_neg h']

theorem own_shared_swap (g : FVec Ideal S128 .f32) (w : FVec Ideal S128x512 .f32) (o : Fin 4) (i : Fin 128) :
    own P b s g w o i + shared P b s ⟨Latent.sw i.val, sw_lt' i⟩ = Latent.lanes (Latent.swap (Cert.Reference3Ideal.Proj.zk P g w b s o)) i := by
  refine Eq.trans (congrArg (· + _) ?_) ((own_shared P b s g w o ⟨Latent.sw i.val, sw_lt' i⟩).trans (lanes_sw _ i))
  by_cases h : i.val < 64
  · refine congrArg (own P b s g w o) (Fin.ext ?_)
    show i.val = Latent.sw i.val
    unfold Latent.sw
    rw [if_pos h]
  · unfold own
    rw [if_neg h, if_neg]
    show ¬Latent.sw i.val < 64
    unfold Latent.sw
    split_ifs <;> omega

include hw h4 h5 in
theorem query_eq (x6 : FVec Ideal S1x256 .f32) (g : FVec Ideal S256 .f32) (h6 : ∀ j, x6 (ix2 0 j) = g (ix1 j)) (x7 x8 : FVec Ideal S256x512 .bf16) (w : FVec Ideal S256x384 .f32) (o : Fin 4)
    (h7 : ∀ (j : Fin 256) (i : Fin 128), x7 (ix2 j (⟨128 * o.val + i.val, by omega⟩ : Fin 512)) = Latent.lanes (fun k => w (ix2 j (⟨o.val * 96 + k.val, by omega⟩ : Fin 384))) i)
    (h8 : ∀ (j : Fin 256) (i : Fin 128), x8 (ix2 j (⟨128 * o.val + i.val, by omega⟩ : Fin 512)) = Latent.lanes (Latent.swap fun k => w (ix2 j (⟨o.val * 96 + k.val, by omega⟩ : Fin 384))) i)
    (x12 x13 x16 : FVec Ideal S1x128 .f32) (gq : Fin 96 → EReal) (h12 : ∀ l, x12 (ix2 0 l) = Latent.lanes gq l) (h13 : ∀ l, x13 (ix2 0 l) = Latent.lanes (Latent.swap gq) l)
    (h16 : ∀ l : Fin 128, x16 (ix2 0 l) = if l.val = 96 then 1 else 0) (l : Fin 128) :
    Latent.turned ((1 / 96 : ℝ) : EReal) (lane4 (qrow x0 x1 x2 x3 x6 x7 r) o) (lane4 (qrow x0 x1 x2 x3 x6 x8 r) o)
        (fun i => x4 (ix2 r i) * (x12 (ix2 0 i) * Ideal.ofBits .f32 0x3E16C740#32)) (fun i => x5 (ix2 r i) * (x13 (ix2 0 i) * Ideal.ofBits .f32 0x3E16C740#32)) (fun i => x16 (ix2 0 i)) l
    = Latent.head (Cert.Reference3Ideal.Proj.zq P g w b s o) gq co si (Ideal.ofBits .f32 0x3E16C740#32) 1 l := by
  have e0 := qrow_eq x0 x1 x2 x3 r P b s hw x6 g h6 x7 o _ h7
  have e1 := qrow_eq x0 x1 x2 x3 r P b s hw x6 g h6 x8 o _ h8
  have e2 : (fun i => x4 (ix2 r i) * (x12 (ix2 0 i) * Ideal.ofBits .f32 0x3E16C740#32)) = fun i => Latent.cosLane co i * (Latent.lanes gq i * Ideal.ofBits .f32 0x3E16C740#32) := funext fun i => by rw [h4, h12]
  have e3 : (fun i => x5 (ix2 r i) * (x13 (ix2 0 i) * Ideal.ofBits .f32 0x3E16C740#32)) = fun i => Latent.sinLane si i * (Latent.lanes (Latent.swap gq) i * Ideal.ofBits .f32 0x3E16C740#32) := funext fun i => by rw [h5, h13]
  rw [e0, e1, e2, e3, funext h16]
  obtain ⟨e, he, hs⟩ := Latent.scale_pos
  refine Latent.turned_eq (Cert.Reference3Ideal.Proj.zq P g w b s o) gq co si _ 1 ?_ ?_ l
  · rw [hs]
    exact EReal.coe_nonneg.mpr he.le
  · rw [hs]
    exact EReal.coe_ne_top _

include hw h4 h5 in
theorem key_eq (x9 : FVec Ideal S1x128 .f32) (g : FVec Ideal S128 .f32) (h9 : ∀ j, x9 (ix2 0 j) = g (ix1 j)) (x10 : FVec Ideal S128x512 .bf16) (w : FVec Ideal S128x512 .f32)
    (h10 : ∀ (j : Fin 128) (l : Fin 512), x10 (ix2 j l) = if l.val % 128 < 64 then w (ix2 j l) else 0) (o : Fin 4)
    (x14 x15 x17 : FVec Ideal S1x128 .f32) (gk : Fin 96 → EReal) (h14 : ∀ l, x14 (ix2 0 l) = Latent.lanes gk l) (h15 : ∀ l, x15 (ix2 0 l) = Latent.lanes (Latent.swap gk) l)
    (e : EReal) (h17 : ∀ l : Fin 128, x17 (ix2 0 l) = if l.val = 96 then e else 0) (x19 : FVec Ideal S128x128 .bf16) (h19 : ∀ j l : Fin 128, x19 (ix2 j l) = if Latent.sw l.val = j.val then 1 else 0) (l : Fin 128) :
    Latent.turned ((1 / 96 : ℝ) : EReal) (fun i => lane4 (krow x0 x1 x2 x3 x9 x10 r) o i + whole x0 x1 x2 x3 r (⟨6784 + i.val, by omega⟩ : Fin 6912))
        (fun i => lane4 (krow x0 x1 x2 x3 x9 x10 r) o i + ∑ j : Fin 128, whole x0 x1 x2 x3 r (⟨6784 + j.val, by omega⟩ : Fin 6912) * x19 (ix2 j i))
        (fun i => x4 (ix2 r i) * x14 (ix2 0 i)) (fun i => x5 (ix2 r i) * x15 (ix2 0 i)) (fun i => x17 (ix2 0 i)) l
    = Latent.head (Cert.Reference3Ideal.Proj.zk P g w b s o) gk co si 1 e l := by
  have e0 : (fun i => lane4 (krow x0 x1 x2 x3 x9 x10 r) o i + whole x0 x1 x2 x3 r (⟨6784 + i.val, by omega⟩ : Fin 6912)) = Latent.lanes (Cert.Reference3Ideal.Proj.zk P g w b s o) := funext fun i => by
    rw [krow_eq x0 x1 x2 x3 r P b s hw x9 g h9 x10 w h10 o i, cols_s x0 x1 x2 x3 r P b s hw i]
    exact own_shared P b s g w o i
  have e1 : (fun i => lane4 (krow x0 x1 x2 x3 x9 x10 r) o i + ∑ j : Fin 128, whole x0 x1 x2 x3 r (⟨6784 + j.val, by omega⟩ : Fin 6912) * x19 (ix2 j i)) = Latent.lanes (Latent.swap (Cert.Reference3Ideal.Proj.zk P g w b s o)) := funext fun i => by
    rw [krow_eq x0 x1 x2 x3 r P b s hw x9 g h9 x10 w h10 o i]
    refine Eq.trans (congrArg (own P b s g w o i + ·) ?_) (own_shared_swap P b s g w o i)
    refine (Finset.sum_eq_single (⟨Latent.sw i.val, sw_lt' i⟩ : Fin 128) (fun j _ hj => ?_) (fun h => absurd (Finset.mem_univ _) h)).trans ?_
    · rw [h19, if_neg fun h => hj (Fin.ext h.symm), mul_zero]
    · rw [h19, if_pos rfl, mul_one]
      exact cols_s x0 x1 x2 x3 r P b s hw _
  have e2 : (fun i => x4 (ix2 r i) * x14 (ix2 0 i)) = fun i => Latent.cosLane co i * (Latent.lanes gk i * 1) := funext fun i => by rw [h4, h14, mul_one]
  have e3 : (fun i => x5 (ix2 r i) * x15 (ix2 0 i)) = fun i => Latent.sinLane si i * (Latent.lanes (Latent.swap gk) i * 1) := funext fun i => by rw [h5, h15, mul_one]
  rw [e0, e1, e2, e3, funext h17]
  exact Latent.turned_eq (Cert.Reference3Ideal.Proj.zk P g w b s o) gk co si 1 e zero_le_one (EReal.coe_ne_top 1) l

end

end Cert.Kernel3Ideal.Proj

end
-- ==== Proof.LatentValue.lean ====
/- The projection call's values are the reference's. -/
module

public import proofs.«01_k».proof.Proof.LatentPayload
public import proofs.«01_k».proof.Proof.LatentRef
public import proofs.«01_k».proof.Proof.InprojValue

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem Idealize.ShloMosaic.StableHlo

variable (m : (ℓ : Loc nD τ sig) → Buf (Elt Ideal) ℓ) (c : Dev nD)

abbrev argC : FVec Ideal S128 .f32 := m ((c : Thread nD τ).loc main_arg7)
abbrev argU : FVec Ideal S128x512 .f32 := m ((c : Thread nD τ).loc main_arg8)

theorem idxV : ∀ t : Fin cfg0.N, win0_9.index t = ![0, 0] ∧ win0_11.index t = ![0, 0] ∧ win0_18.index t = ![0, 0] ∧ win0_23.index t = ![t.val, 0] :=
  (by decide +kernel : ∀ t : Fin grid0.N, _)

theorem blk9 (t : Fin cfg0.N) (j : Fin 128) : (show S1x128.Idx → EReal from iblk m c 9 t) (ix2 0 j) = argC m c (ix1 j) := by
  blk_simp [iblk]
  after_reads_simp
  pointwise
  blk_ext [idxV t]

/-- The value half of the up-projection's weights, each head padded to 128 lanes. -/
def padded (u : FVec Ideal S128x512 .f32) : FVec Ideal S128x512 .bf16 :=
  truncf .bf16 (shapeCast S128x512 (pad S128x4x128 ![0, 0, 0] ![0, 0, 64] ![0, 0, 0] (extractStridedSlice S128x4x64 ![0, 0, 64] (shapeCast S128x4x128 u shapeCasts_S128x512_S128x4x128) slices_S128x4x128_S128x4x64_0_0_64)
    (sitofp .f32 (constantI S_ 32 0#32)) pads_S128x4x64_S128x4x128_000_000_0640 h_S_ : FVec Ideal S128x4x128 .f32) shapeCasts_S128x4x128_S128x512) bitsLt_bf16_f32

theorem padded_apply (u : FVec Ideal S128x512 .f32) (j : Fin 128) (l : Fin 512) :
    (padded u (ix2 j l) : EReal) = if l.val % 128 < 64 then u (ix2 j (⟨l.val / 128 * 128 + 64 + l.val % 64, by omega⟩ : Fin 512)) else 0 := by
  unfold padded
  pointwise
  have hv : l.val < 512 := l.isLt
  refine rung (fun h => ?_) (fun h => ?_)
  · refine Eq.trans (congrArg u (funext fun (a : Fin 2) => Fin.ext ?_)) (if_pos h.2).symm
    fin_cases a
    · rfl
    · show l.val / 128 * 128 + (64 + l.val % 128) = l.val / 128 * 128 + 64 + l.val % 64
      have : l.val % 128 < 64 := h.2
      omega
  · refine Eq.trans ?_ (if_neg fun h' => h ⟨by omega, h'⟩).symm
    show (((0#32 : BitVec 32).toInt : ℝ) : EReal) = 0
    simp

set_option maxHeartbeats 1000000 in
theorem entryV : V m c main_v69 = padded (argU m c) := by
  unfold V
  after_reads_simp
  rfl

/-- The ones that the values carry in lane 64 of each head. -/
def ones : FVec Ideal S1x512 .f32 :=
  broadcastInDim S1x512 ![1] bcast_S512_S1x512_1 (shapeCast S512 (broadcastInDim S4x128 ![0, 1] bcast_S1x128_S4x128_0_1 (shapeCast S1x128 (uitofp .f32 (cmpi .eq (iotaInDim S128 32 0) (broadcastInDim S128 ![] bcast_S_S128 (constantI S_ 32 64#32))) : FVec Ideal S128 .f32) shapeCasts_S128_S1x128)) shapeCasts_S4x128_S512)

theorem ones_apply (l : Fin 512) : (ones (ix2 0 l) : EReal) = if l.val % 128 = 64 then 1 else 0 := by
  unfold ones
  pointwise
  have e : IntOp.cmpi CmpIPredicate.eq (BitVec.ofNat 32 (l.val % 128)) 64#32 = if l.val % 128 = 64 then 1#1 else 0#1 := by
    have : ∀ k : Fin 128, IntOp.cmpi CmpIPredicate.eq (BitVec.ofNat 32 k.val) 64#32 = if k.val = 64 then 1#1 else 0#1 := by decide +kernel
    exact this ⟨l.val % 128, by omega⟩
  rw [e]
  split_ifs <;> simp [FloatOps.uitofp]

set_option maxHeartbeats 1000000 in
theorem entry1 : V m c main_v54 = ones := by
  unfold V
  after_reads_simp
  rfl

theorem blk11 (t : Fin cfg0.N) (j : Fin 128) (l : Fin 512) : (show S128x512.Idx → EReal from iblk m c 11 t) (ix2 j l)
    = if l.val % 128 < 64 then argU m c (ix2 j (⟨l.val / 128 * 128 + 64 + l.val % 64, by omega⟩ : Fin 512)) else 0 := by
  refine Eq.trans ?_ (padded_apply (argU m c) j l)
  rw [← entryV m c]
  blk_simp [iblk]
  refine congrArg (V m c main_v69) ?_
  blk_ext [idxV t]

theorem blk18 (t : Fin cfg0.N) (l : Fin 512) : (show S1x512.Idx → EReal from iblk m c 18 t) (ix2 0 l) = if l.val % 128 = 64 then 1 else 0 := by
  refine Eq.trans ?_ (ones_apply l)
  rw [← entry1 m c]
  blk_simp [iblk]
  refine congrArg (V m c main_v54) ?_
  blk_ext [idxV t]

/-- A product with the padded weights, plus the ones. -/
theorem lanes (f : Fin 128 → EReal) (w : Fin 128 → Fin 512 → EReal) (l : Fin 512) :
    (∑ j, f j * (if l.val % 128 < 64 then w j (⟨l.val / 128 * 128 + 64 + l.val % 64, by omega⟩ : Fin 512) else 0)) + (if l.val % 128 = 64 then 1 else 0)
    = if l.val % 128 < 64 then ∑ j, f j * w j (⟨l.val / 128 * 128 + 64 + l.val % 64, by omega⟩ : Fin 512) else if l.val % 128 = 64 then 1 else 0 := by
  by_cases h : l.val % 128 < 64
  · have h' : ¬l.val % 128 = 64 := by omega
    simp [h, h']
  · simp [h]

/-- The reference's values of the kernel's arguments. -/
abbrev vals : FVec Ideal S32768x512 .bf16 :=
  Cert.Reference3Ideal.Proj.values (Cert.Reference3Ideal.Proj.product (Cert.Reference3Ideal.Proj.modulated (argX m c) (argA m c) (argG m c)) (argW m c)) (argC m c) (argU m c)

/-- What the call leaves in its last result: the reference's values. -/
theorem finalV : (dats m 0 c).arrAt 23 cfg0.N = vals m c := by
  refine (dats m 0 c).arrAt_eq_of_covers 23 _ (by decide +kernel) fun t _ y => ?_
  obtain ⟨r, l, rfl⟩ : ∃ (r : Fin 512) (l : Fin 512), y = (ix2 r l : S512x512.Idx) := ⟨y 0, y 1, by rw [eq_ix2 y]; idx_ext⟩
  have ht : t.val < 64 := (idx t).2.2.2.2
  blk_simp
  rw [after0_23]
  have hn : (⟨512 * t.val + r.val, by omega⟩ : Fin 32768).val = 16384 * (⟨t.val / 32, by omega⟩ : Fin 2).val + (⟨(512 * t.val + r.val) % 16384, by omega⟩ : Fin 16384).val := by
    show 512 * t.val + r.val = 16384 * (t.val / 32) + (512 * t.val + r.val) % 16384
    omega
  refine (outV_apply _ _ _ _ _ _ _ _ _ _ _ _ _ _ _ _ _ _ _ _ r l).trans ?_
  rw [funext fun j => blk0 m c t _ _ r j hn.symm, funext fun j => blk1 m c t ⟨t.val / 32, by omega⟩ rfl 1 j, funext fun j => blk1 m c t ⟨t.val / 32, by omega⟩ rfl 0 j,
    funext fun j => blk2 m c t j, funext fun j => blk9 m c t j]
  refine (congrArg₂ (· + ·) (Finset.sum_congr rfl fun j _ => congrArg (_ * ·) (blk11 m c t j l)) (blk18 m c t l)).trans ?_
  refine (lanes _ (fun j e => argU m c (ix2 j e)) l).trans ?_
  have hcol : ∀ (j : Fin 1024) (i : Fin 128), (show S1024x6912.Idx → EReal from iblk m c 3 t) (ix2 j (⟨6656 + i.val, by omega⟩ : Fin 6912)) = argW m c (ix2 j (⟨1024 + i.val, by omega⟩ : Fin 6816)) := fun j i => by
    refine (blk3 m c t j _).trans (Inproj.arrange_of (w := fun i => argW m c (ix2 j i)) ?_ _ ?_).symm
    · unfold Inproj.isPad
      dsimp only
      omega
    · have := Inproj.src_cases (6656 + i.val)
      dsimp only
      omega
  refine Eq.trans ?_ (Eq.trans (Cert.Reference3Ideal.Proj.values_apply (argX m c) (argA m c) (argG m c) (argW m c) (argC m c) (argU m c) _ _ _ hn l).symm ?_)
  · unfold Latent.value
    refine congrArg (fun f : Fin 128 → EReal => if l.val % 128 < 64 then ∑ j, Latent.normed (Ideal.ofBits .f32 0x43000000#32) f (fun i => argC m c (ix1 i)) j * argU m c (ix2 j (⟨l.val / 128 * 128 + 64 + l.val % 64, by omega⟩ : Fin 512)) else if l.val % 128 = 64 then 1 else 0) (funext fun i => ?_)
    exact Finset.sum_congr rfl fun j _ => congrArg (_ * ·) (hcol j i)
  · refine congrArg (vals m c) ?_
    blk_ext [idx t, idxV t]

end Cert.Kernel3Ideal.Proj

end
-- ==== Proof.HeadValue.lean ====
/- The projection call's queries and keys are the reference's, and so are all four of its results. -/
module

public import proofs.«01_k».proof.Proof.HeadMath
public import proofs.«01_k».proof.Proof.LatentValue

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The reference's product of the kernel's arguments. -/
abbrev prod : FVec Ideal Cert.Reference3Ideal.S2x16384x6816 .f32 :=
  Cert.Reference3Ideal.Proj.product (Cert.Reference3Ideal.Proj.modulated (argX m c) (argA m c) (argG m c)) (argW m c)

/-- The reference's queries and keys of the kernel's arguments. -/
abbrev qs : FVec Ideal S32768x512 .bf16 := Cert.Reference3Ideal.Proj.queries (prod m c) (argCQ m c) (argUQ m c) (argGQ m c) (argP m c)
abbrev ks : FVec Ideal S32768x512 .bf16 := Cert.Reference3Ideal.Proj.keyRows (prod m c) (argCK m c) (argUK m c) (argGQ m c) (argGK m c) (argP m c)

theorem whole_eq (t : Fin cfg0.N) (b : Fin 2) (hb : b.val = t.val / 32) (s : Fin 16384) (r : Fin 512) (h : 16384 * b.val + s.val = 512 * t.val + r.val) (e : Fin 6912) :
    whole (iblk m c 0 t) (iblk m c 1 t) (iblk m c 2 t) (iblk m c 3 t) r e = Inproj.arrange (fun e => prod m c (ix3 b s e)) e := by
  unfold whole
  rw [funext fun j => blk0 m c t b s r j h, funext fun j => blk1 m c t b hb 1 j, funext fun j => blk1 m c t b hb 0 j, funext fun j => blk2 m c t j]
  refine (Finset.sum_congr rfl fun j _ => congrArg (_ * ·) (blk3 m c t j e)).trans ?_
  refine (Inproj.sum_arrange _ (fun j e => argW m c (ix2 j e)) e).trans (congrArg (fun f => Inproj.arrange f e) (funext fun k => ?_))
  refine ((Cert.Reference3Ideal.Proj.product_apply _ (argW m c) b s k).trans (Finset.sum_congr rfl fun j _ => congrArg (· * _) ?_)).symm
  exact Cert.Reference3Ideal.Proj.modulated_apply (argX m c) (argA m c) (argG m c) b s j

theorem blk7' (t : Fin cfg0.N) (o : Fin 4) (j : Fin 256) (i : Fin 128) : (show S256x512.Idx → EReal from iblk m c 7 t) (ix2 j (⟨128 * o.val + i.val, by omega⟩ : Fin 512))
    = Latent.lanes (fun k => argUQ m c (ix2 j (⟨o.val * 96 + k.val, by omega⟩ : Fin 384))) i := by
  refine (blk7 m c t j _).trans (congrArg₂ Latent.lanes (funext fun k => congrArg (fun e => argUQ m c (ix2 j e)) (Fin.ext ?_)) (Fin.ext ?_))
  · show (128 * o.val + i.val) / 128 * 96 + k.val = o.val * 96 + k.val
    omega
  · show (128 * o.val + i.val) % 128 = i.val
    omega

theorem blk8' (t : Fin cfg0.N) (o : Fin 4) (j : Fin 256) (i : Fin 128) : (show S256x512.Idx → EReal from iblk m c 8 t) (ix2 j (⟨128 * o.val + i.val, by omega⟩ : Fin 512))
    = Latent.lanes (Latent.swap fun k => argUQ m c (ix2 j (⟨o.val * 96 + k.val, by omega⟩ : Fin 384))) i := by
  refine (blk8 m c t j _).trans (congrArg₂ (fun z => Latent.lanes (Latent.swap z)) (funext fun k => congrArg (fun e => argUQ m c (ix2 j e)) (Fin.ext ?_)) (Fin.ext ?_))
  · show (128 * o.val + i.val) / 128 * 96 + k.val = o.val * 96 + k.val
    omega
  · show (128 * o.val + i.val) % 128 = i.val
    omega

/-- What the call leaves in its second result: the reference's queries. -/
theorem finalQ : (dats m 0 c).arrAt 21 cfg0.N = qs m c := by
  refine (dats m 0 c).arrAt_eq_of_covers 21 _ (by decide +kernel) fun t _ y => ?_
  obtain ⟨r, l, rfl⟩ : ∃ (r : Fin 512) (l : Fin 512), y = (ix2 r l : S512x512.Idx) := ⟨y 0, y 1, by rw [eq_ix2 y]; idx_ext⟩
  have ht : t.val < 64 := (idx t).2.2.2.2
  blk_simp
  rw [after0_21]
  have hn : (⟨512 * t.val + r.val, by omega⟩ : Fin 32768).val = 16384 * (⟨t.val / 32, by omega⟩ : Fin 2).val + (⟨(512 * t.val + r.val) % 16384, by omega⟩ : Fin 16384).val := by
    show 512 * t.val + r.val = 16384 * (t.val / 32) + (512 * t.val + r.val) % 16384
    omega
  refine (outQ_apply _ _ _ _ _ _ _ _ _ _ _ _ _ _ _ _ _ _ _ _ r l).trans ?_
  refine (query_eq (iblk m c 0 t) (iblk m c 1 t) (iblk m c 2 t) (iblk m c 3 t) (iblk m c 4 t) (iblk m c 5 t) r (prod m c) _ _ _ _
    (whole_eq m c t _ rfl _ r hn.symm) (fun l => blk4 m c t _ _ r l hn.symm) (fun l => blk5 m c t _ _ r l hn.symm)
    (iblk m c 6 t) (argCQ m c) (blk6 m c t) (iblk m c 7 t) (iblk m c 8 t) (argUQ m c) _ (blk7' m c t _) (blk8' m c t _)
    (iblk m c 12 t) (iblk m c 13 t) (iblk m c 16 t) (fun i => argGQ m c (ix1 i)) (blk12 m c t) (blk13 m c t) (blk16 m c t) _).trans ?_
  refine (Cert.Reference3Ideal.Proj.queries_apply (prod m c) (argCQ m c) (argUQ m c) (argGQ m c) (argP m c) _ _ _ hn l).symm.trans ?_
  refine congrArg (qs m c) ?_
  blk_ext [idx t, idxH t]

/-- What the call leaves in its third result: the reference's keys. -/
theorem finalK : (dats m 0 c).arrAt 22 cfg0.N = ks m c := by
  refine (dats m 0 c).arrAt_eq_of_covers 22 _ (by decide +kernel) fun t _ y => ?_
  obtain ⟨r, l, rfl⟩ : ∃ (r : Fin 512) (l : Fin 512), y = (ix2 r l : S512x512.Idx) := ⟨y 0, y 1, by rw [eq_ix2 y]; idx_ext⟩
  have ht : t.val < 64 := (idx t).2.2.2.2
  blk_simp
  rw [after0_22]
  have hn : (⟨512 * t.val + r.val, by omega⟩ : Fin 32768).val = 16384 * (⟨t.val / 32, by omega⟩ : Fin 2).val + (⟨(512 * t.val + r.val) % 16384, by omega⟩ : Fin 16384).val := by
    show 512 * t.val + r.val = 16384 * (t.val / 32) + (512 * t.val + r.val) % 16384
    omega
  refine (outK_apply _ _ _ _ _ _ _ _ _ _ _ _ _ _ _ _ _ _ _ _ r l).trans ?_
  refine (key_eq (iblk m c 0 t) (iblk m c 1 t) (iblk m c 2 t) (iblk m c 3 t) (iblk m c 4 t) (iblk m c 5 t) r (prod m c) _ _ _ _
    (whole_eq m c t _ rfl _ r hn.symm) (fun l => blk4 m c t _ _ r l hn.symm) (fun l => blk5 m c t _ _ r l hn.symm)
    (iblk m c 9 t) (argCK m c) (blk9 m c t) (iblk m c 10 t) (argUK m c) (blk10 m c t) _
    (iblk m c 14 t) (iblk m c 15 t) (iblk m c 17 t) (fun i => argGK m c (ix1 i)) (blk14 m c t) (blk15 m c t) _ (blk17 m c t) (iblk m c 19 t) (blk19 m c t) _).trans ?_
  refine (Cert.Reference3Ideal.Proj.keyRows_apply (prod m c) (argCK m c) (argUK m c) (argGQ m c) (argGK m c) (argP m c) _ _ _ hn l).symm.trans ?_
  refine congrArg (ks m c) ?_
  blk_ext [idx t, idxH t]

/-- From any inputs, kernel and reference end with the same arrays. -/
theorem algebraic : Cert.algebraic_Kernel3Ideal_Reference3Ideal := fun m g m' g' _ hag => by
  refine ⟨fun c => Cert.Reference3Ideal.Proj.result (argX m c) (argA m c) (argG m c) (argW m c), fun c => qs m c, fun c => ks m c, fun c => vals m c, ?_, ?_⟩
  · exact (θ_run Cert.Kernel3Ideal.defs _ _).mono (fun _ h c => ⟨(h c).1.trans (final m c), (h c).2.1.trans (finalQ m c), (h c).2.2.1.trans (finalK m c), (h c).2.2.2.1.trans (finalV m c), (h c).2.2.2.2⟩) (Cert.Kernel3Ideal.Value.run_blocks (F := Ideal) m g)
  · refine (θ_run Cert.Reference3Ideal.defs _ _).mono (fun _ h c => ?_) (Cert.Reference3Ideal.Proj.runs m' g')
    obtain ⟨e0, e1, e2, e3, e4, e5, e6, e7, e8, e9, e10⟩ := hag c
    have hc := h c
    rw [e0, e1, e2, e3, e4, e5, e6, e7, e8, e9, e10] at hc
    exact ⟨hc.1, hc.2.1, hc.2.2.1, hc.2.2.2.1, (h c).2.2.2.2⟩

end Cert.Kernel3Ideal.Proj

end
-- ==== Proof.BitsTables.lean ====
/- The two prefetched tables of the attention call, and what the schedule is at them.

   Each of the 272 points is a batch entry and a pair (query block, key block ≤ query block). Decided once, point by point, at the
   tables' own words: every block lies inside its array, the first point clears the accumulator, the output is written and flushed
   exactly on the diagonal, and where each point of a query block's run sits in the grid. -/
module

public import proofs.«01_k».proof.Proof.BitsBody
public import Idealize.ShloMosaic.Lib.Pipeline.Kit
public import Idealize.ShloMosaic.Lib.Pipeline.TableIdle
public import Idealize.ShloMosaic.Lib.Affine
public import Idealize.ShloMosaic.PureOps.Ideal
public import Idealize.ShloMosaic.PureOps.BitExact

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables' words: the host's two constants. -/
def TI : S136.Idx → Elt F .i32 := fun i => lit0 (S136.rowMajor i)
def TJ : S136.Idx → Elt F .i32 := fun i => lit1 (S136.rowMajor i)

set_option backward.proofsInPublic true in
/-- The tables as the region takes them. -/
def tabs : pre0.Contents (Elt F) := fun | ⟨0, _⟩ => TI | ⟨1, _⟩ => TJ | ⟨_ + 2, h⟩ => absurd h (by simp)

/-- The blocks' side condition at the tables, from the bounds alone. -/
theorem ok_of (h0 : ∀ i : grid0.Coords, ∀ a, (cc0_transform_0 k0_off1_inb numel1_S1 (tabs (F := F)) i a + 1) * S1024x512.size a ≤ S32768x512.size a)
    (h1 : ∀ i : grid0.Coords, ∀ a, (cc0_transform_1 k0_off1_inb numel1_S1 (tabs (F := F)) i a + 1) * S1024x512.size a ≤ S32768x512.size a)
    (h2 : ∀ i : grid0.Coords, ∀ a, (cc0_transform_2 k0_off1_inb numel1_S1 (tabs (F := F)) i a + 1) * S1024x512.size a ≤ S32768x512.size a)
    (h3 : ∀ i : grid0.Coords, ∀ a, (cc0_transform_3 k0_off1_inb numel1_S1 (tabs (F := F)) i a + 1) * S1024x256.size a ≤ S32768x256.size a) :
    ok0 (F := F) tabs :=
  ⟨fun i => ⟨h0 i, .inr (Affine.block_words_dvd (s := S32768x512) (p := EltTy.packing .bf16) (by decide) (by decide))⟩,
   fun i => ⟨h1 i, .inr (Affine.block_words_dvd (s := S32768x512) (p := EltTy.packing .bf16) (by decide) (by decide))⟩,
   fun i => ⟨h2 i, .inr (Affine.block_words_dvd (s := S32768x512) (p := EltTy.packing .bf16) (by decide) (by decide))⟩,
   fun i => ⟨h3 i, .inr (Affine.block_words_dvd (s := S32768x256) (p := EltTy.packing .bf16) (by decide) (by decide))⟩⟩

theorem ok_bits : ok0 (F := Bits) tabs := ok_of (by decide +kernel) (by decide +kernel) (by decide +kernel) (by decide +kernel)

/-- The region at the tables. -/
abbrev admOf (h : ok0 (F := F) tabs) : (pcfg0 (F := F)).Adm := ⟨tabs, h⟩
abbrev cfgOf (h : ok0 (F := F) tabs) : Cfg sig Λ₀ := cfg0 (F := F) (admOf h)

/-- What is decided at a point: the first point of all is a first key block; a point below the diagonal leaves the output alone and
    flushes nothing; a point on the diagonal writes it and flushes it. -/
abbrev PointOk (h : ok0 (F := F) tabs) (t : Fin (cfgOf h).N) : Prop :=
  (t.val = 0 → IsFirst (wordJ (F := F) ((cfgOf h).grid.coords t) TJ))
  ∧ (IsBelow (wordI (F := F) ((cfgOf h).grid.coords t) TI) (wordJ (F := F) ((cfgOf h).grid.coords t) TJ) →
      ¬IsDiag (wordI (F := F) ((cfgOf h).grid.coords t) TI) (wordJ (F := F) ((cfgOf h).grid.coords t) TJ)
      ∧ (cfgOf h).idle (3 : Fin 4) ((cfgOf h).grid.coords t) = true ∧ ((cfgOf h).win (3 : Fin 4)).flush t = false)
  ∧ (¬IsBelow (wordI (F := F) ((cfgOf h).grid.coords t) TI) (wordJ (F := F) ((cfgOf h).grid.coords t) TJ) →
      IsDiag (wordI (F := F) ((cfgOf h).grid.coords t) TI) (wordJ (F := F) ((cfgOf h).grid.coords t) TJ)
      ∧ (cfgOf h).idle (3 : Fin 4) ((cfgOf h).grid.coords t) = false ∧ ((cfgOf h).win (3 : Fin 4)).flush t = true)

/-- The facts at a float interpretation: decided point by point. -/
class Scheduled (F : FTy → Type) [FloatOps F] : Prop where
  ok : ok0 (F := F) tabs
  point : ∀ t, PointOk ok t

theorem point_bits0 : ∀ t : Fin (cfgOf ok_bits).N, 0 ≤ t.val → t.val < 34 → PointOk ok_bits t := by decide +kernel
theorem point_bits1 : ∀ t : Fin (cfgOf ok_bits).N, 34 ≤ t.val → t.val < 68 → PointOk ok_bits t := by decide +kernel
theorem point_bits2 : ∀ t : Fin (cfgOf ok_bits).N, 68 ≤ t.val → t.val < 102 → PointOk ok_bits t := by decide +kernel
theorem point_bits3 : ∀ t : Fin (cfgOf ok_bits).N, 102 ≤ t.val → t.val < 136 → PointOk ok_bits t := by decide +kernel
theorem point_bits4 : ∀ t : Fin (cfgOf ok_bits).N, 136 ≤ t.val → t.val < 170 → PointOk ok_bits t := by decide +kernel
theorem point_bits5 : ∀ t : Fin (cfgOf ok_bits).N, 170 ≤ t.val → t.val < 204 → PointOk ok_bits t := by decide +kernel
theorem point_bits6 : ∀ t : Fin (cfgOf ok_bits).N, 204 ≤ t.val → t.val < 238 → PointOk ok_bits t := by decide +kernel
theorem point_bits7 : ∀ t : Fin (cfgOf ok_bits).N, 238 ≤ t.val → t.val < 272 → PointOk ok_bits t := by decide +kernel
theorem point_bits : ∀ t, PointOk ok_bits t := fun t => by
  have h0 : 0 ≤ t.val := Nat.zero_le _
  rcases Nat.lt_or_ge t.val 34 with h1 | h1; · exact point_bits0 t h0 h1
  rcases Nat.lt_or_ge t.val 68 with h2 | h2; · exact point_bits1 t h1 h2
  rcases Nat.lt_or_ge t.val 102 with h3 | h3; · exact point_bits2 t h2 h3
  rcases Nat.lt_or_ge t.val 136 with h4 | h4; · exact point_bits3 t h3 h4
  rcases Nat.lt_or_ge t.val 170 with h5 | h5; · exact point_bits4 t h4 h5
  rcases Nat.lt_or_ge t.val 204 with h6 | h6; · exact point_bits5 t h5 h6
  rcases Nat.lt_or_ge t.val 238 with h7 | h7; · exact point_bits6 t h6 h7
  exact point_bits7 t h7 t.isLt

instance : Scheduled Bits := ⟨ok_bits, point_bits⟩

end Cert.Kernel.Attn

end
-- ==== Proof.FlashBody.lean ====
/- The body of the attention call, run once per control path on symbolic memrefs.

   A point of the grid is a pair (query block `i`, key block `j ≤ i`), read off two prefetched tables. The body clears the
   accumulator when `j = 0`, adds the whole key block when `j < i`, and when `j = i` adds the masked diagonal block in two halves
   and writes the quotient out. Four combinations occur: first or later key block, below or on the diagonal. -/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.Exec
public import Idealize.ShloMosaic.Lib.Writes

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the accumulator, whole. -/
abbrev tabI : Memref sig .tc .smem S136 .i32 := Memref.whole main_c
abbrev tabJ : Memref sig .tc .smem S136 .i32 := Memref.whole main_c_0
abbrev accM : Memref sig .tc .vmem S4x1024x128 .f32 := Memref.whole cc0_scratch0

/-- The word of a table that the body reads at a point. -/
abbrev wordI (i : grid0.Coords) (T : S136.Idx → Elt F .i32) : BitVec 32 :=
  View.readAt (Elt F) tabI.view (Rect.unit (s := S136) (k0_off1 i) S1.size (k0_off1_inb i)).toLoadRect T (Shape.Idx.first (numel1_S1.symm ▸ Nat.one_pos))
abbrev wordJ (i : grid0.Coords) (T : S136.Idx → Elt F .i32) : BitVec 32 :=
  View.readAt (Elt F) tabJ.view (Rect.unit (s := S136) (k0_off1 i) S1.size (k0_off1_inb i)).toLoadRect T (Shape.Idx.first (numel1_S1.symm ▸ Nat.one_pos))

/-- The three decisions of the body on the words: the first key block, a block below the diagonal, the diagonal block. -/
abbrev IsFirst (j : BitVec 32) : Prop := Scalar.cmpi .ne (Scalar.extui (Scalar.cmpi .eq j 0#32)) 0#32 = 1#1
abbrev IsBelow (i j : BitVec 32) : Prop := Scalar.cmpi .ne (Scalar.extui (Scalar.cmpi .slt j i)) 0#32 = 1#1
abbrev IsDiag (i j : BitVec 32) : Prop := k0_cond3 i j = 1#1

variable (c : Dev nD) (i : grid0.Coords)
  (arg4 : Memref sig .tc .vmem S1024x512 .bf16) (harg4 : arg4.IsWhole) (arg5 : Memref sig .tc .vmem S1024x512 .bf16) (harg5 : arg5.IsWhole)
  (arg6 : Memref sig .tc .vmem S1024x512 .bf16) (harg6 : arg6.IsWhole) (arg7 : Memref sig .tc .vmem S1024x256 .bf16) (harg7 : arg7.IsWhole)
  (TI TJ : S136.Idx → Elt F .i32) (q k v : S1024x512.Idx → Elt F .bf16)

/-- The accumulator's contents on core `c`. -/
abbrev AccBuf (F : FTy → Type) [FloatOps F] (c : Dev nD) : Type := Buf (Elt F) ((c : Thread nD τ).loc cc0_scratch0)

/-- What the body holds whole throughout: the three input blocks and its halves of the tables. -/
abbrev held (c : Dev nD) (arg4 arg5 arg6 : Memref sig .tc .vmem S1024x512 .bf16) (TI TJ : S136.Idx → Elt F .i32) (q k v : S1024x512.Idx → Elt F .bf16) : sProp 𝕄 :=
  iprop((arg4.view.loc (c : Thread nD τ) ↦[arg4.view.set]{fullShare} arg4.view.rep q)
    ∗ (arg5.view.loc (c : Thread nD τ) ↦[arg5.view.set]{fullShare} arg5.view.rep k)
    ∗ (arg6.view.loc (c : Thread nD τ) ↦[arg6.view.set]{fullShare} arg6.view.rep v)
    ∗ (tabI.view.loc (c : Thread nD τ) ↦{fullShare.right} TI)
    ∗ (tabJ.view.loc (c : Thread nD τ) ↦{fullShare.right} TJ))

/-- The body on its memrefs. -/
abbrev bodyOn : Prog (TpuEff nD τ sig (Elt F) Λ₀ .tc) PUnit :=
  cc0_mla_flash i tabI (Memref.isWhole_whole _) tabJ (Memref.isWhole_whole _) arg4 harg4 arg5 harg5 arg6 harg6 arg7 harg7 accM (Memref.isWhole_whole _)

set_option backward.proofsInPublic true in
set_option maxHeartbeats 8000000 in
/-- The first key block on the diagonal (query block 0): the pieces of the output and the accumulator it leaves, with its run. -/
def runA (h1 : IsFirst (wordJ i TJ)) (h2 : ¬IsBelow (wordI i TI) (wordJ i TJ)) (h3 : IsDiag (wordI i TI) (wordJ i TJ)) :
    Σ' (ps : List (View.Piece (Elt F) S1024x256 .bf16)), { a1 : AccBuf F c //
      ∀ (a0 : AccBuf F c) (K : PUnit → sProp 𝕄),
        iprop(held c arg4 arg5 arg6 TI TJ q k v ∗ (∃ d, owns (c : Thread nD τ) arg7 fullShare d) ∗ (accM.view.loc (c : Thread nD τ) ↦{fullShare} a0)
          ∗ (iprop(held c arg4 arg5 arg6 TI TJ q k v ∗ (∃ f, arg7.view.loc (c : Thread nD τ) ↦[arg7.view.set]{fullShare} arg7.view.writes (Elt F) f ps) ∗ (accM.view.loc (c : Thread nD τ) ↦{fullShare} a1)) -∗ K ⟨⟩))
          ⊢ wp frame (wpE (defs₀ (F := F)) Variants.none c none) Set.univ (bodyOn i arg4 harg4 arg5 harg5 arg6 harg6 arg7 harg7) K } :=
  ⟨_, _, fun a0 K => by
    unfold owns bodyOn held
    rw [cc0_mla_flash_eq_skeleton]; unfold cc0_mla_flash_skel
    iintro ⟨⟨H0, H1, H2, HT0, HT1⟩, ⟨%d3, %f3, -, HO⟩, HS0, Hk⟩
    have hS0 : accM.IsWhole := Memref.isWhole_whole _
    have hT0 : tabI.IsWhole := Memref.isWhole_whole _
    have hT1 : tabJ.IsWhole := Memref.isWhole_whole _
    sl_exec! (disch := first | (guard_target = Scalar.cmpi = _; exact h1) | (guard_target = ¬(Scalar.cmpi = _); exact h2) | (guard_target = k0_cond3 _ _ = _; exact h3))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]; · iexists _; iexact HO
    iexact HS0⟩

set_option backward.proofsInPublic true in
set_option maxHeartbeats 8000000 in
/-- The first key block below the diagonal: the accumulator it leaves, with its run; the output block is not touched. -/
def runB (h1 : IsFirst (wordJ i TJ)) (h2 : IsBelow (wordI i TI) (wordJ i TJ)) (h3 : ¬IsDiag (wordI i TI) (wordJ i TJ)) :
    { a1 : AccBuf F c //
      ∀ (y : S1024x256.Idx → Elt F .bf16) (a0 : AccBuf F c) (K : PUnit → sProp 𝕄),
        iprop(held c arg4 arg5 arg6 TI TJ q k v ∗ owns (c : Thread nD τ) arg7 fullShare y ∗ (accM.view.loc (c : Thread nD τ) ↦{fullShare} a0)
          ∗ (iprop(held c arg4 arg5 arg6 TI TJ q k v ∗ owns (c : Thread nD τ) arg7 fullShare y ∗ (accM.view.loc (c : Thread nD τ) ↦{fullShare} a1)) -∗ K ⟨⟩))
          ⊢ wp frame (wpE (defs₀ (F := F)) Variants.none c none) Set.univ (bodyOn i arg4 harg4 arg5 harg5 arg6 harg6 arg7 harg7) K } :=
  ⟨_, fun y a0 K => by
    unfold owns bodyOn held
    rw [cc0_mla_flash_eq_skeleton]; unfold cc0_mla_flash_skel
    iintro ⟨⟨H0, H1, H2, HT0, HT1⟩, ⟨%f3, %hf3, HO⟩, HS0, Hk⟩
    obtain rfl := harg7.eq_unread hf3
    have hS0 : accM.IsWhole := Memref.isWhole_whole _
    have hT0 : tabI.IsWhole := Memref.isWhole_whole _
    have hT1 : tabJ.IsWhole := Memref.isWhole_whole _
    sl_exec! (disch := first | (guard_target = Scalar.cmpi = _; exact h1) | (guard_target = Scalar.cmpi = _; exact h2) | (guard_target = ¬(k0_cond3 _ _ = _); exact h3))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; isplitr; · ipureintro; exact harg7.read_unread _
      iexact HO
    iexact HS0⟩

set_option backward.proofsInPublic true in
set_option maxHeartbeats 8000000 in
/-- A later key block on the diagonal: the pieces of the output and the accumulator it leaves, with its run. -/
def runC (a0 : AccBuf F c) (h1 : ¬IsFirst (wordJ i TJ)) (h2 : ¬IsBelow (wordI i TI) (wordJ i TJ)) (h3 : IsDiag (wordI i TI) (wordJ i TJ)) :
    Σ' (ps : List (View.Piece (Elt F) S1024x256 .bf16)), { a1 : AccBuf F c //
      ∀ (K : PUnit → sProp 𝕄),
        iprop(held c arg4 arg5 arg6 TI TJ q k v ∗ (∃ d, owns (c : Thread nD τ) arg7 fullShare d) ∗ (accM.view.loc (c : Thread nD τ) ↦{fullShare} a0)
          ∗ (iprop(held c arg4 arg5 arg6 TI TJ q k v ∗ (∃ f, arg7.view.loc (c : Thread nD τ) ↦[arg7.view.set]{fullShare} arg7.view.writes (Elt F) f ps) ∗ (accM.view.loc (c : Thread nD τ) ↦{fullShare} a1)) -∗ K ⟨⟩))
          ⊢ wp frame (wpE (defs₀ (F := F)) Variants.none c none) Set.univ (bodyOn i arg4 harg4 arg5 harg5 arg6 harg6 arg7 harg7) K } :=
  ⟨_, _, fun  K => by
    unfold owns bodyOn held
    rw [cc0_mla_flash_eq_skeleton]; unfold cc0_mla_flash_skel
    iintro ⟨⟨H0, H1, H2, HT0, HT1⟩, ⟨%d3, %f3, -, HO⟩, HS0, Hk⟩
    have hS0 : accM.IsWhole := Memref.isWhole_whole _
    have hT0 : tabI.IsWhole := Memref.isWhole_whole _
    have hT1 : tabJ.IsWhole := Memref.isWhole_whole _
    sl_exec! (disch := first | (guard_target = ¬(Scalar.cmpi = _); exact h1) | (guard_target = ¬(Scalar.cmpi = _); exact h2) | (guard_target = k0_cond3 _ _ = _; exact h3))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]; · iexists _; iexact HO
    iexact HS0⟩

set_option backward.proofsInPublic true in
set_option maxHeartbeats 8000000 in
/-- A later key block below the diagonal: the accumulator it leaves, with its run; the output block is not touched. -/
def runD (a0 : AccBuf F c) (h1 : ¬IsFirst (wordJ i TJ)) (h2 : IsBelow (wordI i TI) (wordJ i TJ)) (h3 : ¬IsDiag (wordI i TI) (wordJ i TJ)) :
    { a1 : AccBuf F c //
      ∀ (y : S1024x256.Idx → Elt F .bf16) (K : PUnit → sProp 𝕄),
        iprop(held c arg4 arg5 arg6 TI TJ q k v ∗ owns (c : Thread nD τ) arg7 fullShare y ∗ (accM.view.loc (c : Thread nD τ) ↦{fullShare} a0)
          ∗ (iprop(held c arg4 arg5 arg6 TI TJ q k v ∗ owns (c : Thread nD τ) arg7 fullShare y ∗ (accM.view.loc (c : Thread nD τ) ↦{fullShare} a1)) -∗ K ⟨⟩))
          ⊢ wp frame (wpE (defs₀ (F := F)) Variants.none c none) Set.univ (bodyOn i arg4 harg4 arg5 harg5 arg6 harg6 arg7 harg7) K } :=
  ⟨_, fun y K => by
    unfold owns bodyOn held
    rw [cc0_mla_flash_eq_skeleton]; unfold cc0_mla_flash_skel
    iintro ⟨⟨H0, H1, H2, HT0, HT1⟩, ⟨%f3, %hf3, HO⟩, HS0, Hk⟩
    obtain rfl := harg7.eq_unread hf3
    have hS0 : accM.IsWhole := Memref.isWhole_whole _
    have hT0 : tabI.IsWhole := Memref.isWhole_whole _
    have hT1 : tabJ.IsWhole := Memref.isWhole_whole _
    sl_exec! (disch := first | (guard_target = ¬(Scalar.cmpi = _); exact h1) | (guard_target = Scalar.cmpi = _; exact h2) | (guard_target = ¬(k0_cond3 _ _ = _); exact h3))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; isplitr; · ipureintro; exact harg7.read_unread _
      iexact HO
    iexact HS0⟩

end Cert.KernelIdeal.Attn

end
-- ==== Proof.FlashTables.lean ====
/- The two prefetched tables of the attention call, and what the schedule is at them.

   Each of the 272 points is a batch entry and a pair (query block, key block ≤ query block). Decided once, point by point, at the
   tables' own words: every block lies inside its array, the first point clears the accumulator, the output is written and flushed
   exactly on the diagonal, and where each point of a query block's run sits in the grid. -/
module

public import proofs.«01_k».proof.Proof.FlashBody
public import Idealize.ShloMosaic.Lib.Pipeline.Kit
public import Idealize.ShloMosaic.Lib.Pipeline.TableIdle
public import Idealize.ShloMosaic.Lib.Affine
public import Idealize.ShloMosaic.PureOps.Ideal
public import Idealize.ShloMosaic.PureOps.BitExact

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables' words: the host's two constants. -/
def TI : S136.Idx → Elt F .i32 := fun i => lit0 (S136.rowMajor i)
def TJ : S136.Idx → Elt F .i32 := fun i => lit1 (S136.rowMajor i)

set_option backward.proofsInPublic true in
/-- The tables as the region takes them. -/
def tabs : pre0.Contents (Elt F) := fun | ⟨0, _⟩ => TI | ⟨1, _⟩ => TJ | ⟨_ + 2, h⟩ => absurd h (by simp)

/-- The blocks' side condition at the tables, from the bounds alone. -/
theorem ok_of (h0 : ∀ i : grid0.Coords, ∀ a, (cc0_transform_0 k0_off1_inb numel1_S1 (tabs (F := F)) i a + 1) * S1024x512.size a ≤ S32768x512.size a)
    (h1 : ∀ i : grid0.Coords, ∀ a, (cc0_transform_1 k0_off1_inb numel1_S1 (tabs (F := F)) i a + 1) * S1024x512.size a ≤ S32768x512.size a)
    (h2 : ∀ i : grid0.Coords, ∀ a, (cc0_transform_2 k0_off1_inb numel1_S1 (tabs (F := F)) i a + 1) * S1024x512.size a ≤ S32768x512.size a)
    (h3 : ∀ i : grid0.Coords, ∀ a, (cc0_transform_3 k0_off1_inb numel1_S1 (tabs (F := F)) i a + 1) * S1024x256.size a ≤ S32768x256.size a) :
    ok0 (F := F) tabs :=
  ⟨fun i => ⟨h0 i, .inr (Affine.block_words_dvd (s := S32768x512) (p := EltTy.packing .bf16) (by decide) (by decide))⟩,
   fun i => ⟨h1 i, .inr (Affine.block_words_dvd (s := S32768x512) (p := EltTy.packing .bf16) (by decide) (by decide))⟩,
   fun i => ⟨h2 i, .inr (Affine.block_words_dvd (s := S32768x512) (p := EltTy.packing .bf16) (by decide) (by decide))⟩,
   fun i => ⟨h3 i, .inr (Affine.block_words_dvd (s := S32768x256) (p := EltTy.packing .bf16) (by decide) (by decide))⟩⟩

theorem ok_ideal : ok0 (F := Ideal) tabs := ok_of (by decide +kernel) (by decide +kernel) (by decide +kernel) (by decide +kernel)

/-- The region at the tables. -/
abbrev admOf (h : ok0 (F := F) tabs) : (pcfg0 (F := F)).Adm := ⟨tabs, h⟩
abbrev cfgOf (h : ok0 (F := F) tabs) : Cfg sig Λ₀ := cfg0 (F := F) (admOf h)

/-- What is decided at a point: the first point of all is a first key block; a point below the diagonal leaves the output alone and
    flushes nothing; a point on the diagonal writes it and flushes it. -/
abbrev PointOk (h : ok0 (F := F) tabs) (t : Fin (cfgOf h).N) : Prop :=
  (t.val = 0 → IsFirst (wordJ (F := F) ((cfgOf h).grid.coords t) TJ))
  ∧ (IsBelow (wordI (F := F) ((cfgOf h).grid.coords t) TI) (wordJ (F := F) ((cfgOf h).grid.coords t) TJ) →
      ¬IsDiag (wordI (F := F) ((cfgOf h).grid.coords t) TI) (wordJ (F := F) ((cfgOf h).grid.coords t) TJ)
      ∧ (cfgOf h).idle (3 : Fin 4) ((cfgOf h).grid.coords t) = true ∧ ((cfgOf h).win (3 : Fin 4)).flush t = false)
  ∧ (¬IsBelow (wordI (F := F) ((cfgOf h).grid.coords t) TI) (wordJ (F := F) ((cfgOf h).grid.coords t) TJ) →
      IsDiag (wordI (F := F) ((cfgOf h).grid.coords t) TI) (wordJ (F := F) ((cfgOf h).grid.coords t) TJ)
      ∧ (cfgOf h).idle (3 : Fin 4) ((cfgOf h).grid.coords t) = false ∧ ((cfgOf h).win (3 : Fin 4)).flush t = true)

/-- The points of query block `i` of batch entry `b` follow one another, key block by key block. -/
abbrev posOf (b : Fin 2) (i : Fin 16) (j : ℕ) : ℕ := b.val * 136 + i.val * (i.val + 1) / 2 + j

/-- What a point of query block `i`'s run reads: the two blocks' places, and which key block it is. -/
abbrev PlaceOk (h : ok0 (F := F) tabs) (b : Fin 2) (i j : Fin 16) : Prop :=
  j.val ≤ i.val → ∃ ht : posOf b i j.val < (cfgOf h).N,
    (IsFirst (wordJ (F := F) ((cfgOf h).grid.coords ⟨_, ht⟩) TJ) ↔ j.val = 0)
    ∧ (IsBelow (wordI (F := F) ((cfgOf h).grid.coords ⟨_, ht⟩) TI) (wordJ (F := F) ((cfgOf h).grid.coords ⟨_, ht⟩) TJ) ↔ j.val < i.val)
    ∧ (∀ a : Fin 2, ((cfgOf h).win (0 : Fin 4)).indexMap ((cfgOf h).grid.coords ⟨_, ht⟩) a = ![b.val * 16 + i.val, 0] a)
    ∧ (∀ a : Fin 2, ((cfgOf h).win (1 : Fin 4)).indexMap ((cfgOf h).grid.coords ⟨_, ht⟩) a = ![b.val * 16 + j.val, 0] a)
    ∧ (∀ a : Fin 2, ((cfgOf h).win (2 : Fin 4)).indexMap ((cfgOf h).grid.coords ⟨_, ht⟩) a = ![b.val * 16 + j.val, 0] a)
    ∧ (∀ a : Fin 2, ((cfgOf h).win (3 : Fin 4)).indexMap ((cfgOf h).grid.coords ⟨_, ht⟩) a = ![b.val * 16 + i.val, 0] a)

/-- The facts at a float interpretation: decided point by point. -/
class Scheduled (F : FTy → Type) [FloatOps F] : Prop where
  ok : ok0 (F := F) tabs
  point : ∀ t, PointOk ok t

theorem point_ideal0 : ∀ t : Fin (cfgOf ok_ideal).N, 0 ≤ t.val → t.val < 34 → PointOk ok_ideal t := by decide +kernel
theorem point_ideal1 : ∀ t : Fin (cfgOf ok_ideal).N, 34 ≤ t.val → t.val < 68 → PointOk ok_ideal t := by decide +kernel
theorem point_ideal2 : ∀ t : Fin (cfgOf ok_ideal).N, 68 ≤ t.val → t.val < 102 → PointOk ok_ideal t := by decide +kernel
theorem point_ideal3 : ∀ t : Fin (cfgOf ok_ideal).N, 102 ≤ t.val → t.val < 136 → PointOk ok_ideal t := by decide +kernel
theorem point_ideal4 : ∀ t : Fin (cfgOf ok_ideal).N, 136 ≤ t.val → t.val < 170 → PointOk ok_ideal t := by decide +kernel
theorem point_ideal5 : ∀ t : Fin (cfgOf ok_ideal).N, 170 ≤ t.val → t.val < 204 → PointOk ok_ideal t := by decide +kernel
theorem point_ideal6 : ∀ t : Fin (cfgOf ok_ideal).N, 204 ≤ t.val → t.val < 238 → PointOk ok_ideal t := by decide +kernel
theorem point_ideal7 : ∀ t : Fin (cfgOf ok_ideal).N, 238 ≤ t.val → t.val < 272 → PointOk ok_ideal t := by decide +kernel
theorem point_ideal : ∀ t, PointOk ok_ideal t := fun t => by
  have h0 : 0 ≤ t.val := Nat.zero_le _
  rcases Nat.lt_or_ge t.val 34 with h1 | h1; · exact point_ideal0 t h0 h1
  rcases Nat.lt_or_ge t.val 68 with h2 | h2; · exact point_ideal1 t h1 h2
  rcases Nat.lt_or_ge t.val 102 with h3 | h3; · exact point_ideal2 t h2 h3
  rcases Nat.lt_or_ge t.val 136 with h4 | h4; · exact point_ideal3 t h3 h4
  rcases Nat.lt_or_ge t.val 170 with h5 | h5; · exact point_ideal4 t h4 h5
  rcases Nat.lt_or_ge t.val 204 with h6 | h6; · exact point_ideal5 t h5 h6
  rcases Nat.lt_or_ge t.val 238 with h7 | h7; · exact point_ideal6 t h6 h7
  exact point_ideal7 t h7 t.isLt

instance : Scheduled Ideal := ⟨ok_ideal, point_ideal⟩

theorem place_ideal0 : ∀ i j : Fin 16, PlaceOk ok_ideal 0 i j := by decide +kernel
theorem place_ideal1 : ∀ i j : Fin 16, PlaceOk ok_ideal 1 i j := by decide +kernel

end Cert.KernelIdeal.Attn

end
-- ==== Proof.FlashFrame.lean ====
/- The run of the attention call: what the accumulator holds before every point, what each point leaves in the output block, the body's
   obligation, the launch after the host operations.

   Stated over any float interpretation for which the schedule's facts are proved, so that one run serves both programs. -/
module

public import proofs.«01_k».proof.Proof.FlashTables
public import Idealize.ShloMosaic.Lib.Pipeline.Frame
public import Idealize.ShloMosaic.Lib.StableHlo.ReadAt
public import Idealize.ShloMosaic.Lib.Claim
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable [Scheduled F]

/-- The region at its tables. -/
abbrev adm : (pcfg0 (F := F)).Adm := admOf Scheduled.ok
abbrev cfgA (F : FTy → Type) [FloatOps F] [Scheduled F] : Cfg sig Λ₀ := cfg0 (F := F) adm

/-- A point's coordinates and staging buffers. -/
abbrev cr (t : Fin (cfgA F).N) : (cfgA F).grid.Coords := (cfgA F).grid.coords t
abbrev st0 (t : Fin (cfgA F).N) : Memref sig .tc .vmem S1024x512 .bf16 := spec0_0.stage ((cfgA F).slots t (0 : Fin 4))
abbrev st1 (t : Fin (cfgA F).N) : Memref sig .tc .vmem S1024x512 .bf16 := spec0_1.stage ((cfgA F).slots t (1 : Fin 4))
abbrev st2 (t : Fin (cfgA F).N) : Memref sig .tc .vmem S1024x512 .bf16 := spec0_2.stage ((cfgA F).slots t (2 : Fin 4))
abbrev st3 (t : Fin (cfgA F).N) : Memref sig .tc .vmem S1024x256 .bf16 := spec0_3.stage ((cfgA F).slots t (3 : Fin 4))
abbrev hst0 (t : Fin (cfgA F).N) : (st0 t).IsWhole := hstage0_0 (((cfgA F).slots t (0 : Fin 4)).cast nbuf0_0)
abbrev hst1 (t : Fin (cfgA F).N) : (st1 t).IsWhole := hstage0_1 (((cfgA F).slots t (1 : Fin 4)).cast nbuf0_1)
abbrev hst2 (t : Fin (cfgA F).N) : (st2 t).IsWhole := hstage0_2 (((cfgA F).slots t (2 : Fin 4)).cast nbuf0_2)
abbrev hst3 (t : Fin (cfgA F).N) : (st3 t).IsWhole := hstage0_3 (((cfgA F).slots t (3 : Fin 4)).cast nbuf0_3)

variable (m : (ℓ : Loc nD τ sig) → Buf (Elt F) ℓ)

/-- The buffers at the region's entry: the launch memory after the host operations. -/
@[irreducible] def entry (c : Dev nD) (b : Ref sig .tc) : Buf (Elt F) ((c : Thread nD τ).loc b) := StableHlo.after hostOps0 (fun b => m (c, b)) b

theorem entry_eq (c : Dev nD) (b : Ref sig .tc) : entry m c b = StableHlo.after hostOps0 (fun b => m (c, b)) b := by unfold entry; rfl
theorem entry_fun : entry m = fun c (b : Ref sig .tc) => StableHlo.after hostOps0 (fun b => m (c, b)) b := by funext c b; exact entry_eq m c b

/-- Window `w`'s block at point `t`, off its array at the entry. -/
def blk (c : Dev nD) (w : Fin (cfgA F).W) (t : Fin (cfgA F).N) : (((cfgA F).win w).xblock (cr t)).Idx → Elt F ((cfgA F).win w).elt :=
  (((cfgA F).win w).blk t).view.read (Elt F) (entry m c (Pipeline.arrRef spec0 w))

/-! ## What the accumulator and the output block hold -/

abbrev First (t : Fin (cfgA F).N) : Prop := IsFirst (wordJ (F := F) (cr t) TJ)
abbrev Below (t : Fin (cfgA F).N) : Prop := IsBelow (wordI (F := F) (cr t) TI) (wordJ (F := F) (cr t) TJ)

theorem diag_of {t : Fin (cfgA F).N} (h : ¬Below t) : IsDiag (wordI (F := F) (cr t) TI) (wordJ (F := F) (cr t) TJ) := ((Scheduled.point t).2.2 h).1
theorem not_diag_of {t : Fin (cfgA F).N} (h : Below t) : ¬IsDiag (wordI (F := F) (cr t) TI) (wordJ (F := F) (cr t) TJ) := ((Scheduled.point t).2.1 h).1

/-- The accumulator after point `t`, from what it held before. -/
def accStep (c : Dev nD) (t : Fin (cfgA F).N) (a : AccBuf F c) : AccBuf F c :=
  if hf : First t then
    if hb : Below t then (runB c (cr t) (st0 t) (hst0 t) (st1 t) (hst1 t) (st2 t) (hst2 t) (st3 t) (hst3 t) TI TJ (blk m c 0 t) (blk m c 1 t) (blk m c 2 t) hf hb (not_diag_of hb)).1
    else (runA c (cr t) (st0 t) (hst0 t) (st1 t) (hst1 t) (st2 t) (hst2 t) (st3 t) (hst3 t) TI TJ (blk m c 0 t) (blk m c 1 t) (blk m c 2 t) hf hb (diag_of hb)).2.1
  else
    if hb : Below t then (runD c (cr t) (st0 t) (hst0 t) (st1 t) (hst1 t) (st2 t) (hst2 t) (st3 t) (hst3 t) TI TJ (blk m c 0 t) (blk m c 1 t) (blk m c 2 t) a hf hb (not_diag_of hb)).1
    else (runC c (cr t) (st0 t) (hst0 t) (st1 t) (hst1 t) (st2 t) (hst2 t) (st3 t) (hst3 t) TI TJ (blk m c 0 t) (blk m c 1 t) (blk m c 2 t) a hf hb (diag_of hb)).2.1

/-- The accumulator before position `n`. -/
def accAt (c : Dev nD) : ℕ → AccBuf F c
  | 0 => default
  | n + 1 => if h : n < (cfgA F).N then accStep m c ⟨n, h⟩ (accAt c n) else accAt c n

theorem accAt_succ (c : Dev nD) (t : Fin (cfgA F).N) : accAt m c (t.val + 1) = accStep m c t (accAt m c t.val) := by
  rw [accAt, dif_pos t.isLt]

/-- The output's view the pieces are read back through (the block's contents do not depend on it). -/
abbrev outV : View sig .tc .vmem S1024x256 .bf16 := (Memref.whole cc0_stg3_0 : Memref sig .tc .vmem S1024x256 .bf16).view

/-- The pieces stored in the output block at a point on the diagonal. -/
def outPieces (c : Dev nD) (t : Fin (cfgA F).N) (a : AccBuf F c) (hb : ¬Below t) : List (View.Piece (Elt F) S1024x256 .bf16) :=
  if hf : First t then (runA c (cr t) (st0 t) (hst0 t) (st1 t) (hst1 t) (st2 t) (hst2 t) (st3 t) (hst3 t) TI TJ (blk m c 0 t) (blk m c 1 t) (blk m c 2 t) hf hb (diag_of hb)).1
  else (runC c (cr t) (st0 t) (hst0 t) (st1 t) (hst1 t) (st2 t) (hst2 t) (st3 t) (hst3 t) TI TJ (blk m c 0 t) (blk m c 1 t) (blk m c 2 t) a hf hb (diag_of hb)).1

/-- The output block after point `t`. -/
@[irreducible] def outAt (c : Dev nD) (t : Fin (cfgA F).N) : S1024x256.Idx → Elt F .bf16 :=
  if hb : Below t then outV.read (Elt F) outV.junk
  else outV.read (Elt F) (outV.writes (Elt F) outV.junk (outPieces m c t (accAt m c t.val) hb))

set_option backward.proofsInPublic true in
theorem cover_A (c : Dev nD) (t : Fin (cfgA F).N) (hf : First t) (hb : ¬Below t) (y : S1024x256.Idx) :
    ∃ p ∈ (runA c (cr t) (st0 t) (hst0 t) (st1 t) (hst1 t) (st2 t) (hst2 t) (st3 t) (hst3 t) TI TJ (blk m c 0 t) (blk m c 1 t) (blk m c 2 t) hf hb (diag_of hb)).1, y ∈ p.1.set :=
  View.cover_of_tiledL (runA c (cr t) (st0 t) (hst0 t) (st1 t) (hst1 t) (st2 t) (hst2 t) (st3 t) (hst3 t) TI TJ (blk m c 0 t) (blk m c 1 t) (blk m c 2 t) hf hb (diag_of hb)).1 S1024x128.size (by sl_kernel_rfl) y

set_option backward.proofsInPublic true in
theorem cover_C (c : Dev nD) (t : Fin (cfgA F).N) (a : AccBuf F c) (hf : ¬First t) (hb : ¬Below t) (y : S1024x256.Idx) :
    ∃ p ∈ (runC c (cr t) (st0 t) (hst0 t) (st1 t) (hst1 t) (st2 t) (hst2 t) (st3 t) (hst3 t) TI TJ (blk m c 0 t) (blk m c 1 t) (blk m c 2 t) a hf hb (diag_of hb)).1, y ∈ p.1.set :=
  View.cover_of_tiledL (runC c (cr t) (st0 t) (hst0 t) (st1 t) (hst1 t) (st2 t) (hst2 t) (st3 t) (hst3 t) TI TJ (blk m c 0 t) (blk m c 1 t) (blk m c 2 t) a hf hb (diag_of hb)).1 S1024x128.size (by sl_kernel_rfl) y

/-! ## The proof data -/

/-- Before point `t`: the accumulator as computed (anything before the first point), the body's halves of the tables, the generator. -/
def Phi (c : Dev nD) (t : Fin ((cfgA F).N + 1)) : sProp 𝕄 :=
  iprop((∃ a, ⌜t.val ≠ 0 → a = accAt m c t.val⌝ ∗ (accM.view.loc (c : Thread nD τ) ↦{fullShare} a))
    ∗ (tabI.view.loc (c : Thread nD τ) ↦{fullShare.right} (TI : S136.Idx → Elt F .i32)) ∗ (tabJ.view.loc (c : Thread nD τ) ↦{fullShare.right} (TJ : S136.Idx → Elt F .i32))
    ∗ ∃ r, prngReg c r)

def dats (_ : Fin 1) (c : Dev nD) : Dat τ (Elt F) Unit ℕ (UR sig nD τ) ℕ (cfgA F) c where
  A w := entry m c (Pipeline.arrRef spec0 w)
  after w t := match w with
    | ⟨0, _⟩ => blk m c (0 : Fin 4) t
    | ⟨1, _⟩ => blk m c (1 : Fin 4) t
    | ⟨2, _⟩ => blk m c (2 : Fin 4) t
    | ⟨3, _⟩ => outAt m c t
  Φ t := Phi m c t
  q _ := fullShare
  owed _ := 0

theorem after_0 (c : Dev nD) (t : Fin (cfgA F).N) : (dats m 0 c).after (0 : Fin 4) t = blk m c (0 : Fin 4) t := rfl
theorem after_1 (c : Dev nD) (t : Fin (cfgA F).N) : (dats m 0 c).after (1 : Fin 4) t = blk m c (1 : Fin 4) t := rfl
theorem after_2 (c : Dev nD) (t : Fin (cfgA F).N) : (dats m 0 c).after (2 : Fin 4) t = blk m c (2 : Fin 4) t := rfl
theorem after_3 (c : Dev nD) (t : Fin (cfgA F).N) : (dats m 0 c).after (3 : Fin 4) t = outAt m c t := rfl

theorem before_0 (c : Dev nD) (t : Fin (cfgA F).N) (d) : (dats m 0 c).before (0 : Fin 4) t d = blk m c (0 : Fin 4) t :=
  ((dats m 0 c).before_in_eq_fetched (0 : Fin 4) rfl (fun _ => rfl) (fun _ _ _ => rfl) (fun t => by rw [after_0]; unfold Dat.blockOf blk; rfl) t d).trans
    (by unfold Dat.fetched Dat.blockOf blk; rfl)

theorem before_1 (c : Dev nD) (t : Fin (cfgA F).N) (d) : (dats m 0 c).before (1 : Fin 4) t d = blk m c (1 : Fin 4) t :=
  ((dats m 0 c).before_in_eq_fetched (1 : Fin 4) rfl (fun _ => rfl) (fun _ _ _ => rfl) (fun t => by rw [after_1]; unfold Dat.blockOf blk; rfl) t d).trans
    (by unfold Dat.fetched Dat.blockOf blk; rfl)

theorem before_2 (c : Dev nD) (t : Fin (cfgA F).N) (d) : (dats m 0 c).before (2 : Fin 4) t d = blk m c (2 : Fin 4) t :=
  ((dats m 0 c).before_in_eq_fetched (2 : Fin 4) rfl (fun _ => rfl) (fun _ _ _ => rfl) (fun t => by rw [after_2]; unfold Dat.blockOf blk; rfl) t d).trans
    (by unfold Dat.fetched Dat.blockOf blk; rfl)

/-- The output block holds nothing determined before any point: every point that writes it flushes it. -/
theorem fresh_3 (t : Fin (cfgA F).N) : (cfgA F).fresh (3 : Fin 4) t.val = true :=
  Pipeline.Cfg.fresh_tab (cfgA F) (3 : Fin 4) (fun _ => true) rfl
    (fun t => by
      by_cases hb : Below t
      · rw [((Scheduled.point t).2.1 hb).2.1, ((Scheduled.point t).2.1 hb).2.2]; rfl
      · rw [((Scheduled.point t).2.2 hb).2.1, ((Scheduled.point t).2.2 hb).2.2]; rfl) t.val (Nat.le_of_lt t.isLt)

theorem before_3 (c : Dev nD) (t : Fin (cfgA F).N) (d) : (dats m 0 c).before (3 : Fin 4) t d = d := by
  rw [(dats m 0 c).before_out_traj (3 : Fin 4) rfl (fun _ _ => rfl) (fun t _ _ hf => by rw [fresh_3 t] at hf; cases hf) t.val t rfl d,
    fresh_3 t, if_pos rfl]

/-! ## The body's obligation -/

/-- One point of the grid: the invariant and the blocks in, the next invariant and the blocks out. -/
abbrev Pre (c : Dev nD) (t : Fin (cfgA F).N) : sProp 𝕄 :=
  iprop((dats m 0 c).Φ t.castSucc ∗ (dats m 0 c).owesAt () t.castSucc
    ∗ (∃ d, owns (c : Thread nD τ) (st0 t) fullShare ((dats m 0 c).before (0 : Fin 4) t d))
    ∗ (∃ d, owns (c : Thread nD τ) (st1 t) fullShare ((dats m 0 c).before (1 : Fin 4) t d))
    ∗ (∃ d, owns (c : Thread nD τ) (st2 t) fullShare ((dats m 0 c).before (2 : Fin 4) t d))
    ∗ (∃ d, owns (c : Thread nD τ) (st3 t) fullShare ((dats m 0 c).before (3 : Fin 4) t d)))

abbrev Post (c : Dev nD) (t : Fin (cfgA F).N) : sProp 𝕄 :=
  iprop((dats m 0 c).Φ t.succ ∗ (dats m 0 c).owesAt () t.succ
    ∗ bigSep Finset.univ fun w : Fin (cfgA F).W =>
        match (cfgA F).idle w ((cfgA F).grid.coords t) with
        | true =>
          match ((cfgA F).win w).flush t with
          | false => iprop(∃ d, owns (c : Thread nD τ) (((cfgA F).win w).stage ((cfgA F).slots t w)) fullShare ((dats m 0 c).before w t d))
          | true => owns (c : Thread nD τ) (((cfgA F).win w).stage ((cfgA F).slots t w)) fullShare ((dats m 0 c).after w t)
        | false => owns (c : Thread nD τ) (((cfgA F).win w).stage ((cfgA F).slots t w)) fullShare ((dats m 0 c).after w t))

set_option maxHeartbeats 4000000 in
theorem body_A (c : Dev nD) (t : Fin (cfgA F).N) (hf : First t) (hb : ¬Below t) :
    Pre m c t ⊢ wp frame (wpE (defs₀ (F := F)) Variants.none c none) Set.univ (bodyOn (cr t) (st0 t) (hst0 t) (st1 t) (hst1 t) (st2 t) (hst2 t) (st3 t) (hst3 t)) fun _ => Post m c t := by
  have hs := ((Scheduled.point t).2.2 hb).2
  unfold Pre Post
  rw [bigSep_W0]
  rewrite [hs.1]
  simp only [before_0, before_1, before_2, before_3, after_0, after_1, after_2, after_3, hs.2]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  have hacc : accAt m c t.succ.val = (runA c (cr t) (st0 t) (hst0 t) (st1 t) (hst1 t) (st2 t) (hst2 t) (st3 t) (hst3 t) TI TJ (blk m c 0 t) (blk m c 1 t) (blk m c 2 t) hf hb (diag_of hb)).2.1 := by
    rw [Fin.val_succ, accAt_succ]; unfold accStep; rw [dif_pos hf, dif_neg hb]
  unfold Phi
  rw [hacc]
  simp only [Fin.val_castSucc]
  have hout : outAt m c t = outV.read (Elt F) (outV.writes (Elt F) outV.junk (runA c (cr t) (st0 t) (hst0 t) (st1 t) (hst1 t) (st2 t) (hst2 t) (st3 t) (hst3 t) TI TJ (blk m c 0 t) (blk m c 1 t) (blk m c 2 t) hf hb (diag_of hb)).1) := by
    unfold outAt; rw [dif_neg hb]; unfold outPieces; rw [dif_pos hf]
  rw [hout]
  iintro ⟨⟨⟨%a0, %ha0, HS0⟩, HT0, HT1, Hg⟩, Ho, ⟨%d0, H0⟩, ⟨%d1, H1⟩, ⟨%d2, H2⟩, ⟨%d3, H3⟩⟩
  iapply ((runA c (cr t) (st0 t) (hst0 t) (st1 t) (hst1 t) (st2 t) (hst2 t) (st3 t) (hst3 t) TI TJ (blk m c 0 t) (blk m c 1 t) (blk m c 2 t) hf hb (diag_of hb)).2.2 a0 _)
  isplitl [H0 H1 H2 HT0 HT1]
  · unfold held
    isplitl [H0]; · iapply rep_of_owns; iexact H0
    isplitl [H1]; · iapply rep_of_owns; iexact H1
    isplitl [H2]; · iapply rep_of_owns; iexact H2
    isplitl [HT0]; · iexact HT0
    iexact HT1
  isplitl [H3]; · iexists _; iexact H3
  isplitl [HS0]; · iexact HS0
  iintro ⟨⟨H0, H1, H2, HT0, HT1⟩, ⟨%e3, H3⟩, HS0⟩
  isplitl [HS0 HT0 HT1 Hg]
  · isplitl [HS0]
    · iexists _; isplitr; swap
      · iexact HS0
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (cover_A m c t hf hb)

set_option maxHeartbeats 4000000 in
theorem body_B (c : Dev nD) (t : Fin (cfgA F).N) (hf : First t) (hb : Below t) :
    Pre m c t ⊢ wp frame (wpE (defs₀ (F := F)) Variants.none c none) Set.univ (bodyOn (cr t) (st0 t) (hst0 t) (st1 t) (hst1 t) (st2 t) (hst2 t) (st3 t) (hst3 t)) fun _ => Post m c t := by
  have hs := ((Scheduled.point t).2.1 hb).2
  unfold Pre Post
  rw [bigSep_W0]
  rewrite [hs.1]
  simp only [before_0, before_1, before_2, before_3, after_0, after_1, after_2, after_3, hs.2]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  have hacc : accAt m c t.succ.val = (runB c (cr t) (st0 t) (hst0 t) (st1 t) (hst1 t) (st2 t) (hst2 t) (st3 t) (hst3 t) TI TJ (blk m c 0 t) (blk m c 1 t) (blk m c 2 t) hf hb (not_diag_of hb)).1 := by
    rw [Fin.val_succ, accAt_succ]; unfold accStep; rw [dif_pos hf, dif_pos hb]
  unfold Phi
  rw [hacc]
  simp only [Fin.val_castSucc]
  iintro ⟨⟨⟨%a0, %ha0, HS0⟩, HT0, HT1, Hg⟩, Ho, ⟨%d0, H0⟩, ⟨%d1, H1⟩, ⟨%d2, H2⟩, ⟨%d3, H3⟩⟩
  iapply ((runB c (cr t) (st0 t) (hst0 t) (st1 t) (hst1 t) (st2 t) (hst2 t) (st3 t) (hst3 t) TI TJ (blk m c 0 t) (blk m c 1 t) (blk m c 2 t) hf hb (not_diag_of hb)).2 _ a0 _)
  isplitl [H0 H1 H2 HT0 HT1]
  · unfold held
    isplitl [H0]; · iapply rep_of_owns; iexact H0
    isplitl [H1]; · iapply rep_of_owns; iexact H1
    isplitl [H2]; · iapply rep_of_owns; iexact H2
    isplitl [HT0]; · iexact HT0
    iexact HT1
  isplitl [H3]; · iexact H3
  isplitl [HS0]; · iexact HS0
  iintro ⟨⟨H0, H1, H2, HT0, HT1⟩, H3, HS0⟩
  isplitl [HS0 HT0 HT1 Hg]
  · isplitl [HS0]
    · iexists _; isplitr; swap
      · iexact HS0
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  iexists d3; iexact H3

set_option maxHeartbeats 4000000 in
theorem body_C (c : Dev nD) (t : Fin (cfgA F).N) (hf : ¬First t) (hb : ¬Below t) :
    Pre m c t ⊢ wp frame (wpE (defs₀ (F := F)) Variants.none c none) Set.univ (bodyOn (cr t) (st0 t) (hst0 t) (st1 t) (hst1 t) (st2 t) (hst2 t) (st3 t) (hst3 t)) fun _ => Post m c t := by
  have hs := ((Scheduled.point t).2.2 hb).2
  unfold Pre Post
  rw [bigSep_W0]
  rewrite [hs.1]
  simp only [before_0, before_1, before_2, before_3, after_0, after_1, after_2, after_3, hs.2]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  have hacc : accAt m c t.succ.val = (runC c (cr t) (st0 t) (hst0 t) (st1 t) (hst1 t) (st2 t) (hst2 t) (st3 t) (hst3 t) TI TJ (blk m c 0 t) (blk m c 1 t) (blk m c 2 t) (accAt m c t.val) hf hb (diag_of hb)).2.1 := by
    rw [Fin.val_succ, accAt_succ]; unfold accStep; rw [dif_neg hf, dif_neg hb]
  unfold Phi
  rw [hacc]
  simp only [Fin.val_castSucc]
  have hout : outAt m c t = outV.read (Elt F) (outV.writes (Elt F) outV.junk (runC c (cr t) (st0 t) (hst0 t) (st1 t) (hst1 t) (st2 t) (hst2 t) (st3 t) (hst3 t) TI TJ (blk m c 0 t) (blk m c 1 t) (blk m c 2 t) (accAt m c t.val) hf hb (diag_of hb)).1) := by
    unfold outAt; rw [dif_neg hb]; unfold outPieces; rw [dif_neg hf]
  rw [hout]
  iintro ⟨⟨⟨%a0, %ha0, HS0⟩, HT0, HT1, Hg⟩, Ho, ⟨%d0, H0⟩, ⟨%d1, H1⟩, ⟨%d2, H2⟩, ⟨%d3, H3⟩⟩
  obtain rfl := ha0 fun h0 => hf ((Scheduled.point t).1 h0)
  iapply ((runC c (cr t) (st0 t) (hst0 t) (st1 t) (hst1 t) (st2 t) (hst2 t) (st3 t) (hst3 t) TI TJ (blk m c 0 t) (blk m c 1 t) (blk m c 2 t) (accAt m c t.val) hf hb (diag_of hb)).2.2 _)
  isplitl [H0 H1 H2 HT0 HT1]
  · unfold held
    isplitl [H0]; · iapply rep_of_owns; iexact H0
    isplitl [H1]; · iapply rep_of_owns; iexact H1
    isplitl [H2]; · iapply rep_of_owns; iexact H2
    isplitl [HT0]; · iexact HT0
    iexact HT1
  isplitl [H3]; · iexists _; iexact H3
  isplitl [HS0]; · iexact HS0
  iintro ⟨⟨H0, H1, H2, HT0, HT1⟩, ⟨%e3, H3⟩, HS0⟩
  isplitl [HS0 HT0 HT1 Hg]
  · isplitl [HS0]
    · iexists _; isplitr; swap
      · iexact HS0
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (cover_C m c t (accAt m c t.val) hf hb)

set_option maxHeartbeats 4000000 in
theorem body_D (c : Dev nD) (t : Fin (cfgA F).N) (hf : ¬First t) (hb : Below t) :
    Pre m c t ⊢ wp frame (wpE (defs₀ (F := F)) Variants.none c none) Set.univ (bodyOn (cr t) (st0 t) (hst0 t) (st1 t) (hst1 t) (st2 t) (hst2 t) (st3 t) (hst3 t)) fun _ => Post m c t := by
  have hs := ((Scheduled.point t).2.1 hb).2
  unfold Pre Post
  rw [bigSep_W0]
  rewrite [hs.1]
  simp only [before_0, before_1, before_2, before_3, after_0, after_1, after_2, after_3, hs.2]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  have hacc : accAt m c t.succ.val = (runD c (cr t) (st0 t) (hst0 t) (st1 t) (hst1 t) (st2 t) (hst2 t) (st3 t) (hst3 t) TI TJ (blk m c 0 t) (blk m c 1 t) (blk m c 2 t) (accAt m c t.val) hf hb (not_diag_of hb)).1 := by
    rw [Fin.val_succ, accAt_succ]; unfold accStep; rw [dif_neg hf, dif_pos hb]
  unfold Phi
  rw [hacc]
  simp only [Fin.val_castSucc]
  iintro ⟨⟨⟨%a0, %ha0, HS0⟩, HT0, HT1, Hg⟩, Ho, ⟨%d0, H0⟩, ⟨%d1, H1⟩, ⟨%d2, H2⟩, ⟨%d3, H3⟩⟩
  obtain rfl := ha0 fun h0 => hf ((Scheduled.point t).1 h0)
  iapply ((runD c (cr t) (st0 t) (hst0 t) (st1 t) (hst1 t) (st2 t) (hst2 t) (st3 t) (hst3 t) TI TJ (blk m c 0 t) (blk m c 1 t) (blk m c 2 t) (accAt m c t.val) hf hb (not_diag_of hb)).2 _ _)
  isplitl [H0 H1 H2 HT0 HT1]
  · unfold held
    isplitl [H0]; · iapply rep_of_owns; iexact H0
    isplitl [H1]; · iapply rep_of_owns; iexact H1
    isplitl [H2]; · iapply rep_of_owns; iexact H2
    isplitl [HT0]; · iexact HT0
    iexact HT1
  isplitl [H3]; · iexact H3
  isplitl [HS0]; · iexact HS0
  iintro ⟨⟨H0, H1, H2, HT0, HT1⟩, H3, HS0⟩
  isplitl [HS0 HT0 HT1 Hg]
  · isplitl [HS0]
    · iexists _; isplitr; swap
      · iexact HS0
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  iexists d3; iexact H3

/-- The body's obligation at every point. -/
theorem body_obligation (c : Dev nD) : BodyObligation (dats m 0 c) (defs₀ (F := F)) Variants.none () Set.univ := fun t => by
  rw [bigSep_W0]
  by_cases hf : First t <;> by_cases hb : Below t
  · exact body_B m c t hf hb
  · exact body_A m c t hf hb
  · exact body_D m c t hf hb
  · exact body_C m c t hf hb

/-! ## The launch -/

theorem share_eq (c : Dev nD) (w : Fin (cfgA F).W) : (dats m 0 c).share w = fullShare := by unfold Dat.share; split <;> rfl

/-- The tables one by one. -/
theorem prefHeld_two (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem entry_I (c : Dev nD) : entry m c main_c = (TI : S136.Idx → Elt F .i32) := by
  rw [entry_eq]; unfold hostOps0
  after_results_simp
  rfl
theorem entry_J (c : Dev nD) : entry m c main_c_0 = (TJ : S136.Idx → Elt F .i32) := by
  rw [entry_eq]; unfold hostOps0
  after_results_simp
  rfl

/-- The tables at the region's entry hold the host's two constants. -/
theorem entry_tab (c : Dev nD) (k : Fin 2) : entry m c (pre0.ref k) = (tabs (F := F)) k := by
  fin_cases k
  · exact entry_I m c
  · exact entry_J m c

theorem hostOps0_fresh : (hostOps0 : List (HloOp τ sig (Elt F))).Forall fun op => op.fresh = ∅ := by
  unfold hostOps0
  simp only [List.Forall]
  refine ⟨?_, ?_⟩ <;> first | rfl | (repeat' first | rfl | refine ⟨rfl, ?_⟩)

theorem phi_in (c : Dev nD) : iprop(Pipeline.ΦA spec0 c ∗ Pipeline.ΦT pre0 (tabs (F := F)) c) ⊢ (dats m 0 c).Φ 0 := by
  unfold Pipeline.ΦA Pipeline.ΦT
  rw [prefHeld_two, scopedRest0_eq, show (dats m 0 c).Φ 0 = Phi m c 0 from rfl]
  unfold Phi
  iintro ⟨⟨⟨%a0, HS0⟩, Hg⟩, ⟨HT0, HT1⟩⟩
  isplitl [HS0]
  · iexists a0; isplitr; swap
    · iexact HS0
    · ipureintro; intro h; exact absurd rfl h
  isplitl [HT0]; · iexact HT0
  isplitl [HT1]; · iexact HT1
  iexact Hg

theorem phi_out (c : Dev nD) : (dats m 0 c).Φ (Fin.last (cfgA F).N) ⊢ Pipeline.ΦA spec0 c := by
  unfold Pipeline.ΦA
  rw [scopedRest0_eq, show (dats m 0 c).Φ (Fin.last (cfgA F).N) = Phi m c (Fin.last _) from rfl]
  unfold Phi
  iintro ⟨⟨%a0, -, HS0⟩, -, -, Hg⟩
  isplitl [HS0]
  · iexists a0; iexact HS0
  iexact Hg

variable (ρ : Dev nD → PrngReg)

set_option backward.isDefEq.respectTransparency.types false in
set_option maxHeartbeats 4000000 in
/-- The run: every weakly fair execution terminates, every array as computed, every other buffer as the host operations left it,
    every counter at zero. -/
theorem run_all : θ_run (defs (F := F)) (onTc (τ := τ) (main (F := F))) (s₀ m ρ)
    (fun r => Pipeline.FramePost (Pipeline.pin (pcfgs (F := F)) fun _ => adm) (dats m) 0 (entry m) r ∧ r.2.sem = fun _ => 0) :=
  Pipeline.θ_run_frameP_track (Q' := _) (pcfgs (F := F)) (fun _ => adm) (dats m) 0 launch0 defs₀ Variants.none m ρ main
    (fun c => (body_obligation m c).loose) (share_eq m) (fun _ _ => rfl) (entry m)
    (by rw [entry_fun]; exact Pipeline.hmainP_prefix pcfgs 0 defs₀ Variants.none m main hostOps0 hostOps0_sub hostOps0_fresh main_chain)
    (fun _ _ => rfl) (entry_tab m) (phi_in m) (phi_out m)

end Cert.KernelIdeal.Attn

end
-- ==== Proof.FlashRun.lean ====
/- The run of the attention call in the claims' words: the result as the launch computes it, the arguments unchanged. -/
module

public import proofs.«01_k».proof.Proof.FlashFrame
public import proofs.«01_k».proof.Proof.Gen.Pre_finite
public import proofs.«01_k».proof.Defs

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI Idealize.SL.Sem

variable {F : FTy → Type} [FloatOps F] [Scheduled F]
variable (m : (ℓ : Loc nD τ sig) → Buf (Elt F) ℓ) (ρ : Dev nD → PrngReg)

/-- The host operations leave the five arguments alone. -/
theorem entry_arg0 (c : Dev nD) : entry m c main_arg0 = m ((c.tc : Thread nD τ).loc main_arg0) := by
  rw [entry_eq]; unfold hostOps0; after_results_simp
theorem entry_arg1 (c : Dev nD) : entry m c main_arg1 = m ((c.tc : Thread nD τ).loc main_arg1) := by
  rw [entry_eq]; unfold hostOps0; after_results_simp
theorem entry_arg2 (c : Dev nD) : entry m c main_arg2 = m ((c.tc : Thread nD τ).loc main_arg2) := by
  rw [entry_eq]; unfold hostOps0; after_results_simp
theorem entry_arg3 (c : Dev nD) : entry m c main_arg3 = m ((c.tc : Thread nD τ).loc main_arg3) := by
  rw [entry_eq]; unfold hostOps0; after_results_simp
theorem entry_arg4 (c : Dev nD) : entry m c main_arg4 = m ((c.tc : Thread nD τ).loc main_arg4) := by
  rw [entry_eq]; unfold hostOps0; after_results_simp

/-- None of the four windows stands over an argument. -/
theorem notWin (b : Ref sig .tc) (h0 : main_v27 ≠ b) (h1 : main_v33 ≠ b) (h2 : main_v39 ≠ b) (h3 : main_v40 ≠ b) :
    ∀ w : Fin 4, ((cfgA F).win w).arr.view.ref ≠ b
  | 0 => h0 | 1 => h1 | 2 => h2 | 3 => h3

/-- The run: the result is the output window's array after the last point; the arguments and the counters as at the start. -/
theorem run_main : θ_run (defs (F := F)) (onTc (τ := τ) (main (F := F))) ⟨m, fun _ => 0, ρ⟩ (fun r =>
    (∀ c : Dev nD, r.2.mem ((c.tc : Thread nD τ).loc main_v40) = (dats m 0 c).arrAt (3 : Fin 4) (cfgA F).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c =>
    ⟨(h.1 c).1 (3 : Fin 4),
     ((h.1 c).2 main_arg0 (Pipeline.mem_restRefs_of main_arg0 (by decide) (notWin (F := F) _ (by decide) (by decide) (by decide) (by decide)))).trans (entry_arg0 m c),
     ((h.1 c).2 main_arg1 (Pipeline.mem_restRefs_of main_arg1 (by decide) (notWin (F := F) _ (by decide) (by decide) (by decide) (by decide)))).trans (entry_arg1 m c),
     ((h.1 c).2 main_arg2 (Pipeline.mem_restRefs_of main_arg2 (by decide) (notWin (F := F) _ (by decide) (by decide) (by decide) (by decide)))).trans (entry_arg2 m c),
     ((h.1 c).2 main_arg3 (Pipeline.mem_restRefs_of main_arg3 (by decide) (notWin (F := F) _ (by decide) (by decide) (by decide) (by decide)))).trans (entry_arg3 m c),
     ((h.1 c).2 main_arg4 (Pipeline.mem_restRefs_of main_arg4 (by decide) (notWin (F := F) _ (by decide) (by decide) (by decide) (by decide)))).trans (entry_arg4 m c)⟩, h.2⟩) (run_all m ρ)

/-- The frame, the run read at the ideal interpretation. -/
theorem frame : Cert.quiescent_KernelIdeal := fun m ρ _ =>
  (θ_run Cert.KernelIdeal.defs _ _).mono (fun _ h => ⟨fun c => (h.1 c).2, h.2⟩) (run_main (F := Ideal) m ρ)

theorem frame_pre : Cert.quiescent_KernelIdeal_pre_finite := fun m ρ _ => frame m ρ trivial

end Cert.KernelIdeal.Attn

end
-- ==== Proof.RefRun.lean ====
/- The reference's run: it ends, and its arguments are as they were. -/
module

public import proofs.«01_k».proof.Proof.Gen.ReferenceIdeal
public import proofs.«01_k».proof.Proof.Gen.Pre_finite
public import proofs.«01_k».proof.Defs
public import Idealize.ShloMosaic.Lib.Claim

@[expose] public section

set_option maxRecDepth 16384

noncomputable section

namespace Cert.ReferenceIdeal.Attn

open Cert.ReferenceIdeal Cert.ReferenceIdeal.Gen
open Idealize.ShloMosaic
open Idealize.ShloMosaic.TcCoe Idealize.ShloMosaic.Tactic
open Idealize.SL Idealize.SL.RA Idealize.SL.BI Idealize.SL.Sem

/-- The scores as the reference writes them: the products of queries and keys, scaled, `−∞` where the key comes after the query. -/
def scores (q k : FVec Ideal S2x16384x4x96 .f32) : FVec Ideal S2x4x16384x16384 .f32 :=
  select
    (broadcastInDim S2x4x16384x16384 ![2, 3] bcast_S16384x16384_S2x4x16384x16384_2_3
      (cmpi .sle
        (broadcastInDim S16384x16384 ![0, 1] bcast_S1x16384_S16384x16384_0_1
          (broadcastInDim S1x16384 ![1] bcast_S16384_S1x16384_1 (iotaInDim S16384 32 0)))
        (broadcastInDim S16384x16384 ![0, 1] bcast_S16384x1_S16384x16384_0_1
          (broadcastInDim S16384x1 ![0] bcast_S16384_S16384x1_0 (iotaInDim S16384 32 0)))))
    (mulf (Host.dotGeneral dot_S2x16384x4x96_S2x16384x4x96_S2x4x16384x16384_3_3_1_1_02_02 none q k)
      (broadcastInDim S2x4x16384x16384 ![] bcast_S_S2x4x16384x16384 (constant S_ .f32 0x3DD105EC#32)))
    (broadcastInDim S2x4x16384x16384 ![] bcast_S_S2x4x16384x16384 (constant S_ .f32 0xFF800000#32))

/-- The exponentials of the scores less their row's largest. -/
def weights (s : FVec Ideal S2x4x16384x16384 .f32) : FVec Ideal S2x4x16384x16384 .f32 :=
  Host.exp (subf s (broadcastInDim S2x4x16384x16384 ![0, 1, 2, 3] bcast_S2x4x16384x1_S2x4x16384x16384_0_1_2_3
    (broadcastInDim S2x4x16384x1 ![0, 1, 2] bcast_S2x4x16384_S2x4x16384x1_0_1_2
      (maximumf (broadcastInDim S2x4x16384 ![] bcast_S_S2x4x16384 (constant S_ .f32 0xFF800000#32))
        (Host.reduce FloatOps.maximumf s (constant S_ .f32 0xFF800000#32) reducesTo_S2x4x16384x16384_S2x4x16384_d3 h_S_)))))

/-- The weights over their row's sum. -/
def shares (w : FVec Ideal S2x4x16384x16384 .f32) : FVec Ideal S2x4x16384x16384 .f32 :=
  Host.divf w (broadcastInDim S2x4x16384x16384 ![0, 1, 2, 3] bcast_S2x4x16384x1_S2x4x16384x16384_0_1_2_3
    (broadcastInDim S2x4x16384x1 ![0, 1, 2] bcast_S2x4x16384_S2x4x16384x1_0_1_2
      (Host.reduceAdd w (constant S_ .f32 0x00000000#32) reducesTo_S2x4x16384x16384_S2x4x16384_d3 h_S_)))

/-- What the reference returns of its queries, keys and values. -/
def result (q k : FVec Ideal S2x16384x4x96 .f32) (v : FVec Ideal S2x16384x4x64 .f32) : FVec Ideal S32768x256 .bf16 :=
  truncf .bf16 (shapeCast S32768x256 (transpose S2x16384x4x64 [0, 3, 1, 2]
    (Host.dotGeneral dot_S2x16384x4x64_S2x4x16384x16384_S2x4x64x16384_1_3_3_2_02_01 none v (shares (weights (scores q k))))
    transposes_S2x4x64x16384_S2x16384x4x64_0_3_1_2) shapeCasts_S2x16384x4x64_S32768x256) bitsLt_bf16_f32

/-- The run: the result of the arguments, which are as they were. -/
theorem run_main (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v24) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  unfold result shares weights scores
  rfl

theorem frame : Cert.quiescent_ReferenceIdeal := fun m g _ =>
  (θ_run Cert.ReferenceIdeal.defs _ _).mono (fun r h => ⟨fun c => (h c).2,
    Idealize.ShloMosaic.sem_eq_zero_of_no_sems (by decide) r.2⟩) (run_main m g)

theorem frame_pre : Cert.quiescent_ReferenceIdeal_pre_finite := fun m g _ => frame m g trivial

end Cert.ReferenceIdeal.Attn

end
-- ==== Proof.FlashStep.lean ====
module

public import proofs.«01_k».proof.Proof.FlashBody
public import Idealize.ShloMosaic.Lib.Pipeline.ValueKit
public import Idealize.ShloMosaic.Lib.Pointwise
public import Idealize.ShloMosaic.Lib.Pipeline.CanonAppend
public import Idealize.ShloMosaic.PureOps.Ideal

@[expose] public section

set_option maxRecDepth 16384

noncomputable section

namespace Cert.KernelIdeal.Attn

open Cert.KernelIdeal Cert.KernelIdeal.Gen
open Idealize.ShloMosaic Idealize.ShloMosaic.TcCoe Idealize.SL.Sem

variable (c : Dev nD) (i : grid0.Coords)
  (arg4 : Memref sig .tc .vmem S1024x512 .bf16) (harg4 : arg4.IsWhole) (arg5 : Memref sig .tc .vmem S1024x512 .bf16) (harg5 : arg5.IsWhole)
  (arg6 : Memref sig .tc .vmem S1024x512 .bf16) (harg6 : arg6.IsWhole) (arg7 : Memref sig .tc .vmem S1024x256 .bf16) (harg7 : arg7.IsWhole)
  (TI TJ : S136.Idx → Elt Ideal .i32) (q k v : S1024x512.Idx → Elt Ideal .bf16)

/-- Lane `l` of head `h` in a packed row. -/
def lane (h : Fin 4) (l : Fin 128) : Fin 512 := ⟨128 * h.val + l.val, by omega⟩

/-- A key's score against a query, in the packed blocks: over all 128 lanes of the head. -/
def dotAt (q k : S1024x512.Idx → EReal) (h : Fin 4) (r s : Fin 1024) : EReal := ∑ l : Fin 128, q (ix2 r (lane h l)) * k (ix2 s (lane h l))

def belowG (q k v : S1024x512.Idx → EReal) (a : S4x1024x128.Idx → EReal) (y : S4x1024x128.Idx) : EReal :=
  a y + ∑ s : Fin 1024, Ideal.exp2 (dotAt q k (y 0) (y 1) s) * v (ix2 s (lane (y 0) (y 2)))

theorem emb_head (h : ℕ) (hh : h < 4) (inb) (r : Fin 1024) (l : Fin 128) :
    (Rect.unit (s := S4x1024x128) ![h, 0, 0] S1x1024x128.size inb).emb (ix3 0 r l) = ix3 ⟨h, hh⟩ r l := by
  funext a; apply Fin.ext
  fin_cases a <;> simp [Rect.emb, Rect.unit]

theorem head (h : ℕ) (hh : h < 4) {inb} {w : (Rect.unit (s := S4x1024x128) ![h, 0, 0] S1x1024x128.size inb).shape.Idx → EReal} {G : S4x1024x128.Idx → EReal}
    (H : ∀ (r : Fin 1024) (l : Fin 128), w (ix3 0 r l : S1x1024x128.Idx) = G (ix3 ⟨h, hh⟩ r l)) :
    ∀ x, w x = G ((Rect.unit (s := S4x1024x128) ![h, 0, 0] S1x1024x128.size inb).emb x) := fun x => by
  obtain ⟨r, l, rfl⟩ : ∃ (r : Fin 1024) (l : Fin 128), x = (ix3 0 r l : S1x1024x128.Idx) := ⟨x 1, x 2, by rw [eq_ix3 x]; idx_ext⟩
  rw [emb_head h hh]; exact H r l

theorem pieces_D (a0 : AccBuf Ideal c) : ∀ p ∈ runD.sl.HS0_4 c arg4 arg5 arg6 q k v a0, ∀ x : p.1.shape.Idx, p.2 x = belowG q k v a0 (p.1.emb x) := by
  unfold runD.sl.HS0_4
  simp only [List.mem_cons, List.not_mem_nil, or_false, forall_eq_or_imp, forall_eq]
  refine ⟨head 3 (by norm_num) ?_, head 2 (by norm_num) ?_, head 1 (by norm_num) ?_, head 0 (by norm_num) ?_⟩ <;> intro r l
  all_goals unfold belowG dotAt
  all_goals frame_out
  all_goals simp only [View.readAt_eq_ld, View.read_rep, View.read_whole]
  all_goals pointwise [k0_pay2, k0_pay5, k0_pay6, k0_pay7, k0_pay8, k0_pay9, lane]
  all_goals rfl

theorem tiled_D (a0 : AccBuf Ideal c) (y : S4x1024x128.Idx) : ∃ p ∈ runD.sl.HS0_4 c arg4 arg5 arg6 q k v a0, y ∈ p.1.set :=
  View.cover_of_tiledL (runD.sl.HS0_4 c arg4 arg5 arg6 q k v a0) S1x1024x128.size (by sl_kernel_rfl) y

theorem runD_fst (a0 : AccBuf Ideal c) (h1 h2 h3) :
    (runD c i arg4 harg4 arg5 harg5 arg6 harg6 arg7 harg7 TI TJ q k v a0 h1 h2 h3).1
      = (View.whole cc0_scratch0).writes (Elt Ideal) (View.whole cc0_scratch0).junk (runD.sl.HS0_4 c arg4 arg5 arg6 q k v a0) := by
  unfold runD
  dsimp only

theorem read_junk (L : List (View.Piece (Elt Ideal) S4x1024x128 .f32)) (y : S4x1024x128.Idx) :
    (show EReal from (show AccBuf Ideal c from (View.whole cc0_scratch0).writes (Elt Ideal) (View.whole cc0_scratch0).junk L) y) = View.canon L y :=
  View.read_writes_junk_apply_eq_canon (View.whole cc0_scratch0) y L

theorem stepD (a0 : AccBuf Ideal c) (h1 h2 h3) (y : S4x1024x128.Idx) :
    (show EReal from (runD c i arg4 harg4 arg5 harg5 arg6 harg6 arg7 harg7 TI TJ q k v a0 h1 h2 h3).1 y) = belowG q k v a0 y := by
  rw [runD_fst]
  refine (read_junk c _ y).trans ?_
  exact View.canon_apply_of_pieces (belowG q k v a0) _ (pieces_D c arg4 arg5 arg6 q k v a0) y (tiled_D c arg4 arg5 arg6 q k v a0 y)

/-- A store to other rows or another head does not change what is read at `y`. -/
theorem canon_skip (h o n : ℕ) {inb} {w} (L : List (View.Piece (Elt Ideal) S4x1024x128 .f32)) (y : S4x1024x128.Idx)
    (hy : (y 0).val ≠ h ∨ (y 1).val < o ∨ o + n ≤ (y 1).val) :
    View.canon (⟨Rect.unit (s := S4x1024x128) ![h, o, 0] ![1, n, 128] inb, w⟩ :: L) y = View.canon L y := by
  refine View.canon_cons_of_not_mem _ _ fun hm => ?_
  obtain ⟨x, rfl⟩ := (Rect.unit (s := S4x1024x128) ![h, o, 0] ![1, n, 128] inb).exists_idx_of_mem hm
  have h0 : (x 0).val < 1 := (x 0).isLt
  have h1 : (x 1).val < n := (x 1).isLt
  rcases hy with hy | hy | hy <;> simp [LoadRect.idx, Rect.toLoadRect, Rect.unit] at hy <;> omega

/-- After the zero fill every entry reads as zero. -/
theorem canon_zero {inb} (y : S4x1024x128.Idx) :
    View.canon ([⟨Rect.unit (s := S4x1024x128) ![0, 0, 0] ![4, 1024, 128] inb, broadcast S4x1024x128 (0 : EReal)⟩] : List (View.Piece (Elt Ideal) S4x1024x128 .f32)) y = (0 : EReal) :=
  View.canon_apply_of_pieces (fun _ => (0 : EReal)) _ (by simp [broadcast]) y
    (View.cover_of_tiledL ([⟨Rect.unit (s := S4x1024x128) ![0, 0, 0] ![4, 1024, 128] inb, broadcast S4x1024x128 (0 : EReal)⟩] : List (View.Piece (Elt Ideal) S4x1024x128 .f32)) S4x1024x128.size (by sl_kernel_rfl) y)

theorem pieces_B : ∀ p ∈ (runB.sl.HS0_5 arg4 arg5 arg6 q k v).take 4, ∀ x : p.1.shape.Idx, p.2 x = belowG q k v (fun _ => 0) (p.1.emb x) := by
  unfold runB.sl.HS0_5 runB.sl.HS0_4 runB.sl.HS0_3 runB.sl.HS0_2
  simp only [List.take_succ_cons, List.take_zero, List.mem_cons, List.not_mem_nil, or_false, forall_eq_or_imp, forall_eq]
  refine ⟨head 3 (by norm_num) ?_, head 2 (by norm_num) ?_, head 1 (by norm_num) ?_, head 0 (by norm_num) ?_⟩ <;> intro r l
  all_goals unfold belowG dotAt
  all_goals frame_out
  all_goals simp only [View.readAt_eq_ld, View.read_rep, View.read_whole]
  all_goals pointwise [k0_pay1, k0_pay2, k0_pay5, k0_pay6, k0_pay7, k0_pay8, k0_pay9, lane]
  all_goals simp only [View.readCov_eq_canon']
  all_goals repeat rw [canon_skip _ _ _ _ _ (by simp [LoadRect.idx, Rect.toLoadRect, Rect.unit])]
  all_goals rw [canon_zero, zero_add]
  all_goals rfl

theorem tiled_B (y : S4x1024x128.Idx) : ∃ p ∈ (runB.sl.HS0_5 arg4 arg5 arg6 q k v).take 4, y ∈ p.1.set :=
  View.cover_of_tiledL ((runB.sl.HS0_5 arg4 arg5 arg6 q k v).take 4) S1x1024x128.size (by sl_kernel_rfl) y

theorem runB_fst (h1 h2 h3) :
    (runB c i arg4 harg4 arg5 harg5 arg6 harg6 arg7 harg7 TI TJ q k v h1 h2 h3).1
      = (View.whole cc0_scratch0).writes (Elt Ideal) (View.whole cc0_scratch0).junk (runB.sl.HS0_5 arg4 arg5 arg6 q k v) := by
  unfold runB
  dsimp only

theorem stepB (h1 h2 h3) (y : S4x1024x128.Idx) :
    (show EReal from (runB c i arg4 harg4 arg5 harg5 arg6 harg6 arg7 harg7 TI TJ q k v h1 h2 h3).1 y) = belowG q k v (fun _ => 0) y := by
  rw [runB_fst]
  refine (read_junk c _ y).trans ?_
  rw [← List.take_append_drop 4 (runB.sl.HS0_5 arg4 arg5 arg6 q k v)]
  exact View.canon_append_of_pieces (belowG q k v (fun _ => 0)) _ _ (pieces_B arg4 arg5 arg6 q k v) y (tiled_B arg4 arg5 arg6 q k v y)

/-- One masked key block added to the accumulator: keys after the query contribute nothing. -/
def diagG (q k v : S1024x512.Idx → EReal) (a : S4x1024x128.Idx → EReal) (y : S4x1024x128.Idx) : EReal :=
  a y + ∑ s : Fin 1024, if s.val ≤ (y 1).val then Ideal.exp2 (dotAt q k (y 0) (y 1) s) * v (ix2 s (lane (y 0) (y 2))) else 0

/-- A masked score enters the sum as zero. -/
theorem masked (x r o : ℕ) (hx : x < 1024) (hr : r < 512) (ho : o ≤ 512) (S w : EReal) :
    FloatOps.exp2 (F := Ideal) (φ := .f32) (Scalar.select (IntOp.cmpi CmpIPredicate.sle (BitVec.ofNat 32 x) (IntOp.addi (BitVec.ofNat 32 r) (BitVec.ofNat 32 o))) S
      (Ideal.ofBits FTy.f32 4286578688#32)) * w = if x ≤ o + r then Ideal.exp2 S * w else 0 := by
  have hc : IntOp.cmpi CmpIPredicate.sle (BitVec.ofNat 32 x) (IntOp.addi (BitVec.ofNat 32 r) (BitVec.ofNat 32 o)) = if x ≤ o + r then 1#1 else 0#1 := by
    have h1 : (BitVec.ofNat 32 x).toInt = x := by
      rw [BitVec.toInt_eq_toNat_cond, BitVec.toNat_ofNat, Nat.mod_eq_of_lt (by omega), if_pos (by omega)]
    have h2 : (BitVec.ofNat 32 r + BitVec.ofNat 32 o).toInt = ((o + r : ℕ) : ℤ) := by
      rw [← BitVec.ofNat_add, BitVec.toInt_eq_toNat_cond, BitVec.toNat_ofNat, Nat.mod_eq_of_lt (by omega), if_pos (by omega), Nat.add_comm]
    simp only [IntOp.cmpi, IntOp.addi, BitVec.sle, h1, h2]
    by_cases h : x ≤ o + r
    · rw [decide_eq_true (by exact_mod_cast h), if_pos h]; rfl
    · rw [decide_eq_false (by exact_mod_cast h), if_neg h]; rfl
  rw [hc]
  by_cases h : x ≤ o + r
  · simp only [h, if_true]; rfl
  · simp only [h, if_false]
    have : Ideal.ofBits FTy.f32 4286578688#32 = ⊥ := by simp [Ideal.ofBits, Ideal.ieee]
    show Ideal.exp2 (Ideal.ofBits FTy.f32 4286578688#32) * w = 0
    rw [this]; simp

theorem masked0 (x r : ℕ) (hx : x < 1024) (hr : r < 512) (S w : EReal) :
    FloatOps.exp2 (F := Ideal) (φ := .f32) (Scalar.select (IntOp.cmpi CmpIPredicate.sle (BitVec.ofNat 32 x) (IntOp.addi (BitVec.ofNat 32 r) (BitVec.ofNat 32 0))) S
      (Ideal.ofBits FTy.f32 4286578688#32)) * w = if x ≤ r then Ideal.exp2 S * w else 0 := by
  have h := masked x r 0 hx hr (by norm_num) S w
  rw [Nat.zero_add] at h
  exact h

/-- A sum over the first 512 keys is the sum over all keys once no later key may enter. -/
theorem sum_lower (r : Fin 512) (G : Fin 1024 → EReal) :
    (∑ x : Fin 512, if x.val ≤ r.val then G ⟨x.val, by omega⟩ else 0) = ∑ s : Fin 1024, if s.val ≤ r.val then G s else 0 := by
  rw [Fin.sum_univ_add (a := 512) (b := 512) (fun s : Fin (512 + 512) => if s.val ≤ r.val then G s else 0)]
  have : ∑ i : Fin 512, (if (Fin.natAdd 512 i : Fin (512 + 512)).val ≤ r.val then G (Fin.natAdd 512 i) else 0) = 0 :=
    Finset.sum_eq_zero fun i _ => if_neg (by simp; omega)
  rw [this, add_zero]
  rfl

theorem emb_half (h o : ℕ) (hh : h < 4) (ho : o + 512 ≤ 1024) (inb) (r : Fin 512) (l : Fin 128) :
    (Rect.unit (s := S4x1024x128) ![h, o, 0] S1x512x128.size inb).emb (ix3 0 r l) = ix3 ⟨h, hh⟩ ⟨o + r.val, by omega⟩ l := by
  funext a; apply Fin.ext
  fin_cases a <;> simp [Rect.emb, Rect.unit]

theorem half (h o : ℕ) (hh : h < 4) (ho : o + 512 ≤ 1024) {inb} {w : (Rect.unit (s := S4x1024x128) ![h, o, 0] S1x512x128.size inb).shape.Idx → EReal} {G : S4x1024x128.Idx → EReal}
    (H : ∀ (r : Fin 512) (l : Fin 128), w (ix3 0 r l : S1x512x128.Idx) = G (ix3 ⟨h, hh⟩ ⟨o + r.val, by omega⟩ l)) :
    ∀ x, w x = G ((Rect.unit (s := S4x1024x128) ![h, o, 0] S1x512x128.size inb).emb x) := fun x => by
  obtain ⟨r, l, rfl⟩ : ∃ (r : Fin 512) (l : Fin 128), x = (ix3 0 r l : S1x512x128.Idx) := ⟨x 1, x 2, by rw [eq_ix3 x]; idx_ext⟩
  rw [emb_half h o hh ho]; exact H r l

theorem runC_snd (a0 : AccBuf Ideal c) (h1 h2 h3) :
    (runC c i arg4 harg4 arg5 harg5 arg6 harg6 arg7 harg7 TI TJ q k v a0 h1 h2 h3).2.1
      = (View.whole cc0_scratch0).writes (Elt Ideal) (View.whole cc0_scratch0).junk (runC.sl.HS0_8 c arg4 arg5 arg6 q k v a0) := by
  unfold runC
  dsimp only

set_option maxHeartbeats 4000000 in
theorem pieces_C (a0 : AccBuf Ideal c) : ∀ p ∈ runC.sl.HS0_8 c arg4 arg5 arg6 q k v a0, ∀ x : p.1.shape.Idx, p.2 x = diagG q k v a0 (p.1.emb x) := by
  unfold runC.sl.HS0_8
  simp only [List.mem_cons, List.not_mem_nil, or_false, forall_eq_or_imp, forall_eq]
  refine ⟨half 3 512 (by norm_num) (by norm_num) ?_, half 2 512 (by norm_num) (by norm_num) ?_, half 1 512 (by norm_num) (by norm_num) ?_, half 0 512 (by norm_num) (by norm_num) ?_,
    half 3 0 (by norm_num) (by norm_num) ?_, half 2 0 (by norm_num) (by norm_num) ?_, half 1 0 (by norm_num) (by norm_num) ?_, half 0 0 (by norm_num) (by norm_num) ?_⟩ <;> intro r l
  case refine_1 | refine_2 | refine_3 | refine_4 =>
    unfold diagG dotAt
    frame_out
    simp only [View.readAt_eq_ld, View.read_rep, View.read_whole]
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, lane]
    exact congrArg _ (Finset.sum_congr rfl fun x _ => masked x.val r.val 512 x.isLt r.isLt le_rfl _ _)
  all_goals
    unfold diagG dotAt
    frame_out
    simp only [View.readAt_eq_ld, View.read_rep, View.read_whole]
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, lane]
    refine congrArg _ (Eq.trans ?_ (sum_lower r _))
    refine Finset.sum_congr rfl fun x _ => ?_
    exact masked0 x.val r.val (by omega) r.isLt _ _

theorem tiled_C (a0 : AccBuf Ideal c) (y : S4x1024x128.Idx) : ∃ p ∈ runC.sl.HS0_8 c arg4 arg5 arg6 q k v a0, y ∈ p.1.set :=
  View.cover_of_tiledL (runC.sl.HS0_8 c arg4 arg5 arg6 q k v a0) S1x512x128.size (by sl_kernel_rfl) y

theorem canon_C (a0 : AccBuf Ideal c) : View.canon (runC.sl.HS0_8 c arg4 arg5 arg6 q k v a0) = diagG q k v a0 :=
  funext fun y => View.canon_apply_of_pieces (diagG q k v a0) _ (pieces_C c arg4 arg5 arg6 q k v a0) y (tiled_C c arg4 arg5 arg6 q k v a0 y)

theorem runC_out (a0 : AccBuf Ideal c) (h1 h2 h3) :
    (runC c i arg4 harg4 arg5 harg5 arg6 harg6 arg7 harg7 TI TJ q k v a0 h1 h2 h3).1 = runC.sl.HO_2 c arg4 arg5 arg6 q k v a0 := by
  unfold runC
  dsimp only

/-- The lane number is below 64 exactly when the comparison word says so. -/
theorem lane_lt (l : Fin 128) : IntOp.cmpi CmpIPredicate.slt (BitVec.ofNat 32 l.val) 64#32 = if l.val < 64 then 1#1 else 0#1 := by
  revert l; decide

/-- A column of the output block: 64 columns per head, each the head's weighted sum over its sum of weights (lane 64). -/
def outG (A : S4x1024x128.Idx → EReal) (y : S1024x256.Idx) : EReal :=
  Ideal.div (A (ix3 (⟨(y 1).val / 64, by have : (y 1).val < 256 := (y 1).isLt; omega⟩ : Fin 4) (y 0) (⟨(y 1).val % 64, by omega⟩ : Fin 128)))
    (A (ix3 (⟨(y 1).val / 64, by have : (y 1).val < 256 := (y 1).isLt; omega⟩ : Fin 4) (y 0) (64 : Fin 128)))

theorem outG_apply (A : S4x1024x128.Idx → EReal) (r : Fin 1024) (h : Fin 4) (d : Fin 64) (col : Fin 256) (hc : col.val = 64 * h.val + d.val) :
    outG A (ix2 r col) = Ideal.div (A (ix3 h r ⟨d.val, by omega⟩)) (A (ix3 h r 64)) := by
  unfold outG
  have e1 : (⟨((ix2 r col : S1024x256.Idx) 1).val / 64, by have : ((ix2 r col : S1024x256.Idx) 1).val < 256 := ((ix2 r col : S1024x256.Idx) 1).isLt; omega⟩ : Fin 4) = h := Fin.ext (by show col.val / 64 = h.val; omega)
  have e2 : (⟨((ix2 r col : S1024x256.Idx) 1).val % 64, by omega⟩ : Fin 128) = ⟨d.val, by omega⟩ := Fin.ext (by show col.val % 64 = d.val; omega)
  rw [e1, e2]; rfl

theorem pay4_apply (a b : S1x1024x128.Idx → EReal) (r : Fin 1024) (l : Fin 128) :
    (k0_pay4 (F := Ideal) runC.sl.v167 a b (ix2 r l) : EReal) =
      if l.val < 64 then Ideal.div (a (ix3 0 r l)) (a (ix3 0 r 64)) else Ideal.div (b (ix3 0 r ⟨(l.val + 128 - 64) % 128, by omega⟩)) (b (ix3 0 r 64)) := by
  unfold runC.sl.v167
  pointwise [k0_pay4]
  rw [lane_lt]
  by_cases h : l.val < 64 <;> simp [h, Scalar.select]

theorem pay3_apply (a b : S1x1024x128.Idx → EReal) (r : Fin 1024) (l : Fin 128) :
    (k0_pay3 (F := Ideal) runC.sl.v167 (k0_pay28 b) (k0_pay29 a) (k0_pay30 b) (ix2 r l) : EReal) =
      if l.val < 64 then Ideal.div (a (ix3 0 r l)) (a (ix3 0 r 64)) else Ideal.div (b (ix3 0 r ⟨(l.val + 128 - 64) % 128, by omega⟩)) (b (ix3 0 r 64)) := by
  unfold runC.sl.v167
  pointwise [k0_pay3, k0_pay28, k0_pay29, k0_pay30]
  rw [lane_lt]
  by_cases h : l.val < 64 <;> simp [h, Scalar.select]

/-- One head's accumulator, read whole. -/
theorem read_head (L : List (View.Piece (Elt Ideal) S4x1024x128 .f32)) (A : S4x1024x128.Idx → EReal) (hL : View.canon L = A) (h : ℕ) (hh : h < 4) (inb) :
    accM.view.readCov (Val := Elt Ideal) L (Rect.unit (s := S4x1024x128) ![h, 0, 0] S1x1024x128.size inb).toLoadRect
      = fun j : S1x1024x128.Idx => A (ix3 (⟨h, hh⟩ : Fin 4) (j 1) (j 2)) := by
  rw [View.readCov_eq_canon', hL]
  funext j
  obtain ⟨r, l, rfl⟩ : ∃ (r : Fin 1024) (l : Fin 128), j = (ix3 0 r l : S1x1024x128.Idx) := ⟨j 1, j 2, by rw [eq_ix3 j]; idx_ext⟩
  exact congrArg A (emb_head h hh inb r l)

theorem emb_half_out (o : ℕ) (inb) (ho : o + 128 ≤ 256) (r : Fin 1024) (l : Fin 128) :
    (Rect.unit (s := S1024x256) ![0, o] S1024x128.size inb).emb (ix2 r l) = ix2 r ⟨o + l.val, by omega⟩ := by
  funext a; apply Fin.ext
  fin_cases a <;> simp [Rect.emb, Rect.unit]

/-- Two heads side by side, stored at column `o`. -/
theorem pair_out (A : S4x1024x128.Idx → EReal) (o : ℕ) (h : ℕ) (hh : h + 1 < 4) (ho : o = 64 * h) (hob : o + 128 ≤ 256) {inb}
    {w : (Rect.unit (s := S1024x256) ![0, o] S1024x128.size inb).shape.Idx → EReal}
    (H : ∀ (r : Fin 1024) (l : Fin 128), w (ix2 r l : S1024x128.Idx) =
      if l.val < 64 then Ideal.div (A (ix3 (⟨h, by omega⟩ : Fin 4) r l)) (A (ix3 (⟨h, by omega⟩ : Fin 4) r 64))
        else Ideal.div (A (ix3 (⟨h + 1, hh⟩ : Fin 4) r ⟨(l.val + 128 - 64) % 128, by omega⟩)) (A (ix3 (⟨h + 1, hh⟩ : Fin 4) r 64))) :
    ∀ x, w x = outG A ((Rect.unit (s := S1024x256) ![0, o] S1024x128.size inb).emb x) := fun x => by
  obtain ⟨r, l, rfl⟩ : ∃ (r : Fin 1024) (l : Fin 128), x = (ix2 r l : S1024x128.Idx) := ⟨x 0, x 1, by rw [eq_ix2 x]; idx_ext⟩
  rw [emb_half_out o inb hob]
  refine (H r l).trans ?_
  by_cases hl : l.val < 64
  · rw [if_pos hl]
    exact (outG_apply A r ⟨h, by omega⟩ ⟨l.val, hl⟩ _ (by show o + l.val = 64 * h + l.val; omega)).symm
  · rw [if_neg hl]
    have e : (⟨(l.val + 128 - 64) % 128, by omega⟩ : Fin 128) = ⟨l.val - 64, by omega⟩ := Fin.ext (by show (l.val + 128 - 64) % 128 = l.val - 64; omega)
    rw [e]
    exact (outG_apply A r ⟨h + 1, hh⟩ ⟨l.val - 64, by omega⟩ _ (by show o + l.val = 64 * (h + 1) + (l.val - 64); omega)).symm

theorem out_C (a0 : AccBuf Ideal c) (y : S1024x256.Idx) : View.canon (runC.sl.HO_2 c arg4 arg5 arg6 q k v a0) y = outG (diagG q k v a0) y := by
  refine View.canon_apply_of_pieces (outG (diagG q k v a0)) _ ?_ y (View.cover_of_tiledL (runC.sl.HO_2 c arg4 arg5 arg6 q k v a0) S1024x128.size (by sl_kernel_rfl) y)
  unfold runC.sl.HO_2
  simp only [List.mem_cons, List.not_mem_nil, or_false, forall_eq_or_imp, forall_eq]
  refine ⟨pair_out _ 128 2 (by norm_num) rfl (by norm_num) fun r l => ?_, pair_out _ 0 0 (by norm_num) rfl (by norm_num) fun r l => ?_⟩
  · refine (pay4_apply _ _ r l).trans ?_
    unfold runC.sl.v184 runC.sl.v186
    rw [read_head _ _ (canon_C c arg4 arg5 arg6 q k v a0) 2 (by norm_num), read_head _ _ (canon_C c arg4 arg5 arg6 q k v a0) 3 (by norm_num)]
    rfl
  · unfold runC.sl.r_9 runC.sl.r_10 runC.sl.r_11
    refine (pay3_apply _ _ r l).trans ?_
    unfold runC.sl.v168 runC.sl.v170
    rw [read_head _ _ (canon_C c arg4 arg5 arg6 q k v a0) 0 (by norm_num), read_head _ _ (canon_C c arg4 arg5 arg6 q k v a0) 1 (by norm_num)]
    rfl

theorem runA_snd (h1 h2 h3) :
    (runA c i arg4 harg4 arg5 harg5 arg6 harg6 arg7 harg7 TI TJ q k v h1 h2 h3).2.1
      = (View.whole cc0_scratch0).writes (Elt Ideal) (View.whole cc0_scratch0).junk (runA.sl.HS0_9 arg4 arg5 arg6 q k v) := by
  unfold runA
  dsimp only

theorem runA_out (h1 h2 h3) :
    (runA c i arg4 harg4 arg5 harg5 arg6 harg6 arg7 harg7 TI TJ q k v h1 h2 h3).1 = runA.sl.HO_2 arg4 arg5 arg6 q k v := by
  unfold runA
  dsimp only

theorem canon_fill {inb} (y : S4x1024x128.Idx) :
    View.canon ([⟨Rect.unit (s := S4x1024x128) ![0, 0, 0] S4x1024x128.size inb, k0_pay1 (F := Ideal)⟩] : List (View.Piece (Elt Ideal) S4x1024x128 .f32)) y = (0 : EReal) := by
  refine View.canon_apply_of_pieces (fun _ => (0 : EReal)) _ ?_ y
    (View.cover_of_tiledL ([⟨Rect.unit (s := S4x1024x128) ![0, 0, 0] S4x1024x128.size inb, k0_pay1 (F := Ideal)⟩] : List (View.Piece (Elt Ideal) S4x1024x128 .f32)) S4x1024x128.size (by sl_kernel_rfl) y)
  simp only [List.mem_cons, List.not_mem_nil, or_false, forall_eq]
  intro x
  pointwise [k0_pay1]

theorem old_25 : runA.sl.v25 (F := Ideal) = (fun _ => (0 : EReal)) := by
  unfold runA.sl.v25
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_1
  exact canon_fill _

theorem old_43 : runA.sl.v43 arg4 arg5 arg6 q k v = (fun _ => (0 : EReal)) := by
  unfold runA.sl.v43
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_2 runA.sl.HS0_1
  refine (canon_skip 0 0 512 _ _ (by simp [LoadRect.idx, Rect.toLoadRect, Rect.unit])).trans ?_
  exact canon_fill _

theorem old_61 : runA.sl.v61 arg4 arg5 arg6 q k v = (fun _ => (0 : EReal)) := by
  unfold runA.sl.v61
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_3 runA.sl.HS0_2 runA.sl.HS0_1
  refine (canon_skip 1 0 512 _ _ (by simp [LoadRect.idx, Rect.toLoadRect, Rect.unit])).trans ?_
  refine (canon_skip 0 0 512 _ _ (by simp [LoadRect.idx, Rect.toLoadRect, Rect.unit])).trans ?_
  exact canon_fill _

theorem old_79 : runA.sl.v79 arg4 arg5 arg6 q k v = (fun _ => (0 : EReal)) := by
  unfold runA.sl.v79
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_4 runA.sl.HS0_3 runA.sl.HS0_2 runA.sl.HS0_1
  refine (canon_skip 2 0 512 _ _ (by simp [LoadRect.idx, Rect.toLoadRect, Rect.unit])).trans ?_
  refine (canon_skip 1 0 512 _ _ (by simp [LoadRect.idx, Rect.toLoadRect, Rect.unit])).trans ?_
  refine (canon_skip 0 0 512 _ _ (by simp [LoadRect.idx, Rect.toLoadRect, Rect.unit])).trans ?_
  exact canon_fill _

theorem old_102 : runA.sl.v102 arg4 arg5 arg6 q k v = (fun _ => (0 : EReal)) := by
  unfold runA.sl.v102
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_5 runA.sl.HS0_4 runA.sl.HS0_3 runA.sl.HS0_2 runA.sl.HS0_1
  refine (canon_skip 3 0 512 _ _ (by simp [LoadRect.idx, Rect.toLoadRect, Rect.unit])).trans ?_
  refine (canon_skip 2 0 512 _ _ (by simp [LoadRect.idx, Rect.toLoadRect, Rect.unit])).trans ?_
  refine (canon_skip 1 0 512 _ _ (by simp [LoadRect.idx, Rect.toLoadRect, Rect.unit])).trans ?_
  refine (canon_skip 0 0 512 _ _ (by simp [LoadRect.idx, Rect.toLoadRect, Rect.unit])).trans ?_
  exact canon_fill _

theorem old_120 : runA.sl.v120 arg4 arg5 arg6 q k v = (fun _ => (0 : EReal)) := by
  unfold runA.sl.v120
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_6 runA.sl.HS0_5 runA.sl.HS0_4 runA.sl.HS0_3 runA.sl.HS0_2 runA.sl.HS0_1
  refine (canon_skip 0 512 512 _ _ (by simp [LoadRect.idx, Rect.toLoadRect, Rect.unit])).trans ?_
  refine (canon_skip 3 0 512 _ _ (by simp [LoadRect.idx, Rect.toLoadRect, Rect.unit])).trans ?_
  refine (canon_skip 2 0 512 _ _ (by simp [LoadRect.idx, Rect.toLoadRect, Rect.unit])).trans ?_
  refine (canon_skip 1 0 512 _ _ (by simp [LoadRect.idx, Rect.toLoadRect, Rect.unit])).trans ?_
  refine (canon_skip 0 0 512 _ _ (by simp [LoadRect.idx, Rect.toLoadRect, Rect.unit])).trans ?_
  exact canon_fill _

theorem old_138 : runA.sl.v138 arg4 arg5 arg6 q k v = (fun _ => (0 : EReal)) := by
  unfold runA.sl.v138
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_7 runA.sl.HS0_6 runA.sl.HS0_5 runA.sl.HS0_4 runA.sl.HS0_3 runA.sl.HS0_2 runA.sl.HS0_1
  refine (canon_skip 1 512 512 _ _ (by simp [LoadRect.idx, Rect.toLoadRect, Rect.unit])).trans ?_
  refine (canon_skip 0 512 512 _ _ (by simp [LoadRect.idx, Rect.toLoadRect, Rect.unit])).trans ?_
  refine (canon_skip 3 0 512 _ _ (by simp [LoadRect.idx, Rect.toLoadRect, Rect.unit])).trans ?_
  refine (canon_skip 2 0 512 _ _ (by simp [LoadRect.idx, Rect.toLoadRect, Rect.unit])).trans ?_
  refine (canon_skip 1 0 512 _ _ (by simp [LoadRect.idx, Rect.toLoadRect, Rect.unit])).trans ?_
  refine (canon_skip 0 0 512 _ _ (by simp [LoadRect.idx, Rect.toLoadRect, Rect.unit])).trans ?_
  exact canon_fill _

theorem old_156 : runA.sl.v156 arg4 arg5 arg6 q k v = (fun _ => (0 : EReal)) := by
  unfold runA.sl.v156
  rw [View.readCov_eq_canon']
  funext j
  obtain ⟨r, l, rfl⟩ : ∃ (r : Fin 512) (l : Fin 128), j = (ix3 0 r l : S1x512x128.Idx) := ⟨j 1, j 2, by rw [eq_ix3 j]; idx_ext⟩
  unfold runA.sl.HS0_8 runA.sl.HS0_7 runA.sl.HS0_6 runA.sl.HS0_5 runA.sl.HS0_4 runA.sl.HS0_3 runA.sl.HS0_2 runA.sl.HS0_1
  refine (canon_skip 2 512 512 _ _ (by simp [LoadRect.idx, Rect.toLoadRect, Rect.unit])).trans ?_
  refine (canon_skip 1 512 512 _ _ (by simp [LoadRect.idx, Rect.toLoadRect, Rect.unit])).trans ?_
  refine (canon_skip 0 512 512 _ _ (by simp [LoadRect.idx, Rect.toLoadRect, Rect.unit])).trans ?_
  refine (canon_skip 3 0 512 _ _ (by simp [LoadRect.idx, Rect.toLoadRect, Rect.unit])).trans ?_
  refine (canon_skip 2 0 512 _ _ (by simp [LoadRect.idx, Rect.toLoadRect, Rect.unit])).trans ?_
  refine (canon_skip 1 0 512 _ _ (by simp [LoadRect.idx, Rect.toLoadRect, Rect.unit])).trans ?_
  refine (canon_skip 0 0 512 _ _ (by simp [LoadRect.idx, Rect.toLoadRect, Rect.unit])).trans ?_
  exact canon_fill _

set_option maxHeartbeats 8000000 in
theorem pieces_A : ∀ p ∈ (runA.sl.HS0_9 arg4 arg5 arg6 q k v).take 8, ∀ x : p.1.shape.Idx, p.2 x = diagG q k v (fun _ => 0) (p.1.emb x) := by
  unfold runA.sl.HS0_9 runA.sl.HS0_8 runA.sl.HS0_7 runA.sl.HS0_6 runA.sl.HS0_5 runA.sl.HS0_4 runA.sl.HS0_3 runA.sl.HS0_2
  simp only [List.take_succ_cons, List.take_zero, List.mem_cons, List.not_mem_nil, or_false, forall_eq_or_imp, forall_eq]
  refine ⟨half 3 512 (by norm_num) (by norm_num) ?_, half 2 512 (by norm_num) (by norm_num) ?_, half 1 512 (by norm_num) (by norm_num) ?_, half 0 512 (by norm_num) (by norm_num) ?_,
    half 3 0 (by norm_num) (by norm_num) ?_, half 2 0 (by norm_num) (by norm_num) ?_, half 1 0 (by norm_num) (by norm_num) ?_, half 0 0 (by norm_num) (by norm_num) ?_⟩ <;> intro r l
  all_goals try unfold runA.sl.r_2
  all_goals try unfold runA.sl.r_3
  all_goals try unfold runA.sl.r_4
  all_goals try unfold runA.sl.r_5
  all_goals try unfold runA.sl.r_6
  all_goals try unfold runA.sl.r_7
  all_goals try unfold runA.sl.r_8
  all_goals simp only [old_25, old_43, old_61, old_79, old_102, old_120, old_138, old_156]
  case refine_1 | refine_2 | refine_3 | refine_4 =>
    unfold diagG dotAt
    simp only [View.readAt_eq_ld, View.read_rep, View.read_whole]
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, lane]
    exact Finset.sum_congr rfl fun x _ => masked x.val r.val 512 x.isLt r.isLt le_rfl _ _
  all_goals
    unfold diagG dotAt
    simp only [View.readAt_eq_ld, View.read_rep, View.read_whole]
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, lane]
    refine Eq.trans ?_ (sum_lower r _)
    refine Finset.sum_congr rfl fun x _ => ?_
    exact masked0 x.val r.val (by omega) r.isLt _ _

theorem canon_A : View.canon (runA.sl.HS0_9 arg4 arg5 arg6 q k v) = diagG q k v (fun _ => 0) := by
  rw [← List.take_append_drop 8 (runA.sl.HS0_9 arg4 arg5 arg6 q k v)]
  exact funext fun y => View.canon_append_of_pieces (diagG q k v (fun _ => 0)) _ _ (pieces_A arg4 arg5 arg6 q k v) y
    (View.cover_of_tiledL ((runA.sl.HS0_9 arg4 arg5 arg6 q k v).take 8) S1x512x128.size (by sl_kernel_rfl) y)

theorem out_A (y : S1024x256.Idx) : View.canon (runA.sl.HO_2 arg4 arg5 arg6 q k v) y = outG (diagG q k v (fun _ => 0)) y := by
  refine View.canon_apply_of_pieces (outG (diagG q k v (fun _ => 0))) _ ?_ y (View.cover_of_tiledL (runA.sl.HO_2 arg4 arg5 arg6 q k v) S1024x128.size (by sl_kernel_rfl) y)
  unfold runA.sl.HO_2
  simp only [List.mem_cons, List.not_mem_nil, or_false, forall_eq_or_imp, forall_eq]
  refine ⟨pair_out _ 128 2 (by norm_num) rfl (by norm_num) fun r l => ?_, pair_out _ 0 0 (by norm_num) rfl (by norm_num) fun r l => ?_⟩
  · refine (pay4_apply _ _ r l).trans ?_
    unfold runA.sl.v184 runA.sl.v186
    rw [read_head _ _ (canon_A arg4 arg5 arg6 q k v) 2 (by norm_num), read_head _ _ (canon_A arg4 arg5 arg6 q k v) 3 (by norm_num)]
    rfl
  · unfold runA.sl.r_9 runA.sl.r_10 runA.sl.r_11
    refine (pay3_apply _ _ r l).trans ?_
    unfold runA.sl.v168 runA.sl.v170
    rw [read_head _ _ (canon_A arg4 arg5 arg6 q k v) 0 (by norm_num), read_head _ _ (canon_A arg4 arg5 arg6 q k v) 1 (by norm_num)]
    rfl

end Cert.KernelIdeal.Attn
-- ==== Proof.FlashPack.lean ====
/- The packed arrays the attention call reads, at an index. -/
module

public import proofs.«01_k».proof.Proof.FlashFrame
public import proofs.«01_k».proof.Proof.FlashStep
public import proofs.«01_k».proof.Proof.Softmax
public import Idealize.ShloMosaic.Lib.Pointwise
public import Idealize.ShloMosaic.PureOps.Ideal

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The bound on the scores the kernel subtracts, as the host computes it from the two gains. -/
def bound (gq gk : S96.Idx → EReal) : EReal :=
  Ideal.ofBits FTy.f32 0x41622ADF#32 * Finset.fold max (Ideal.ofBits FTy.f32 0xFF800000#32) (fun k => FloatOps.absf (F := Ideal) (φ := .f32) (gq (ix1 k))) Finset.univ
    * Finset.fold max (Ideal.ofBits FTy.f32 0xFF800000#32) (fun k => FloatOps.absf (F := Ideal) (φ := .f32) (gk (ix1 k))) Finset.univ

/-- The mark of one lane: one there, zero elsewhere. -/
theorem mark (h : Fin 4) (l : Fin 128) (w : Fin 128) : (FloatOps.uitofp (F := Ideal) FTy.f32 (IntOp.cmpi CmpIPredicate.eq (BitVec.ofNat 32 ((128 * h.val + l.val) % 128)) (BitVec.ofNat 32 w.val)) : EReal) = if l = w then 1 else 0 := by
  rw [show (128 * h.val + l.val) % 128 = l.val by omega]
  have e : IntOp.cmpi CmpIPredicate.eq (BitVec.ofNat 32 l.val) (BitVec.ofNat 32 w.val) = if l = w then 1#1 else 0#1 := by
    revert l w; decide +kernel
  rw [e]
  by_cases e : l = w
  · rw [if_pos e, if_pos e]
    show (((1#1 : BitVec 1).toNat : ℝ) : EReal) = 1
    simp
  · rw [if_neg e, if_neg e]
    show (((0#1 : BitVec 1).toNat : ℝ) : EReal) = 0
    simp

/-- A padded array read at batch entry, row, head and lane: the array's own entry where it has one. -/
theorem unpack {W : ℕ} (f : Fin 2 → Fin 16384 → Fin 4 → Fin W → EReal) (b : Fin 2) (r : Fin 16384) (h : Fin 4) (l : Fin 128) :
    (if g : (16384 * b.val + r.val) / 16384 < 2 ∧ (16384 * b.val + r.val) % 16384 < 16384 ∧ (128 * h.val + l.val) / 128 < 4 ∧ (128 * h.val + l.val) % 128 < W
      then f ⟨(16384 * b.val + r.val) / 16384, g.1⟩ ⟨(16384 * b.val + r.val) % 16384, g.2.1⟩ ⟨(128 * h.val + l.val) / 128, g.2.2.1⟩ ⟨(128 * h.val + l.val) % 128, g.2.2.2⟩ else 0)
      = if g : l.val < W then f b r h ⟨l.val, g⟩ else 0 := by
  have e1 : (16384 * b.val + r.val) / 16384 = b.val := by omega
  have e2 : (16384 * b.val + r.val) % 16384 = r.val := by omega
  have e3 : (128 * h.val + l.val) / 128 = h.val := by omega
  have e4 : (128 * h.val + l.val) % 128 = l.val := by omega
  simp only [e1, e2, e3, e4, Fin.is_lt, true_and, Fin.eta]

/-- The arguments, as arrays of extended reals. -/
abbrev argQ : S2x16384x4x96.Idx → EReal := m ((c : Thread nD τ).loc main_arg0)
abbrev argK : S2x16384x4x96.Idx → EReal := m ((c : Thread nD τ).loc main_arg1)
abbrev argV : S2x16384x4x64.Idx → EReal := m ((c : Thread nD τ).loc main_arg2)
abbrev argGQ : S96.Idx → EReal := m ((c : Thread nD τ).loc main_arg3)
abbrev argGK : S96.Idx → EReal := m ((c : Thread nD τ).loc main_arg4)

/-- Row `r` of batch entry `b`. -/
def rowOf (b : Fin 2) (r : Fin 16384) : Fin 32768 := ⟨16384 * b.val + r.val, by omega⟩

set_option maxHeartbeats 4000000 in
theorem packed_v (b : Fin 2) (r : Fin 16384) (h : Fin 4) (l : Fin 128) :
    (show EReal from (show S32768x512.Idx → EReal from entry m c main_v39) (ix2 (rowOf b r) (lane h l)))
      = if hl : l.val < 64 then argV m c (ix4 b r h ⟨l.val, hl⟩) else if l = 64 then 1 else 0 := by
  rw [entry_eq]
  unfold hostOps0
  after_results_simp
  pointwise [rowOf, lane]
  refine (congrArg₂ (· + ·) (unpack (W := 64) (fun b r h d => argV m c (ix4 b r h d)) b r h l) (mark h l 64)).trans ?_
  by_cases hl : l.val < 64
  · have hn : l ≠ 64 := fun e => by rw [e] at hl; exact absurd hl (by decide)
    simp only [dif_pos hl, if_neg hn, zero_mul, add_zero]
  · simp only [dif_neg hl, zero_add, ite_mul, one_mul, zero_mul]

set_option maxHeartbeats 4000000 in
theorem packed_q (b : Fin 2) (r : Fin 16384) (h : Fin 4) (l : Fin 128) :
    (show EReal from (show S32768x512.Idx → EReal from entry m c main_v27) (ix2 (rowOf b r) (lane h l)))
      = if hl : l.val < 96 then argQ m c (ix4 b r h ⟨l.val, hl⟩) * Ideal.div (Ideal.ofBits FTy.f32 0x3DD105EC#32) (Ideal.log (Ideal.ofBits FTy.f32 0x40000000#32)) else if l = 96 then 1 else 0 := by
  rw [entry_eq]
  unfold hostOps0
  after_results_simp
  pointwise [rowOf, lane]
  refine (congrArg₂ (· + ·) (unpack (W := 96) (fun b r h d => argQ m c (ix4 b r h d) * Ideal.div (Ideal.ofBits FTy.f32 0x3DD105EC#32) (Ideal.log (Ideal.ofBits FTy.f32 0x40000000#32))) b r h l) (mark h l 96)).trans ?_
  by_cases hl : l.val < 96
  · have hn : l ≠ 96 := fun e => by rw [e] at hl; exact absurd hl (by decide)
    simp only [dif_pos hl, if_neg hn, zero_mul, add_zero]
  · simp only [dif_neg hl, zero_add, ite_mul, one_mul, zero_mul]

set_option maxHeartbeats 4000000 in
theorem packed_k (b : Fin 2) (r : Fin 16384) (h : Fin 4) (l : Fin 128) :
    (show EReal from (show S32768x512.Idx → EReal from entry m c main_v33) (ix2 (rowOf b r) (lane h l)))
      = if hl : l.val < 96 then argK m c (ix4 b r h ⟨l.val, hl⟩) else if l = 96 then -bound (argGQ m c) (argGK m c) else 0 := by
  rw [entry_eq]
  unfold hostOps0
  after_results_simp
  pointwise [rowOf, lane]
  refine (congrArg₂ (· + ·) (unpack (W := 96) (fun b r h d => argK m c (ix4 b r h d)) b r h l) (congrArg (· * -bound (argGQ m c) (argGK m c)) (mark h l 96))).trans ?_
  by_cases hl : l.val < 96
  · have hn : l ≠ 96 := fun e => by rw [e] at hl; exact absurd hl (by decide)
    simp only [dif_pos hl, if_neg hn, zero_mul, add_zero]
  · simp only [dif_neg hl, zero_add, ite_mul, one_mul, zero_mul]

end Cert.KernelIdeal.Attn

end
-- ==== Proof.FlashAcc.lean ====
/- What the accumulator holds before every point, and what the output block holds at the diagonal: the sums over the keys a query may see. -/
module

public import proofs.«01_k».proof.Proof.FlashPack
public import Idealize.ShloMosaic.Lib.Pipeline.ValueKit
public import proofs.«01_k».proof.Proof.FlashFrame
public import proofs.«01_k».proof.Proof.FlashStep
public import proofs.«01_k».proof.Proof.Softmax
public import Idealize.ShloMosaic.Lib.Pointwise
public import Idealize.ShloMosaic.PureOps.Ideal

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- Token `s` of key block `j`. -/
def tok (j : Fin 16) (s : Fin 1024) : Fin 16384 := ⟨1024 * j.val + s.val, by omega⟩

abbrev packQ : S32768x512.Idx → EReal := entry m c main_v27
abbrev packK : S32768x512.Idx → EReal := entry m c main_v33
abbrev packV : S32768x512.Idx → EReal := entry m c main_v39

/-- Key `S`'s unnormalized share of lane `l`, for query `R` of head `h`. -/
def share (b : Fin 2) (h : Fin 4) (R : Fin 16384) (l : Fin 128) (S : Fin 16384) : EReal :=
  Ideal.exp2 (∑ x : Fin 128, packQ m c (ix2 (rowOf b R) (lane h x)) * packK m c (ix2 (rowOf b S) (lane h x))) * packV m c (ix2 (rowOf b S) (lane h l))

/-- The sum over the key blocks before block `j`. -/
def accSum (b : Fin 2) (i : Fin 16) (j : ℕ) (y : S4x1024x128.Idx) : EReal :=
  ∑ j' : Fin 16, if j'.val < j then ∑ s : Fin 1024, share m c b (y 0) (tok i (y 1)) (y 2) (tok j' s) else 0

theorem accSum_zero (b : Fin 2) (i : Fin 16) : accSum m c b i 0 = fun _ => 0 := by
  funext y; unfold accSum; exact Finset.sum_eq_zero fun j _ => if_neg (Nat.not_lt_zero _)

theorem accSum_succ (b : Fin 2) (i j : Fin 16) (y : S4x1024x128.Idx) :
    accSum m c b i (j.val + 1) y = accSum m c b i j.val y + ∑ s : Fin 1024, share m c b (y 0) (tok i (y 1)) (y 2) (tok j s) := by
  unfold accSum
  have e : ∀ j' : Fin 16, (if j'.val < j.val + 1 then ∑ s : Fin 1024, share m c b (y 0) (tok i (y 1)) (y 2) (tok j' s) else 0)
      = (if j'.val < j.val then ∑ s : Fin 1024, share m c b (y 0) (tok i (y 1)) (y 2) (tok j' s) else 0)
        + (if j' = j then ∑ s : Fin 1024, share m c b (y 0) (tok i (y 1)) (y 2) (tok j' s) else 0) := fun j' => by
    rcases lt_trichotomy j'.val j.val with g | g | g
    · rw [if_pos (by omega), if_pos g, if_neg (fun e => by rw [e] at g; omega), add_zero]
    · rw [if_pos (by omega), if_neg (by omega), if_pos (Fin.ext g), zero_add]
    · rw [if_neg (by omega), if_neg (by omega), if_neg (fun e => by rw [e] at g; omega), add_zero]
  rw [Finset.sum_congr rfl fun j' _ => e j', Finset.sum_add_distrib, Finset.sum_ite_eq' Finset.univ j, if_pos (Finset.mem_univ _)]

theorem blk0_at (t : Fin (cfgA Ideal).N) (b : Fin 2) (i : Fin 16) (e : ∀ a : Fin 2, ((cfgA Ideal).win (0 : Fin 4)).indexMap (cr t) a = ![b.val * 16 + i.val, 0] a) (r : Fin 1024) (x : Fin 512) :
    (show S1024x512.Idx → EReal from blk m c 0 t) (ix2 r x) = packQ m c (ix2 (rowOf b (tok i r)) x) := by
  have e0 : ((cfgA Ideal).win (0 : Fin 4)).index t (0 : Fin 2) = b.val * 16 + i.val := e 0
  have e1 : ((cfgA Ideal).win (0 : Fin 4)).index t (1 : Fin 2) = 0 := e 1
  unfold blk
  refine congrArg (packQ m c) (funext fun (a : Fin 2) => Fin.ext ?_)
  blk_simp
  match a with
  | 0 =>
    refine (congrArg (fun z => z * 1024 + r.val) e0).trans ?_
    show (b.val * 16 + i.val) * 1024 + r.val = 16384 * b.val + (1024 * i.val + r.val)
    omega
  | 1 =>
    refine (congrArg (fun z => z * 512 + x.val) e1).trans ?_
    show 0 * 512 + x.val = x.val
    omega

theorem blk1_at (t : Fin (cfgA Ideal).N) (b : Fin 2) (i : Fin 16) (e : ∀ a : Fin 2, ((cfgA Ideal).win (1 : Fin 4)).indexMap (cr t) a = ![b.val * 16 + i.val, 0] a) (r : Fin 1024) (x : Fin 512) :
    (show S1024x512.Idx → EReal from blk m c 1 t) (ix2 r x) = packK m c (ix2 (rowOf b (tok i r)) x) := by
  have e0 : ((cfgA Ideal).win (1 : Fin 4)).index t (0 : Fin 2) = b.val * 16 + i.val := e 0
  have e1 : ((cfgA Ideal).win (1 : Fin 4)).index t (1 : Fin 2) = 0 := e 1
  unfold blk
  refine congrArg (packK m c) (funext fun (a : Fin 2) => Fin.ext ?_)
  blk_simp
  match a with
  | 0 =>
    refine (congrArg (fun z => z * 1024 + r.val) e0).trans ?_
    show (b.val * 16 + i.val) * 1024 + r.val = 16384 * b.val + (1024 * i.val + r.val)
    omega
  | 1 =>
    refine (congrArg (fun z => z * 512 + x.val) e1).trans ?_
    show 0 * 512 + x.val = x.val
    omega

theorem blk2_at (t : Fin (cfgA Ideal).N) (b : Fin 2) (i : Fin 16) (e : ∀ a : Fin 2, ((cfgA Ideal).win (2 : Fin 4)).indexMap (cr t) a = ![b.val * 16 + i.val, 0] a) (r : Fin 1024) (x : Fin 512) :
    (show S1024x512.Idx → EReal from blk m c 2 t) (ix2 r x) = packV m c (ix2 (rowOf b (tok i r)) x) := by
  have e0 : ((cfgA Ideal).win (2 : Fin 4)).index t (0 : Fin 2) = b.val * 16 + i.val := e 0
  have e1 : ((cfgA Ideal).win (2 : Fin 4)).index t (1 : Fin 2) = 0 := e 1
  unfold blk
  refine congrArg (packV m c) (funext fun (a : Fin 2) => Fin.ext ?_)
  blk_simp
  match a with
  | 0 =>
    refine (congrArg (fun z => z * 1024 + r.val) e0).trans ?_
    show (b.val * 16 + i.val) * 1024 + r.val = 16384 * b.val + (1024 * i.val + r.val)
    omega
  | 1 =>
    refine (congrArg (fun z => z * 512 + x.val) e1).trans ?_
    show 0 * 512 + x.val = x.val
    omega

theorem place (b : Fin 2) (i j : Fin 16) : PlaceOk ok_ideal b i j := by
  match b with
  | 0 => exact place_ideal0 i j
  | 1 => exact place_ideal1 i j

/-- A whole block's sums are the shares of its keys. -/
theorem below_of (q k v : S1024x512.Idx → EReal) (b : Fin 2) (i j : Fin 16)
    (hq : ∀ r x, q (ix2 r x) = packQ m c (ix2 (rowOf b (tok i r)) x)) (hk : ∀ r x, k (ix2 r x) = packK m c (ix2 (rowOf b (tok j r)) x))
    (hv : ∀ r x, v (ix2 r x) = packV m c (ix2 (rowOf b (tok j r)) x)) (y : S4x1024x128.Idx) :
    belowG q k v (accSum m c b i j.val) y = accSum m c b i (j.val + 1) y := by
  have hd : ∀ h r s, dotAt q k h r s = ∑ x : Fin 128, packQ m c (ix2 (rowOf b (tok i r)) (lane h x)) * packK m c (ix2 (rowOf b (tok j s)) (lane h x)) :=
    fun h r s => Finset.sum_congr rfl fun x _ => by rw [hq, hk]
  rw [accSum_succ]
  unfold belowG share
  exact congrArg (accSum m c b i j.val y + ·) (Finset.sum_congr rfl fun s _ => congrArg₂ (fun a b => Ideal.exp2 a * b) (hd _ _ _) (hv _ _))

theorem diag_of_block (q k v : S1024x512.Idx → EReal) (b : Fin 2) (i : Fin 16)
    (hq : ∀ r x, q (ix2 r x) = packQ m c (ix2 (rowOf b (tok i r)) x)) (hk : ∀ r x, k (ix2 r x) = packK m c (ix2 (rowOf b (tok i r)) x))
    (hv : ∀ r x, v (ix2 r x) = packV m c (ix2 (rowOf b (tok i r)) x)) (h : Fin 4) (r : Fin 1024) (l : Fin 128) :
    diagG q k v (accSum m c b i i.val) (ix3 h r l)
      = (∑ j : Fin 16, if j.val < i.val then ∑ s : Fin 1024, share m c b h (tok i r) l (tok j s) else 0)
        + ∑ s : Fin 1024, if s.val ≤ r.val then share m c b h (tok i r) l (tok i s) else 0 := by
  have hd : ∀ s, dotAt q k h r s = ∑ x : Fin 128, packQ m c (ix2 (rowOf b (tok i r)) (lane h x)) * packK m c (ix2 (rowOf b (tok i s)) (lane h x)) :=
    fun s => Finset.sum_congr rfl fun x _ => by rw [hq, hk]
  exact congrArg (accSum m c b i i.val (ix3 h r l) + ·)
    (Finset.sum_congr rfl fun s _ => if_congr Iff.rfl (congrArg₂ (fun a b => Ideal.exp2 a * b) (hd s) (hv _ _)) rfl)

/-- The sum over the keys a query may see, block by block. -/
theorem sum_blocks (f : Fin 16384 → EReal) (i : Fin 16) (r : Fin 1024) :
    (∑ j : Fin 16, if j.val < i.val then ∑ s : Fin 1024, f (tok j s) else 0) + (∑ s : Fin 1024, if s.val ≤ r.val then f (tok i s) else 0)
      = ∑ S : Fin 16384, if S.val ≤ (tok i r).val then f S else 0 := by
  have e : ∑ S : Fin 16384, (if S.val ≤ (tok i r).val then f S else 0) = ∑ j : Fin 16, ∑ s : Fin 1024, if (tok j s).val ≤ (tok i r).val then f (tok j s) else 0 := by
    rw [← Fintype.sum_prod_type']
    refine (Fintype.sum_equiv (finProdFinEquiv (m := 16) (n := 1024)) _ _ fun p => ?_).symm
    have : finProdFinEquiv p = tok p.1 p.2 := Fin.ext (by show p.2.val + 1024 * p.1.val = 1024 * p.1.val + p.2.val; omega)
    rw [this]
  rw [e]
  have e' : ∀ j : Fin 16, (∑ s : Fin 1024, if (tok j s).val ≤ (tok i r).val then f (tok j s) else 0)
      = (if j.val < i.val then ∑ s : Fin 1024, f (tok j s) else 0) + (if j = i then ∑ s : Fin 1024, (if s.val ≤ r.val then f (tok j s) else 0) else 0) := fun j => by
    rcases lt_trichotomy j.val i.val with g | g | g
    · rw [if_pos g, if_neg (fun e => by rw [e] at g; omega), add_zero]
      exact Finset.sum_congr rfl fun s _ => if_pos (by show 1024 * j.val + s.val ≤ 1024 * i.val + r.val; omega)
    · obtain rfl := Fin.ext g
      rw [if_neg (by omega), if_pos rfl, zero_add]
      refine Finset.sum_congr rfl fun s _ => if_congr ?_ rfl rfl
      show 1024 * j.val + s.val ≤ 1024 * j.val + r.val ↔ _
      omega
    · rw [if_neg (by omega), if_neg (fun e => by rw [e] at g; omega), add_zero]
      exact Finset.sum_eq_zero fun s _ => if_neg (by show ¬(1024 * j.val + s.val ≤ 1024 * i.val + r.val); omega)
  rw [Finset.sum_congr rfl fun j _ => e' j, Finset.sum_add_distrib, Finset.sum_ite_eq' Finset.univ i, if_pos (Finset.mem_univ _)]

/-- Before a later point of a query block's run the accumulator is the sum over the key blocks read so far. -/
theorem acc_step (b : Fin 2) (i j : Fin 16) (hj : j.val < i.val) (ih : j.val ≠ 0 → accAt m c (posOf b i j.val) = accSum m c b i j.val) :
    accAt m c (posOf b i (j.val + 1)) = accSum m c b i (j.val + 1) := by
  obtain ⟨ht, hF, hB, h0, h1, h2, h3⟩ := place b i j (by omega)
  refine (accAt_succ m c ⟨posOf b i j.val, ht⟩).trans ?_
  have hb : Below (F := Ideal) ⟨posOf b i j.val, ht⟩ := hB.mpr hj
  unfold accStep
  by_cases z : j.val = 0
  · have hf : First (F := Ideal) ⟨posOf b i j.val, ht⟩ := hF.mpr z
    rw [dif_pos hf, dif_pos hb]
    funext y
    refine (stepB c _ _ _ _ _ _ _ _ _ TI TJ _ _ _ hf hb (not_diag_of hb) y).trans ?_
    rw [← accSum_zero m c b i, ← z]
    exact below_of m c _ _ _ b i j (blk0_at m c _ b i h0) (blk1_at m c _ b j h1) (blk2_at m c _ b j h2) y
  · have hf : ¬First (F := Ideal) ⟨posOf b i j.val, ht⟩ := fun g => z (hF.mp g)
    rw [dif_neg hf, dif_pos hb]
    funext y
    refine (stepD c _ _ _ _ _ _ _ _ _ TI TJ _ _ _ _ hf hb (not_diag_of hb) y).trans ?_
    rw [show accAt m c (⟨posOf b i j.val, ht⟩ : Fin (cfgA Ideal).N).val = accSum m c b i j.val from ih z]
    exact below_of m c _ _ _ b i j (blk0_at m c _ b i h0) (blk1_at m c _ b j h1) (blk2_at m c _ b j h2) y

theorem acc_at (b : Fin 2) (i : Fin 16) : ∀ j : ℕ, j ≤ i.val → j ≠ 0 → accAt m c (posOf b i j) = accSum m c b i j
  | 0, _, h => absurd rfl h
  | j + 1, hj, _ => acc_step m c b i ⟨j, by omega⟩ hj fun z => acc_at b i j (by omega) z

/-- What the diagonal point of a query block leaves in the output block. -/
theorem out_at (b : Fin 2) (i : Fin 16) (ht : posOf b i i.val < (cfgA Ideal).N) (r : Fin 1024) (h : Fin 4) (d : Fin 64) (col : Fin 256) (hc : col.val = 64 * h.val + d.val) :
    (show S1024x256.Idx → EReal from outAt m c ⟨posOf b i i.val, ht⟩) (ix2 r col)
      = Ideal.div (∑ S : Fin 16384, if S.val ≤ (tok i r).val then share m c b h (tok i r) ⟨d.val, by omega⟩ S else 0)
          (∑ S : Fin 16384, if S.val ≤ (tok i r).val then share m c b h (tok i r) 64 S else 0) := by
  obtain ⟨ht', hF, hB, h0, h1, h2, h3⟩ := place b i i le_rfl
  have hb : ¬Below (F := Ideal) ⟨posOf b i i.val, ht⟩ := fun g => absurd (hB.mp g) (lt_irrefl _)
  have main : (show S1024x256.Idx → EReal from outAt m c ⟨posOf b i i.val, ht⟩) (ix2 r col)
      = outG (diagG (blk m c 0 ⟨posOf b i i.val, ht⟩) (blk m c 1 ⟨posOf b i i.val, ht⟩) (blk m c 2 ⟨posOf b i i.val, ht⟩) (accSum m c b i i.val)) (ix2 r col) := by
    unfold outAt
    rw [dif_neg hb]
    refine (View.read_writes_junk_apply_eq_canon _ _ _).trans ?_
    unfold outPieces
    by_cases z : i.val = 0
    · have hf : First (F := Ideal) ⟨posOf b i i.val, ht⟩ := hF.mpr z
      rw [dif_pos hf, runA_out, show accSum m c b i i.val = fun _ => 0 from (congrArg (accSum m c b i) z).trans (accSum_zero m c b i)]
      exact out_A _ _ _ _ _ _ _
    · have hf : ¬First (F := Ideal) ⟨posOf b i i.val, ht⟩ := fun g => z (hF.mp g)
      rw [dif_neg hf, runC_out]
      refine (out_C c _ _ _ _ _ _ _ _).trans ?_
      rw [show accAt m c (⟨posOf b i i.val, ht⟩ : Fin (cfgA Ideal).N).val = accSum m c b i i.val from acc_at m c b i i.val le_rfl z]
  rw [main, outG_apply _ r h d col hc,
    diag_of_block m c _ _ _ b i (blk0_at m c _ b i h0) (blk1_at m c _ b i h1) (blk2_at m c _ b i h2),
    diag_of_block m c _ _ _ b i (blk0_at m c _ b i h0) (blk1_at m c _ b i h1) (blk2_at m c _ b i h2),
    sum_blocks (fun S => share m c b h (tok i r) ⟨d.val, by omega⟩ S), sum_blocks (fun S => share m c b h (tok i r) 64 S)]

end Cert.KernelIdeal.Attn

end
-- ==== Proof.RefValue.lean ====
/- The reference's result at an index. -/
module

public import proofs.«01_k».proof.Proof.RefRun
public import proofs.«01_k».proof.Proof.Softmax
public import Idealize.ShloMosaic.PureOps.Reduce
public import Idealize.ShloMosaic.PureOps.Ideal.Laws
public import Idealize.ShloMosaic.Lib.Pointwise
public import Idealize.ShloMosaic.PureOps.Ideal

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem

/-- A score: the product of the query and the key, scaled. -/
def tReal (q k : S2x16384x4x96.Idx → ℝ) (b : Fin 2) (h : Fin 4) (r s : Fin 16384) : ℝ :=
  (∑ x : Fin 96, q (ix4 b r h x) * k (ix4 b s h x)) * Softmax.scale

theorem scores_apply (q k : FVec Ideal S2x16384x4x96 .f32) (qr kr : S2x16384x4x96.Idx → ℝ) (hq : ∀ i, q i = (qr i : EReal)) (hk : ∀ i, k i = (kr i : EReal))
    (b : Fin 2) (h : Fin 4) (r s : Fin 16384) :
    (scores q k (ix4 b h r s) : EReal) = if s.val ≤ r.val then (tReal qr kr b h r s : EReal) else ⊥ := by
  unfold scores
  pointwise
  simp only [hq, hk]
  rw [Softmax.sle_iff, Softmax.sum_mul_coe, Softmax.scale_eq, Softmax.neg_inf, ← EReal.coe_mul]
  by_cases hs : s.val ≤ r.val
  · rw [if_pos hs, if_pos hs]; rfl
  · rw [if_neg hs, if_neg hs]; rfl

/-- Each row's largest score. -/
def rowMax (w : FVec Ideal S2x4x16384x16384 .f32) : FVec Ideal S2x4x16384 .f32 :=
  Host.reduce FloatOps.maximumf w (constant S_ .f32 0xFF800000#32) reducesTo_S2x4x16384x16384_S2x4x16384_d3 h_S_

theorem weights_at (w : FVec Ideal S2x4x16384x16384 .f32) (M : FVec Ideal S2x4x16384 .f32) (b : Fin 2) (h : Fin 4) (r s : Fin 16384) :
    (Host.exp (F := Ideal) (subf w (broadcastInDim S2x4x16384x16384 ![0, 1, 2, 3] bcast_S2x4x16384x1_S2x4x16384x16384_0_1_2_3
    (broadcastInDim S2x4x16384x1 ![0, 1, 2] bcast_S2x4x16384_S2x4x16384x1_0_1_2
      (maximumf (broadcastInDim S2x4x16384 ![] bcast_S_S2x4x16384 (constant S_ .f32 0xFF800000#32)) M)))) (ix4 b h r s) : EReal) = Ideal.exp (w (ix4 b h r s) - max ⊥ (M (ix3 b h r))) := by
  pointwise
  rw [Softmax.neg_inf]

theorem weights_apply (w : FVec Ideal S2x4x16384x16384 .f32) (b : Fin 2) (h : Fin 4) (r s : Fin 16384) :
    (weights w (ix4 b h r s) : EReal) = Ideal.exp (w (ix4 b h r s) - max ⊥ (rowMax w (ix3 b h r))) := by
  unfold weights rowMax
  exact weights_at w _ b h r s

theorem drop_row (b : Fin 2) (h : Fin 4) (r s : Fin 16384) : (reducesTo_S2x4x16384x16384_S2x4x16384_d3).drop (ix4 b h r s) = (ix3 b h r : S2x4x16384.Idx) := by
  funext a; apply Fin.ext
  fin_cases a <;> rfl

theorem fold_row (w : S2x4x16384x16384.Idx → EReal) (x : S_.Idx → EReal) (hx : ∀ i, x i = ⊥) (b : Fin 2) (h : Fin 4) (r : Fin 16384) (h1 : ∀ i, w i ≠ ⊤) (h2 : w (ix4 b h r 0) ≠ ⊥) :
    ∃ M : ℝ, Host.reduce (max : EReal → EReal → EReal) w x reducesTo_S2x4x16384x16384_S2x4x16384_d3 h_S_ (ix3 b h r) = (M : EReal) := by
  rw [Host.reduce_eq_fold, hx]
  refine Softmax.fold_max_real _ _ (fun i _ => h1 i) ⟨ix4 b h r 0, ?_, h2⟩
  rw [Finset.mem_filter]
  exact ⟨Finset.mem_univ _, drop_row b h r 0⟩

theorem rowMax_real (w : FVec Ideal S2x4x16384x16384 .f32) (b : Fin 2) (h : Fin 4) (r : Fin 16384) (h1 : ∀ i, w i ≠ (⊤ : EReal)) (h2 : w (ix4 b h r 0) ≠ (⊥ : EReal)) :
    ∃ M : ℝ, (rowMax w (ix3 b h r) : EReal) = (M : EReal) := by
  unfold rowMax
  exact fold_row w _ (fun i => Softmax.neg_inf) b h r h1 h2

theorem shares_apply (w : FVec Ideal S2x4x16384x16384 .f32) (b : Fin 2) (h : Fin 4) (r s : Fin 16384) :
    (shares w (ix4 b h r s) : EReal) = Ideal.div (w (ix4 b h r s)) (∑ x, w (ix4 b h r x)) := by
  unfold shares
  pointwise

theorem result_apply (q k : FVec Ideal S2x16384x4x96 .f32) (v : FVec Ideal S2x16384x4x64 .f32) (n : Fin 32768) (col : Fin 256) :
    (result q k v (ix2 n col) : EReal) = ∑ x : Fin 16384, v (ix4 (⟨n.val / 16384, by omega⟩ : Fin 2) x (⟨col.val / 64, by omega⟩ : Fin 4) (⟨col.val % 64, by omega⟩ : Fin 64)) *
        shares (weights (scores q k)) (ix4 (⟨n.val / 16384, by omega⟩ : Fin 2) (⟨col.val / 64, by omega⟩ : Fin 4) (⟨n.val % 16384, by omega⟩ : Fin 16384) x) := by
  unfold result
  pointwise

/-- The result's entry: the mean of the values under the weights `e^{t − M}` of the keys up to the query. -/
theorem result_mean (q k : FVec Ideal S2x16384x4x96 .f32) (v : FVec Ideal S2x16384x4x64 .f32) (qr kr : S2x16384x4x96.Idx → ℝ)
    (hq : ∀ i, q i = (qr i : EReal)) (hk : ∀ i, k i = (kr i : EReal)) (n : Fin 32768) (col : Fin 256)
    (b : Fin 2) (r : Fin 16384) (h : Fin 4) (d : Fin 64) (hn : n.val = 16384 * b.val + r.val) (hcol : col.val = 64 * h.val + d.val) : ∃ M : ℝ,
    (result q k v (ix2 n col) : EReal) = ∑ s : Fin 16384, v (ix4 b s h d) *
      Ideal.div (if s.val ≤ r.val then ((Real.exp (tReal qr kr b h r s - M) : ℝ) : EReal) else 0)
        (∑ s' : Fin 16384, if s'.val ≤ r.val then ((Real.exp (tReal qr kr b h r s' - M) : ℝ) : EReal) else 0) := by
  have hb : (⟨n.val / 16384, by omega⟩ : Fin 2) = b := Fin.ext (by show n.val / 16384 = b.val; omega)
  have hr : (⟨n.val % 16384, by omega⟩ : Fin 16384) = r := Fin.ext (by show n.val % 16384 = r.val; omega)
  have hh : (⟨col.val / 64, by omega⟩ : Fin 4) = h := Fin.ext (by show col.val / 64 = h.val; omega)
  have hd : (⟨col.val % 64, by omega⟩ : Fin 64) = d := Fin.ext (by show col.val % 64 = d.val; omega)
  obtain ⟨M, hM⟩ := rowMax_real (scores q k) b h r
    (fun i => by
      obtain ⟨a0, a1, a2, a3, rfl⟩ : ∃ (a0 : Fin 2) (a1 : Fin 4) (a2 a3 : Fin 16384), i = (ix4 a0 a1 a2 a3 : S2x4x16384x16384.Idx) := ⟨i 0, i 1, i 2, i 3, by rw [eq_ix4 i]; idx_ext⟩
      rw [scores_apply q k qr kr hq hk]
      split
      · exact EReal.coe_ne_top _
      · exact bot_ne_top)
    (by rw [scores_apply q k qr kr hq hk, if_pos (show (0 : Fin 16384).val ≤ r.val from Nat.zero_le _)]; exact EReal.coe_ne_bot _)
  refine ⟨M, ?_⟩
  have hw (s : Fin 16384) : (weights (scores q k) (ix4 b h r s) : EReal) = if s.val ≤ r.val then ((Real.exp (tReal qr kr b h r s - M) : ℝ) : EReal) else 0 := by
    rw [weights_apply, hM, scores_apply q k qr kr hq hk, max_eq_right bot_le]
    split
    · rw [← EReal.coe_sub]; rfl
    · rw [EReal.bot_sub]; rfl
  rw [result_apply, hb, hr, hh, hd]
  refine Finset.sum_congr rfl fun s _ => ?_
  rw [shares_apply, hw, Finset.sum_congr rfl fun s' _ => hw s']

end Cert.ReferenceIdeal.Attn

end
-- ==== Proof.FlashValue.lean ====
/- The attention call's result is the reference's: real scores, the two normalizations, block by block. -/
module

public import proofs.«01_k».proof.Proof.FlashAcc
public import proofs.«01_k».proof.Proof.FlashRun
public import proofs.«01_k».proof.Proof.RefValue
public import proofs.«01_k».proof.Proof.Gen.Pre_finite
public import Idealize.ShloMosaic.Lib.ReduceAll
public import Idealize.ShloMosaic.Lib.Pipeline.ValueKit
public import proofs.«01_k».proof.Proof.FlashFrame
public import proofs.«01_k».proof.Proof.FlashStep
public import proofs.«01_k».proof.Proof.Softmax
public import Idealize.ShloMosaic.Lib.Pointwise
public import Idealize.ShloMosaic.PureOps.Ideal

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-! ## The precondition's numbers are real -/

theorem real_of_finite (x : EReal) (h : Ideal.cmp .olt (max x (-x)) (Ideal.ofBits .f32 0x7F800000#32) = 1#1) : ∃ y : ℝ, x = (y : EReal) := by
  have ht : Ideal.ofBits .f32 0x7F800000#32 = ⊤ := by simp [Ideal.ofBits, Ideal.ieee]
  rw [ht] at h
  have hx : max x (-x) < ⊤ := by
    by_contra g
    have : Ideal.cmp .olt (max x (-x)) ⊤ = 0#1 := by
      show BitVec.ofBool (decide (max x (-x) < ⊤)) = 0#1
      rw [decide_eq_false g]; rfl
    rw [this] at h
    exact absurd h (by decide)
  induction x using EReal.rec with
  | bot => exact absurd hx (by simp)
  | top => exact absurd hx (by simp)
  | coe y => exact ⟨y, rfl⟩

instance : Subsingleton Cert.Pre_finite.S_.Idx := ⟨fun a b => funext fun k => k.elim0⟩

theorem reals [Cert.Pre_finite.Facts] (q k : FVec Ideal S2x16384x4x96 .f32) (v : FVec Ideal S2x16384x4x64 .f32) (gq gk : FVec Ideal S96 .f32)
    (h : Cert.Pre_finite.fn (F := Ideal) q k v gq gk = fun _ => 1#1) :
    (∀ i, ∃ x : ℝ, (q i : EReal) = x) ∧ (∀ i, ∃ x : ℝ, (k i : EReal) = x) ∧ (∀ i, ∃ x : ℝ, (gq i : EReal) = x) ∧ (∀ i, ∃ x : ℝ, (gk i : EReal) = x) := by
  have e := congrFun h (fun a => a.elim0)
  unfold Cert.Pre_finite.fn Cert.Pre_finite.fn_part1 at e
  dsimp only at e
  obtain ⟨e, e4⟩ := IntOp.andi_eq_one.1 e
  obtain ⟨e, e3⟩ := IntOp.andi_eq_one.1 e
  obtain ⟨e1, e2⟩ := IntOp.andi_eq_one.1 e
  exact ⟨fun i => real_of_finite _ (Host.reduce_andi_all _ _ _ _ _ e1 i), fun i => real_of_finite _ (Host.reduce_andi_all _ _ _ _ _ e2 i),
    fun i => real_of_finite _ (Host.reduce_andi_all _ _ _ _ _ e3 i), fun i => real_of_finite _ (Host.reduce_andi_all _ _ _ _ _ e4 i)⟩

theorem fold_abs_real (g : S96.Idx → EReal) (h : ∀ i, ∃ x : ℝ, g i = x) :
    ∃ M : ℝ, Finset.fold max (Ideal.ofBits FTy.f32 0xFF800000#32) (fun k : Fin 96 => FloatOps.absf (F := Ideal) (φ := .f32) (g (ix1 k))) Finset.univ = (M : EReal) := by
  rw [Softmax.neg_inf]
  have ha : ∀ k : Fin 96, ∃ x : ℝ, (max (g (ix1 k)) (-(g (ix1 k))) : EReal) = x := fun k => by
    obtain ⟨x, hx⟩ := h (ix1 k)
    exact ⟨max x (-x), by rw [hx, ← EReal.coe_neg]; exact (EReal.coe_strictMono.monotone.map_max).symm⟩
  exact Softmax.fold_max_real Finset.univ (fun k : Fin 96 => (max (g (ix1 k)) (-(g (ix1 k))) : EReal))
    (fun k _ => by obtain ⟨x, hx⟩ := ha k; rw [hx]; exact EReal.coe_ne_top x)
    ⟨0, Finset.mem_univ _, by obtain ⟨x, hx⟩ := ha 0; rw [hx]; exact EReal.coe_ne_bot x⟩

/-- The bound on the scores is a real number. -/
theorem bound_real (gq gk : S96.Idx → EReal) (h1 : ∀ i, ∃ x : ℝ, gq i = x) (h2 : ∀ i, ∃ x : ℝ, gk i = x) : ∃ B : ℝ, bound gq gk = (B : EReal) := by
  obtain ⟨w, hw⟩ := Softmax.ofBits_real 0x41622ADF#32 (by decide)
  obtain ⟨a, ha⟩ := fold_abs_real gq h1
  obtain ⟨b, hb⟩ := fold_abs_real gk h2
  exact ⟨w * a * b, by unfold bound; rw [hw, ha, hb, EReal.coe_mul, EReal.coe_mul]⟩

/-! ## A score in the packed arrays -/

/-- The factor on the queries: the scale over the logarithm of two. -/
theorem factor : Ideal.div (Ideal.ofBits FTy.f32 0x3DD105EC#32) (Ideal.log (Ideal.ofBits FTy.f32 0x40000000#32)) = ((Softmax.scale * (Real.log 2)⁻¹ : ℝ) : EReal) := by
  have hl : Real.log 2 ≠ 0 := (Real.log_pos (by norm_num)).ne'
  rw [Softmax.scale_eq, Softmax.two_eq, show Ideal.log ((2 : ℝ) : EReal) = ((Real.log 2 : ℝ) : EReal) from if_neg (by norm_num), Ideal.div_coe hl, EReal.coe_mul, one_div]

/-- A sum over the lanes: the 96 of the head, the lane after them, and zeros. -/
theorem sum_lanes (f : Fin 128 → ℝ) (h : ∀ x : Fin 128, 96 < x.val → f x = 0) : ∑ x, f x = (∑ x : Fin 96, f ⟨x.val, by omega⟩) + f 96 := by
  refine (Fin.sum_univ_add (a := 96) (b := 32) f).trans (congrArg₂ (· + ·) rfl ?_)
  rw [Fin.sum_univ_succ]
  rw [Finset.sum_eq_zero fun x _ => h _ (by show 96 < 96 + (x.val + 1); omega), add_zero]
  rfl

variable (qr kr : S2x16384x4x96.Idx → ℝ) (B : ℝ)

theorem dot_real (hq : ∀ i, argQ m c i = (qr i : EReal)) (hk : ∀ i, argK m c i = (kr i : EReal)) (hB : bound (argGQ m c) (argGK m c) = (B : EReal))
    (b : Fin 2) (h : Fin 4) (R S : Fin 16384) :
    (∑ x : Fin 128, packQ m c (ix2 (rowOf b R) (lane h x)) * packK m c (ix2 (rowOf b S) (lane h x)))
      = ((Cert.ReferenceIdeal.Attn.tReal qr kr b h R S / Real.log 2 - B : ℝ) : EReal) := by
  have e1 : ∀ x : Fin 128, packQ m c (ix2 (rowOf b R) (lane h x))
      = (((if hl : x.val < 96 then qr (ix4 b R h ⟨x.val, hl⟩) * (Softmax.scale * (Real.log 2)⁻¹) else if x = 96 then 1 else 0 : ℝ)) : EReal) := fun x => by
    refine (packed_q m c b R h x).trans ?_
    rw [factor]
    by_cases hl : x.val < 96
    · rw [dif_pos hl, dif_pos hl, hq, EReal.coe_mul, EReal.coe_mul, EReal.coe_mul]
    · rw [dif_neg hl, dif_neg hl]; split <;> simp
  have e2 : ∀ x : Fin 128, packK m c (ix2 (rowOf b S) (lane h x))
      = (((if hl : x.val < 96 then kr (ix4 b S h ⟨x.val, hl⟩) else if x = 96 then -B else 0 : ℝ)) : EReal) := fun x => by
    refine (packed_k m c b S h x).trans ?_
    rw [hB]
    by_cases hl : x.val < 96
    · rw [dif_pos hl, dif_pos hl, hk]
    · rw [dif_neg hl, dif_neg hl]; split <;> simp
  rw [Finset.sum_congr rfl fun x _ => congrArg₂ (· * ·) (e1 x) (e2 x), Softmax.sum_mul_coe]
  refine congrArg (fun z : ℝ => (z : EReal)) ?_
  rw [sum_lanes _ fun x hx => by
    rw [dif_neg (by omega), if_neg (fun e => by rw [e] at hx; exact absurd hx (by decide)), zero_mul]]
  rw [dif_neg (by decide), dif_neg (by decide), if_pos rfl, if_pos rfl]
  unfold Cert.ReferenceIdeal.Attn.tReal
  rw [Finset.sum_congr rfl fun x _ => congrArg₂ (· * ·) (dif_pos x.isLt) (dif_pos x.isLt), Finset.sum_mul, Finset.sum_div, sub_eq_add_neg]
  refine congrArg₂ (· + ·) (Finset.sum_congr rfl fun x _ => ?_) (one_mul _)
  show qr (ix4 b R h x) * (Softmax.scale * (Real.log 2)⁻¹) * kr (ix4 b S h x) = qr (ix4 b R h x) * kr (ix4 b S h x) * Softmax.scale / Real.log 2
  ring

theorem share_eq_lane (hq : ∀ i, argQ m c i = (qr i : EReal)) (hk : ∀ i, argK m c i = (kr i : EReal)) (hB : bound (argGQ m c) (argGK m c) = (B : EReal))
    (b : Fin 2) (h : Fin 4) (R : Fin 16384) (d : Fin 64) (S : Fin 16384) :
    share m c b h R ⟨d.val, by omega⟩ S = ((Real.exp (Cert.ReferenceIdeal.Attn.tReal qr kr b h R S) * (2 : ℝ) ^ (-B) : ℝ) : EReal) * argV m c (ix4 b S h d) := by
  unfold share
  rw [dot_real m c qr kr B hq hk hB, Softmax.exp2_scaled]
  exact congrArg _ ((packed_v m c b S h _).trans (dif_pos d.isLt))

theorem share_eq_one (hq : ∀ i, argQ m c i = (qr i : EReal)) (hk : ∀ i, argK m c i = (kr i : EReal)) (hB : bound (argGQ m c) (argGK m c) = (B : EReal))
    (b : Fin 2) (h : Fin 4) (R : Fin 16384) (S : Fin 16384) :
    share m c b h R 64 S = ((Real.exp (Cert.ReferenceIdeal.Attn.tReal qr kr b h R S) * (2 : ℝ) ^ (-B) : ℝ) : EReal) * 1 := by
  unfold share
  rw [dot_real m c qr kr B hq hk hB, Softmax.exp2_scaled]
  exact congrArg _ ((packed_v m c b S h _).trans ((dif_neg (by decide)).trans (if_pos rfl)))

/-! ## The result -/

/-- A flushed point is the diagonal of some query block. -/
theorem flush_of : ∀ t : Fin (cfgOf ok_ideal).N, ((cfgOf ok_ideal).win (3 : Fin 4)).flush t = true → ∃ b : Fin 2, ∃ i : Fin 16, t.val = posOf b i i.val := by decide +kernel

theorem out_eq (hq : ∀ i, argQ m c i = (qr i : EReal)) (hk : ∀ i, argK m c i = (kr i : EReal)) (hB : bound (argGQ m c) (argGK m c) = (B : EReal))
    (b : Fin 2) (i : Fin 16) (ht : posOf b i i.val < (cfgA Ideal).N) (r : Fin 1024) (col : Fin 256) :
    (show S1024x256.Idx → EReal from outAt m c ⟨posOf b i i.val, ht⟩) (ix2 r col)
      = Cert.ReferenceIdeal.Attn.result (argQ m c) (argK m c) (argV m c) (ix2 (rowOf b (tok i r)) col) := by
  have hc : col.val = 64 * (⟨col.val / 64, by omega⟩ : Fin 4).val + (⟨col.val % 64, by omega⟩ : Fin 64).val := by show col.val = 64 * (col.val / 64) + col.val % 64; omega
  obtain ⟨M, hM⟩ := Cert.ReferenceIdeal.Attn.result_mean (argQ m c) (argK m c) (argV m c) qr kr hq hk (rowOf b (tok i r)) col b (tok i r) _ _ rfl hc
  rw [out_at m c b i ht r _ _ col hc]
  refine Eq.trans ?_ hM.symm
  rw [Finset.sum_congr rfl fun S _ => if_congr Iff.rfl (share_eq_lane m c qr kr B hq hk hB b _ (tok i r) _ S) rfl,
    Finset.sum_congr rfl fun S _ => if_congr Iff.rfl (share_eq_one m c qr kr B hq hk hB b _ (tok i r) S) rfl]
  exact Softmax.mean_eq (fun S : Fin 16384 => S.val ≤ (tok i r).val) (fun S => Cert.ReferenceIdeal.Attn.tReal qr kr b _ (tok i r) S) ((2 : ℝ) ^ (-B)) M
    (Real.rpow_pos_of_pos (by norm_num) _) (fun S => argV m c (ix4 b S _ _)) ⟨tok i r, le_rfl⟩

theorem final (hq : ∀ i, argQ m c i = (qr i : EReal)) (hk : ∀ i, argK m c i = (kr i : EReal)) (hB : bound (argGQ m c) (argGK m c) = (B : EReal)) :
    (dats m 0 c).arrAt (3 : Fin 4) (cfgA Ideal).N = Cert.ReferenceIdeal.Attn.result (argQ m c) (argK m c) (argV m c) := by
  refine (dats m 0 c).arrAt_eq_of_covers (3 : Fin 4) _ (by decide +kernel) fun t hf y => ?_
  obtain ⟨b, i, e⟩ := flush_of t hf
  have ht : posOf b i i.val < (cfgA Ideal).N := e ▸ t.isLt
  obtain rfl : t = ⟨posOf b i i.val, ht⟩ := Fin.ext e
  obtain ⟨ht', hF, hB', h0, h1, h2, h3⟩ := place b i i le_rfl
  obtain ⟨r, col, rfl⟩ : ∃ (r : Fin 1024) (col : Fin 256), y = (ix2 r col : S1024x256.Idx) := ⟨y 0, y 1, by rw [eq_ix2 y]; idx_ext⟩
  blk_simp
  rw [after_3]
  refine (out_eq m c qr kr B hq hk hB b i ht r col).trans ?_
  refine congrArg (Cert.ReferenceIdeal.Attn.result (argQ m c) (argK m c) (argV m c)) ?_
  have e0 : ((cfgA Ideal).win (3 : Fin 4)).index ⟨posOf b i i.val, ht⟩ (0 : Fin 2) = b.val * 16 + i.val := h3 0
  have e1 : ((cfgA Ideal).win (3 : Fin 4)).index ⟨posOf b i i.val, ht⟩ (1 : Fin 2) = 0 := h3 1
  refine (funext fun (a : Fin 2) => Fin.ext ?_)
  blk_simp
  match a with
  | 0 =>
    refine Eq.trans ?_ (congrArg (fun z => z * 1024 + r.val) e0).symm
    show 16384 * b.val + (1024 * i.val + r.val) = (b.val * 16 + i.val) * 1024 + r.val
    omega
  | 1 =>
    refine Eq.trans ?_ (congrArg (fun z => z * 256 + col.val) e1).symm
    show col.val = 0 * 256 + col.val
    omega

/-- From inputs with finite queries, keys and gains, kernel and reference end with the same array. -/
theorem algebraic : Cert.algebraic_KernelIdeal_ReferenceIdeal_pre_finite (hPre_finite := Cert.Pre_finite.Gen.facts) := fun m g m' g' hpre hag => by
  haveI := Cert.Pre_finite.Gen.facts
  refine ⟨fun c => Cert.ReferenceIdeal.Attn.result (argQ m c) (argK m c) (argV m c), ?_, ?_⟩
  · refine (θ_run Cert.KernelIdeal.defs _ _).mono (fun _ h c => ⟨?_, (h.1 c).2⟩) (run_main (F := Ideal) m g)
    obtain ⟨hq, hk, h1, h2⟩ := reals _ _ _ _ _ (hpre c)
    choose qr hq using hq
    choose kr hk using hk
    obtain ⟨B, hB⟩ := bound_real _ _ h1 h2
    exact (h.1 c).1.trans (final m c qr kr B hq hk hB)
  · refine (θ_run Cert.ReferenceIdeal.defs _ _).mono (fun _ h c => ⟨?_, (h c).2⟩) (Cert.ReferenceIdeal.Attn.run_main m' g')
    obtain ⟨h0, h1, h2, -, -⟩ := hag c
    refine (h c).1.trans ?_
    rw [h0, h1, h2]

end Cert.KernelIdeal.Attn

end
-- ==== Proof.lean ====
/- The proof of the claim: the frames of the programs, and that each call and its reference agree. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.FfnRef
public import proofs.«01_k».proof.Proof.FfnValue
public import proofs.«01_k».proof.Proof.InprojRef
public import proofs.«01_k».proof.Proof.HeadValue
public import proofs.«01_k».proof.Proof.BitsRun
public import proofs.«01_k».proof.Proof.FlashRun
public import proofs.«01_k».proof.Proof.RefRun
public import proofs.«01_k».proof.Proof.FlashValue

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts,
    Cert.Kernel.Attn.frame, Cert.KernelIdeal.Attn.frame, Cert.KernelIdeal.Attn.frame_pre, Cert.ReferenceIdeal.Attn.frame, Cert.ReferenceIdeal.Attn.frame_pre,
    fun m g _ => Cert.Kernel2.Gen.frame m g, fun m g _ => Cert.Kernel2Ideal.Gen.frame m g, Cert.Reference2Ideal.Ffn.frame,
    fun m g _ => Cert.Kernel3.Gen.frame m g, fun m g _ => Cert.Kernel3Ideal.Gen.frame m g, Cert.Reference3Ideal.Proj.frame,
    trivial, Cert.KernelIdeal.Attn.algebraic, trivial, Cert.Kernel2Ideal.Ffn.algebraic,
    Idealize.ShloMosaic.IdealRules.named_const.statement Cert.Kernel3Ideal.κ "inv_head" .f32 0x3C2AAAAB#32 ((1 / 96 : ℝ) : EReal) rfl, Cert.Kernel3Ideal.Proj.algebraic⟩

end Cert.Proof

end
